-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_entries_finite [hPre_entries_finite : Cert.Pre_entries_finite.Facts] (m : (ℓ : Loc Cert.KernelIdeal.nD Cert.KernelIdeal.τ Cert.KernelIdeal.sig) → Buf (Elt Ideal) ℓ) : Prop :=
  ∀ c : Dev Cert.KernelIdeal.nD,
    (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_entries_finite [hPre_entries_finite : Cert.Pre_entries_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_entries_finite [hKernelIdeal : Cert.KernelIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_entries_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_entries_finite [hReferenceIdeal : Cert.ReferenceIdeal.Facts] [hPre_entries_finite : Cert.Pre_entries_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_entries_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_entries_finite [hKernelIdeal : Cert.KernelIdeal.Facts] [hReferenceIdeal : Cert.ReferenceIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_entries_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_entries_finite : Cert.Pre_entries_finite.Facts),
    quiescent_Kernel (hKernel := hKernel)
    ∧ quiescent_KernelIdeal (hKernelIdeal := hKernelIdeal)
    ∧ quiescent_KernelIdeal_pre_entries_finite (hKernelIdeal := hKernelIdeal) (hPre_entries_finite := hPre_entries_finite)
    ∧ quiescent_ReferenceIdeal (hReferenceIdeal := hReferenceIdeal)
    ∧ quiescent_ReferenceIdeal_pre_entries_finite (hReferenceIdeal := hReferenceIdeal) (hPre_entries_finite := hPre_entries_finite)
    ∧ preserves_Kernel_KernelIdeal
    ∧ algebraic_KernelIdeal_ReferenceIdeal_pre_entries_finite (hKernelIdeal := hKernelIdeal) (hReferenceIdeal := hReferenceIdeal) (hPre_entries_finite := hPre_entries_finite)
-- ==== Pre_entries_finite.lean ====
abbrev S4096x16 : Shape := ⟨2, ![4096, 16]⟩
abbrev S4096x4096 : Shape := ⟨2, ![4096, 4096]⟩
abbrev S16x16x5 : Shape := ⟨3, ![16, 16, 5]⟩
abbrev S16x16 : Shape := ⟨2, ![16, 16]⟩
abbrev S16 : Shape := ⟨1, ![16]⟩
abbrev S_ : Shape := ⟨0, ![]⟩

class Facts : Prop where
  bcast_S_S4096x16 : S_.BroadcastsInDim S4096x16 (![] : Fin 0 → Fin S4096x16.rank)
  bcast_S_S4096x4096 : S_.BroadcastsInDim S4096x4096 (![] : Fin 0 → Fin S4096x4096.rank)
  bcast_S_S16x16x5 : S_.BroadcastsInDim S16x16x5 (![] : Fin 0 → Fin S16x16x5.rank)
  bcast_S_S16x16 : S_.BroadcastsInDim S16x16 (![] : Fin 0 → Fin S16x16.rank)

variable [Facts]

def fn {F : FTy → Type} [FloatOps F] (main_arg0 : FVec F S4096x16 .f32) (main_arg1 : FVec F S4096x4096 .f32) (main_arg2 : FVec F S4096x4096 .f32) (main_arg3 : FVec F S16x16x5 .f32) (main_arg4 : FVec F S16x16x5 .f32) (main_arg5 : FVec F S16x16 .f32) (main_arg6 : FVec F S16 .f32) : IVec S4096x16 1 × IVec S4096x4096 1 × IVec S4096x4096 1 × IVec S16x16x5 1 × IVec S16x16x5 1 × IVec S16x16 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S4096x4096 .f32 := Host.absf main_arg2
  let main_cst_1 : FVec F S_ .f32 := constant S_ .f32 0x7F800000#32
  let main_v7 : FVec F S4096x4096 .f32 := broadcastInDim S4096x4096 ![] bcast_S_S4096x4096 main_cst_1
  let main_v8 : IVec S4096x4096 1 := cmpf .olt main_v6 main_v7
  let main_v9 : FVec F S16x16x5 .f32 := Host.absf main_arg3
  let main_cst_2 : FVec F S_ .f32 := constant S_ .f32 0x7F800000#32
  let main_v10 : FVec F S16x16x5 .f32 := broadcastInDim S16x16x5 ![] bcast_S_S16x16x5 main_cst_2
  let main_v11 : IVec S16x16x5 1 := cmpf .olt main_v9 main_v10
  let main_v12 : FVec F S16x16x5 .f32 := Host.absf main_arg4
  let main_cst_3 : FVec F S_ .f32 := constant S_ .f32 0x7F800000#32
  let main_v13 : FVec F S16x16x5 .f32 := broadcastInDim S16x16x5 ![] bcast_S_S16x16x5 main_cst_3
  let main_v14 : IVec S16x16x5 1 := cmpf .olt main_v12 main_v13
  let main_v15 : FVec F S16x16 .f32 := Host.absf main_arg5
  let main_cst_4 : FVec F S_ .f32 := constant S_ .f32 0x7F800000#32
  let main_v16 : FVec F S16x16 .f32 := broadcastInDim S16x16 ![] bcast_S_S16x16 main_cst_4
  let main_v17 : IVec S16x16 1 := cmpf .olt main_v15 main_v16
  (main_v2, main_v5, main_v8, main_v11, main_v14, main_v17)
-- ==== Kernel.lean ====
abbrev S4096x16 : Shape := ⟨2, ![4096, 16]⟩
abbrev S4096x4096 : Shape := ⟨2, ![4096, 4096]⟩
abbrev S16x16x5 : Shape := ⟨3, ![16, 16, 5]⟩
abbrev S16x16 : Shape := ⟨2, ![16, 16]⟩
abbrev S16 : Shape := ⟨1, ![16]⟩
abbrev S5x16x16 : Shape := ⟨3, ![5, 16, 16]⟩
abbrev S1x16 : Shape := ⟨2, ![1, 16]⟩
abbrev S2x128x4096 : Shape := ⟨3, ![2, 128, 4096]⟩
abbrev S2 : Shape := ⟨1, ![2]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S128x16 : Shape := ⟨2, ![128, 16]⟩
abbrev S1x16x16 : Shape := ⟨3, ![1, 16, 16]⟩
abbrev S2x512x4096 : Shape := ⟨3, ![2, 512, 4096]⟩
abbrev S1x512x4096 : Shape := ⟨3, ![1, 512, 4096]⟩
abbrev S512x4096 : Shape := ⟨2, ![512, 4096]⟩
abbrev S512x16 : Shape := ⟨2, ![512, 16]⟩

abbrev nBuf : Space → Nat
  | .hbm => 13
  | .vmem => 20
  | .smem => 0
  | _ => 0

abbrev bufTy : (tb : Table) → Fin (tcTables nBuf tb) → BufTy
  | .hbm, ⟨0, _⟩ => ⟨S4096x16, .f32⟩
  | .hbm, ⟨1, _⟩ => ⟨S4096x4096, .f32⟩
  | .hbm, ⟨2, _⟩ => ⟨S4096x4096, .f32⟩
  | .hbm, ⟨3, _⟩ => ⟨S16x16x5, .f32⟩
  | .hbm, ⟨4, _⟩ => ⟨S16x16x5, .f32⟩
  | .hbm, ⟨5, _⟩ => ⟨S16x16, .f32⟩
  | .hbm, ⟨6, _⟩ => ⟨S16, .f32⟩
  | .hbm, ⟨7, _⟩ => ⟨S5x16x16, .f32⟩
  | .hbm, ⟨8, _⟩ => ⟨S16x16x5, .f32⟩
  | .hbm, ⟨9, _⟩ => ⟨S5x16x16, .f32⟩
  | .hbm, ⟨10, _⟩ => ⟨S1x16, .f32⟩
  | .hbm, ⟨11, _⟩ => ⟨S4096x16, .f32⟩
  | .hbm, ⟨12, _⟩ => ⟨S4096x4096, .bf16⟩
  | .local _ .vmem, ⟨0, _⟩ => ⟨S4096x16, .f32⟩
  | .local _ .vmem, ⟨1, _⟩ => ⟨S5x16x16, .f32⟩
  | .local _ .vmem, ⟨2, _⟩ => ⟨S5x16x16, .f32⟩
  | .local _ .vmem, ⟨3, _⟩ => ⟨S1x16, .f32⟩
  | .local _ .vmem, ⟨4, _⟩ => ⟨S4096x16, .f32⟩
  | .local _ .vmem, ⟨5, _⟩ => ⟨S4096x4096, .bf16⟩
  | .local _ .vmem, ⟨6, _⟩ => ⟨S4096x16, .f32⟩
  | .local _ .vmem, ⟨7, _⟩ => ⟨S4096x16, .f32⟩
  | .local _ .vmem, ⟨8, _⟩ => ⟨S4096x16, .f32⟩
  | .local _ .vmem, ⟨9, _⟩ => ⟨S4096x16, .f32⟩
  | .local _ .vmem, ⟨10, _⟩ => ⟨S4096x16, .f32⟩
  | .local _ .vmem, ⟨11, _⟩ => ⟨S4096x16, .f32⟩
  | .local _ .vmem, ⟨12, _⟩ => ⟨S4096x16, .bf16⟩
  | .local _ .vmem, ⟨13, _⟩ => ⟨S4096x16, .bf16⟩
  | .local _ .vmem, ⟨14, _⟩ => ⟨S2x128x4096, .f32⟩
  | .local _ .vmem, ⟨15, _⟩ => ⟨S2x128x4096, .f32⟩
  | .local _ .vmem, ⟨16, _⟩ => ⟨S2x128x4096, .bf16⟩
  | .local _ .vmem, ⟨17, _⟩ => ⟨S2x512x4096, .bf16⟩
  | .local _ .vmem, ⟨18, _⟩ => ⟨S2x512x4096, .bf16⟩
  | .local _ .vmem, ⟨19, _⟩ => ⟨S2x512x4096, .bf16⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scoped0 : Ref sig .tc := ⟨.vmem, 14, rfl⟩
abbrev cc0_scoped2 : Ref sig .tc := ⟨.vmem, 15, rfl⟩
abbrev cc0_scoped4 : Ref sig .tc := ⟨.vmem, 16, rfl⟩
abbrev cc0_scoped6 : Ref sig .tc := ⟨.vmem, 17, rfl⟩
abbrev cc0_scoped8 : Ref sig .tc := ⟨.vmem, 18, rfl⟩
abbrev cc0_scoped10 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 : Fin 1 → Nat :=
  let c0_i32_71_r0 : BitVec 32 := 0#32
  let c2_i32_r0 : BitVec 32 := 2#32
  let v80_r0 : BitVec 32 := Scalar.remui c0_i32_71_r0 c2_i32_r0
  ![v80_r0.toNat]
def k0_off2 : Fin 3 → Nat :=
  let c0_i32_71_r0 : BitVec 32 := 0#32
  let c2_i32_r0 : BitVec 32 := 2#32
  let v80_r0 : BitVec 32 := Scalar.remui c0_i32_71_r0 c2_i32_r0
  let c0_i32_72_r0 : BitVec 32 := 0#32
  let c0_i32_73_r0 : BitVec 32 := 0#32
  ![v80_r0.toNat, 0, 0]
@[reducible] def k0_t1_loop : Scf.Loop 32 :=
  let c0_i32_91_r0 : BitVec 32 := 0#32
  let c32_i32_92_r0 : BitVec 32 := 32#32
  let v94_r0 : BitVec 32 := Scalar.addi c0_i32_91_r0 c32_i32_92_r0
  let c1_i32_93_r0 : BitVec 32 := 1#32
  ⟨c0_i32_91_r0, v94_r0, c1_i32_93_r0⟩
def k0_off3 (arg18_r0 : BitVec 32) : Fin 1 → Nat :=
  let c2_i32_194_r0 : BitVec 32 := 2#32
  let v262_r0 : BitVec 32 := Scalar.remui arg18_r0 c2_i32_194_r0
  ![v262_r0.toNat]
def k0_cond1 (k0_t1 : Fin k0_t1_loop.trips) (arg24_r0 : BitVec 32) : BitVec 1 :=
  let c0_i32_121_r0 : BitVec 32 := 0#32
  let v125_r0 : BitVec 32 := Scalar.addi arg24_r0 c0_i32_121_r0
  let true_128_r0 : BitVec 1 := 1#1
  let c1_i32_127_r0 : BitVec 32 := 1#32
  let v131_r0 : BitVec 32 := Scalar.addi arg24_r0 c1_i32_127_r0
  let v132_r0 : BitVec 32 := Scalar.select true_128_r0 v131_r0 arg24_r0
  let c32_i32_129_r0 : BitVec 32 := 32#32
  let v133_r0 : BitVec 1 := Scalar.cmpi .eq v132_r0 c32_i32_129_r0
  let c0_i32_130_r0 : BitVec 32 := 0#32
  let v134_r0 : BitVec 32 := Scalar.select v133_r0 c0_i32_130_r0 v132_r0
  let c0_i32_131_r0 : BitVec 32 := 0#32
  let v135_r0 : BitVec 32 := Scalar.addi v134_r0 c0_i32_131_r0
  let v141_r0 : BitVec 1 := Scalar.cmpi .ne v125_r0 v135_r0
  let c0_i32_91_r0 : BitVec 32 := 0#32
  let c1_i32_93_r0 : BitVec 32 := 1#32
  let arg17_r0 : BitVec 32 := Scf.iv c0_i32_91_r0 c1_i32_93_r0 k0_t1
  let c31_i32_137_r0 : BitVec 32 := 31#32
  let v142_r0 : BitVec 1 := Scalar.cmpi .sge arg17_r0 c31_i32_137_r0
  let true_138_r0 : BitVec 1 := 1#1
  let v143_r0 : BitVec 1 := Scalar.xori v142_r0 true_138_r0
  let v144_r0 : BitVec 1 := Scalar.andi v141_r0 v143_r0
  let true_139_r0 : BitVec 1 := 1#1
  let v145_r0 : BitVec 1 := Scalar.andi v144_r0 true_139_r0
  let v146_r0 : BitVec 32 := Scalar.extui v145_r0
  let c0_i32_140_r0 : BitVec 32 := 0#32
  let v147_r0 : BitVec 1 := Scalar.cmpi .ne v146_r0 c0_i32_140_r0
  v147_r0

def k0_off4 (arg18_r0 : BitVec 32) : Fin 3 → Nat :=
  let c2_i32_194_r0 : BitVec 32 := 2#32
  let v262_r0 : BitVec 32 := Scalar.remui arg18_r0 c2_i32_194_r0
  let c0_i32_196_r0 : BitVec 32 := 0#32
  let c0_i32_197_r0 : BitVec 32 := 0#32
  ![v262_r0.toNat, 0, 0]
def k0_off5 (arg24_r0 : BitVec 32) : Fin 2 → Nat :=
  let c128_i32_195_r0 : BitVec 32 := 128#32
  let true_128_r0 : BitVec 1 := 1#1
  let c1_i32_127_r0 : BitVec 32 := 1#32
  let v131_r0 : BitVec 32 := Scalar.addi arg24_r0 c1_i32_127_r0
  let v132_r0 : BitVec 32 := Scalar.select true_128_r0 v131_r0 arg24_r0
  let c32_i32_129_r0 : BitVec 32 := 32#32
  let v133_r0 : BitVec 1 := Scalar.cmpi .eq v132_r0 c32_i32_129_r0
  let c0_i32_130_r0 : BitVec 32 := 0#32
  let v134_r0 : BitVec 32 := Scalar.select v133_r0 c0_i32_130_r0 v132_r0
  let c0_i32_131_r0 : BitVec 32 := 0#32
  let v135_r0 : BitVec 32 := Scalar.addi v134_r0 c0_i32_131_r0
  let v263_r0 : BitVec 32 := Scalar.muli c128_i32_195_r0 v135_r0
  let c0_i32_198_r0 : BitVec 32 := 0#32
  ![v263_r0.toNat, 0]
def k0_off6 (arg20_r0 : BitVec 32) : Fin 1 → Nat :=
  let c2_i32_194_r0 : BitVec 32 := 2#32
  let v262_r0 : BitVec 32 := Scalar.remui arg20_r0 c2_i32_194_r0
  ![v262_r0.toNat]
def k0_cond2 (k0_t1 : Fin k0_t1_loop.trips) (arg24_r0 : BitVec 32) : BitVec 1 :=
  let c0_i32_121_r0 : BitVec 32 := 0#32
  let v125_r0 : BitVec 32 := Scalar.addi arg24_r0 c0_i32_121_r0
  let true_128_r0 : BitVec 1 := 1#1
  let c1_i32_127_r0 : BitVec 32 := 1#32
  let v131_r0 : BitVec 32 := Scalar.addi arg24_r0 c1_i32_127_r0
  let v132_r0 : BitVec 32 := Scalar.select true_128_r0 v131_r0 arg24_r0
  let c32_i32_129_r0 : BitVec 32 := 32#32
  let v133_r0 : BitVec 1 := Scalar.cmpi .eq v132_r0 c32_i32_129_r0
  let c0_i32_130_r0 : BitVec 32 := 0#32
  let v134_r0 : BitVec 32 := Scalar.select v133_r0 c0_i32_130_r0 v132_r0
  let c0_i32_131_r0 : BitVec 32 := 0#32
  let v135_r0 : BitVec 32 := Scalar.addi v134_r0 c0_i32_131_r0
  let v151_r0 : BitVec 1 := Scalar.cmpi .ne v125_r0 v135_r0
  let c0_i32_91_r0 : BitVec 32 := 0#32
  let c1_i32_93_r0 : BitVec 32 := 1#32
  let arg17_r0 : BitVec 32 := Scf.iv c0_i32_91_r0 c1_i32_93_r0 k0_t1
  let c31_i32_143_r0 : BitVec 32 := 31#32
  let v152_r0 : BitVec 1 := Scalar.cmpi .sge arg17_r0 c31_i32_143_r0
  let true_144_r0 : BitVec 1 := 1#1
  let v153_r0 : BitVec 1 := Scalar.xori v152_r0 true_144_r0
  let v154_r0 : BitVec 1 := Scalar.andi v151_r0 v153_r0
  let true_145_r0 : BitVec 1 := 1#1
  let v155_r0 : BitVec 1 := Scalar.andi v154_r0 true_145_r0
  let v156_r0 : BitVec 32 := Scalar.extui v155_r0
  let c0_i32_146_r0 : BitVec 32 := 0#32
  let v157_r0 : BitVec 1 := Scalar.cmpi .ne v156_r0 c0_i32_146_r0
  v157_r0

def k0_off7 (arg20_r0 : BitVec 32) : Fin 3 → Nat :=
  let c2_i32_194_r0 : BitVec 32 := 2#32
  let v262_r0 : BitVec 32 := Scalar.remui arg20_r0 c2_i32_194_r0
  let c0_i32_196_r0 : BitVec 32 := 0#32
  let c0_i32_197_r0 : BitVec 32 := 0#32
  ![v262_r0.toNat, 0, 0]
def k0_off8 (arg24_r0 : BitVec 32) : Fin 2 → Nat :=
  let c128_i32_195_r0 : BitVec 32 := 128#32
  let true_128_r0 : BitVec 1 := 1#1
  let c1_i32_127_r0 : BitVec 32 := 1#32
  let v131_r0 : BitVec 32 := Scalar.addi arg24_r0 c1_i32_127_r0
  let v132_r0 : BitVec 32 := Scalar.select true_128_r0 v131_r0 arg24_r0
  let c32_i32_129_r0 : BitVec 32 := 32#32
  let v133_r0 : BitVec 1 := Scalar.cmpi .eq v132_r0 c32_i32_129_r0
  let c0_i32_130_r0 : BitVec 32 := 0#32
  let v134_r0 : BitVec 32 := Scalar.select v133_r0 c0_i32_130_r0 v132_r0
  let c0_i32_131_r0 : BitVec 32 := 0#32
  let v135_r0 : BitVec 32 := Scalar.addi v134_r0 c0_i32_131_r0
  let v263_r0 : BitVec 32 := Scalar.muli c128_i32_195_r0 v135_r0
  let c0_i32_198_r0 : BitVec 32 := 0#32
  ![v263_r0.toNat, 0]
def k0_off9 (arg19_r0 : BitVec 32) : Fin 1 → Nat :=
  let c2_i32_195_r0 : BitVec 32 := 2#32
  let v263_r0 : BitVec 32 := Scalar.remui arg19_r0 c2_i32_195_r0
  ![v263_r0.toNat]
def k0_cond3 (k0_t1 : Fin k0_t1_loop.trips) (arg24_r0 : BitVec 32) : BitVec 1 :=
  let c0_i32_121_r0 : BitVec 32 := 0#32
  let v125_r0 : BitVec 32 := Scalar.addi arg24_r0 c0_i32_121_r0
  let true_123_r0 : BitVec 1 := 1#1
  let c1_i32_122_r0 : BitVec 32 := 1#32
  let v126_r0 : BitVec 32 := Scalar.subi arg24_r0 c1_i32_122_r0
  let v127_r0 : BitVec 32 := Scalar.select true_123_r0 v126_r0 arg24_r0
  let c_m1_i32_124_r0 : BitVec 32 := 4294967295#32
  let v128_r0 : BitVec 1 := Scalar.cmpi .eq v127_r0 c_m1_i32_124_r0
  let c31_i32_125_r0 : BitVec 32 := 31#32
  let v129_r0 : BitVec 32 := Scalar.select v128_r0 c31_i32_125_r0 v127_r0
  let c0_i32_126_r0 : BitVec 32 := 0#32
  let v130_r0 : BitVec 32 := Scalar.addi v129_r0 c0_i32_126_r0
  let v165_r0 : BitVec 1 := Scalar.cmpi .ne v125_r0 v130_r0
  let c0_i32_91_r0 : BitVec 32 := 0#32
  let c1_i32_93_r0 : BitVec 32 := 1#32
  let arg17_r0 : BitVec 32 := Scf.iv c0_i32_91_r0 c1_i32_93_r0 k0_t1
  let c0_i32_119_r0 : BitVec 32 := 0#32
  let v123_r0 : BitVec 1 := Scalar.cmpi .eq arg17_r0 c0_i32_119_r0
  let v166_r0 : BitVec 1 := Scalar.ori v165_r0 v123_r0
  let c0_i32_151_r0 : BitVec 32 := 0#32
  let v167_r0 : BitVec 1 := Scalar.cmpi .sge arg17_r0 c0_i32_151_r0
  let v168_r0 : BitVec 1 := Scalar.andi v166_r0 v167_r0
  let v169_r0 : BitVec 32 := Scalar.extui v168_r0
  let c0_i32_152_r0 : BitVec 32 := 0#32
  let v170_r0 : BitVec 1 := Scalar.cmpi .ne v169_r0 c0_i32_152_r0
  v170_r0

def k0_off10 (arg19_r0 : BitVec 32) : Fin 3 → Nat :=
  let c2_i32_195_r0 : BitVec 32 := 2#32
  let v263_r0 : BitVec 32 := Scalar.remui arg19_r0 c2_i32_195_r0
  let c0_i32_196_r0 : BitVec 32 := 0#32
  let c0_i32_197_r0 : BitVec 32 := 0#32
  ![v263_r0.toNat, 0, 0]
def k0_off11 (arg24_r0 : BitVec 32) : Fin 2 → Nat :=
  let c128_i32_194_r0 : BitVec 32 := 128#32
  let c0_i32_121_r0 : BitVec 32 := 0#32
  let v125_r0 : BitVec 32 := Scalar.addi arg24_r0 c0_i32_121_r0
  let v262_r0 : BitVec 32 := Scalar.muli c128_i32_194_r0 v125_r0
  let c0_i32_198_r0 : BitVec 32 := 0#32
  ![v262_r0.toNat, 0]
def k0_off12 (arg21_r0 : BitVec 32) : Fin 1 → Nat :=
  let c2_i32_195_r0 : BitVec 32 := 2#32
  let v263_r0 : BitVec 32 := Scalar.remui arg21_r0 c2_i32_195_r0
  ![v263_r0.toNat]
def k0_cond4 (k0_t1 : Fin k0_t1_loop.trips) (arg24_r0 : BitVec 32) : BitVec 1 :=
  let c0_i32_121_r0 : BitVec 32 := 0#32
  let v125_r0 : BitVec 32 := Scalar.addi arg24_r0 c0_i32_121_r0
  let true_123_r0 : BitVec 1 := 1#1
  let c1_i32_122_r0 : BitVec 32 := 1#32
  let v126_r0 : BitVec 32 := Scalar.subi arg24_r0 c1_i32_122_r0
  let v127_r0 : BitVec 32 := Scalar.select true_123_r0 v126_r0 arg24_r0
  let c_m1_i32_124_r0 : BitVec 32 := 4294967295#32
  let v128_r0 : BitVec 1 := Scalar.cmpi .eq v127_r0 c_m1_i32_124_r0
  let c31_i32_125_r0 : BitVec 32 := 31#32
  let v129_r0 : BitVec 32 := Scalar.select v128_r0 c31_i32_125_r0 v127_r0
  let c0_i32_126_r0 : BitVec 32 := 0#32
  let v130_r0 : BitVec 32 := Scalar.addi v129_r0 c0_i32_126_r0
  let v171_r0 : BitVec 1 := Scalar.cmpi .ne v125_r0 v130_r0
  let c0_i32_91_r0 : BitVec 32 := 0#32
  let c1_i32_93_r0 : BitVec 32 := 1#32
  let arg17_r0 : BitVec 32 := Scf.iv c0_i32_91_r0 c1_i32_93_r0 k0_t1
  let c0_i32_119_r0 : BitVec 32 := 0#32
  let v123_r0 : BitVec 1 := Scalar.cmpi .eq arg17_r0 c0_i32_119_r0
  let v172_r0 : BitVec 1 := Scalar.ori v171_r0 v123_r0
  let c0_i32_153_r0 : BitVec 32 := 0#32
  let v173_r0 : BitVec 1 := Scalar.cmpi .sge arg17_r0 c0_i32_153_r0
  let v174_r0 : BitVec 1 := Scalar.andi v172_r0 v173_r0
  let v175_r0 : BitVec 32 := Scalar.extui v174_r0
  let c0_i32_154_r0 : BitVec 32 := 0#32
  let v176_r0 : BitVec 1 := Scalar.cmpi .ne v175_r0 c0_i32_154_r0
  v176_r0

def k0_off13 (arg21_r0 : BitVec 32) : Fin 3 → Nat :=
  let c2_i32_195_r0 : BitVec 32 := 2#32
  let v263_r0 : BitVec 32 := Scalar.remui arg21_r0 c2_i32_195_r0
  let c0_i32_196_r0 : BitVec 32 := 0#32
  let c0_i32_197_r0 : BitVec 32 := 0#32
  ![v263_r0.toNat, 0, 0]
def k0_off14 (arg24_r0 : BitVec 32) : Fin 2 → Nat :=
  let c128_i32_194_r0 : BitVec 32 := 128#32
  let c0_i32_121_r0 : BitVec 32 := 0#32
  let v125_r0 : BitVec 32 := Scalar.addi arg24_r0 c0_i32_121_r0
  let v262_r0 : BitVec 32 := Scalar.muli c128_i32_194_r0 v125_r0
  let c0_i32_198_r0 : BitVec 32 := 0#32
  ![v262_r0.toNat, 0]
def k0_off15 (arg19_r0 : BitVec 32) : Fin 3 → Nat :=
  let c2_i32_157_r0 : BitVec 32 := 2#32
  let v183_r0 : BitVec 32 := Scalar.remui arg19_r0 c2_i32_157_r0
  let v187_r0 : Index := Scalar.indexCast v183_r0
  let c0_161_r0 : Index := 0#32
  let c0_162_r0 : Index := 0#32
  ![v187_r0.toNat, 0, 0]

def k0_chk2 (arg19_r0 : BitVec 32) : Prop :=
  (∀ a, (k0_off15 arg19_r0) a + S1x128x4096.size a ≤ S2x128x4096.size a)
theorem k0_off15_inb : ∀ (arg19_r0 : BitVec 32) (k0_hw2 : k0_chk2 arg19_r0), ∀ a, (k0_off15 arg19_r0) a + S1x128x4096.size a ≤ S2x128x4096.size a := fun arg19_r0 k0_hw2 => k0_hw2

def k0_off16 (arg21_r0 : BitVec 32) : Fin 3 → Nat :=
  let c2_i32_158_r0 : BitVec 32 := 2#32
  let v184_r0 : BitVec 32 := Scalar.remui arg21_r0 c2_i32_158_r0
  let v191_r0 : Index := Scalar.indexCast v184_r0
  let c0_163_r0 : Index := 0#32
  let c0_164_r0 : Index := 0#32
  ![v191_r0.toNat, 0, 0]

def k0_chk3 (arg21_r0 : BitVec 32) : Prop :=
  (∀ a, (k0_off16 arg21_r0) a + S1x128x4096.size a ≤ S2x128x4096.size a)
theorem k0_off16_inb : ∀ (arg21_r0 : BitVec 32) (k0_hw3 : k0_chk3 arg21_r0), ∀ a, (k0_off16 arg21_r0) a + S1x128x4096.size a ≤ S2x128x4096.size a := fun arg21_r0 k0_hw3 => k0_hw3

def k0_off17 (arg24_r0 : BitVec 32) : Fin 2 → Nat :=
  let c0_i32_121_r0 : BitVec 32 := 0#32
  let v125_r0 : BitVec 32 := Scalar.addi arg24_r0 c0_i32_121_r0
  let c128_i32_160_r0 : BitVec 32 := 128#32
  let v186_r0 : BitVec 32 := Scalar.muli v125_r0 c128_i32_160_r0
  let v196_r0 : Index := Scalar.indexCast v186_r0
  let c0_166_r0 : Index := 0#32
  ![v196_r0.toNat, 0]
def k0_off18 (arg24_r0 : BitVec 32) : Fin 2 → Nat :=
  let c0_i32_121_r0 : BitVec 32 := 0#32
  let v125_r0 : BitVec 32 := Scalar.addi arg24_r0 c0_i32_121_r0
  let c128_i32_160_r0 : BitVec 32 := 128#32
  let v186_r0 : BitVec 32 := Scalar.muli v125_r0 c128_i32_160_r0
  let v205_r0 : Index := Scalar.indexCast v186_r0
  let c0_169_r0 : Index := 0#32
  ![v205_r0.toNat, 0]
def k0_off19 (arg22_r0 : BitVec 32) : Fin 3 → Nat :=
  let c2_i32_159_r0 : BitVec 32 := 2#32
  let v185_r0 : BitVec 32 := Scalar.remui arg22_r0 c2_i32_159_r0
  let v209_r0 : Index := Scalar.indexCast v185_r0
  let c0_170_r0 : Index := 0#32
  let c0_171_r0 : Index := 0#32
  ![v209_r0.toNat, 0, 0]

def k0_chk4 (arg22_r0 : BitVec 32) : Prop :=
  (∀ a, (k0_off19 arg22_r0) a + S1x128x4096.size a ≤ S2x128x4096.size a) ∧
  (∀ (hinb : ∀ a, (k0_off19 arg22_r0) a + S1x128x4096.size a ≤ S2x128x4096.size a), (Rect.unit (s := S2x128x4096) (k0_off19 arg22_r0) S1x128x4096.size hinb).PackedRows (EltTy.packing .bf16))
theorem k0_off19_inb : ∀ (arg22_r0 : BitVec 32) (k0_hw4 : k0_chk4 arg22_r0), ∀ a, (k0_off19 arg22_r0) a + S1x128x4096.size a ≤ S2x128x4096.size a := fun arg22_r0 k0_hw4 => k0_hw4.1
theorem k0_off19_packedbf16 : ∀ (arg22_r0 : BitVec 32) (k0_hw4 : k0_chk4 arg22_r0), (Rect.unit (s := S2x128x4096) (k0_off19 arg22_r0) S1x128x4096.size (k0_off19_inb arg22_r0 k0_hw4)).PackedRows (EltTy.packing .bf16) := fun arg22_r0 k0_hw4 => k0_hw4.2 (k0_off19_inb arg22_r0 k0_hw4)

def k0_off20 (arg22_r0 : BitVec 32) : Fin 1 → Nat :=
  let c2_i32_194_r0 : BitVec 32 := 2#32
  let v262_r0 : BitVec 32 := Scalar.remui arg22_r0 c2_i32_194_r0
  ![v262_r0.toNat]
def k0_cond8 (k0_t1 : Fin k0_t1_loop.trips) (arg24_r0 : BitVec 32) : BitVec 1 :=
  let c0_i32_121_r0 : BitVec 32 := 0#32
  let v125_r0 : BitVec 32 := Scalar.addi arg24_r0 c0_i32_121_r0
  let true_128_r0 : BitVec 1 := 1#1
  let c1_i32_127_r0 : BitVec 32 := 1#32
  let v131_r0 : BitVec 32 := Scalar.addi arg24_r0 c1_i32_127_r0
  let v132_r0 : BitVec 32 := Scalar.select true_128_r0 v131_r0 arg24_r0
  let c32_i32_129_r0 : BitVec 32 := 32#32
  let v133_r0 : BitVec 1 := Scalar.cmpi .eq v132_r0 c32_i32_129_r0
  let c0_i32_130_r0 : BitVec 32 := 0#32
  let v134_r0 : BitVec 32 := Scalar.select v133_r0 c0_i32_130_r0 v132_r0
  let c0_i32_131_r0 : BitVec 32 := 0#32
  let v135_r0 : BitVec 32 := Scalar.addi v134_r0 c0_i32_131_r0
  let v223_r0 : BitVec 1 := Scalar.cmpi .ne v125_r0 v135_r0
  let c0_i32_91_r0 : BitVec 32 := 0#32
  let c1_i32_93_r0 : BitVec 32 := 1#32
  let arg17_r0 : BitVec 32 := Scf.iv c0_i32_91_r0 c1_i32_93_r0 k0_t1
  let c31_i32_120_r0 : BitVec 32 := 31#32
  let v124_r0 : BitVec 1 := Scalar.cmpi .eq arg17_r0 c31_i32_120_r0
  let v224_r0 : BitVec 1 := Scalar.ori v223_r0 v124_r0
  let v225_r0 : BitVec 32 := Scalar.extui v224_r0
  let c0_i32_175_r0 : BitVec 32 := 0#32
  let v226_r0 : BitVec 1 := Scalar.cmpi .ne v225_r0 c0_i32_175_r0
  v226_r0

def k0_off21 (arg24_r0 : BitVec 32) : Fin 2 → Nat :=
  let c128_i32_195_r0 : BitVec 32 := 128#32
  let c0_i32_121_r0 : BitVec 32 := 0#32
  let v125_r0 : BitVec 32 := Scalar.addi arg24_r0 c0_i32_121_r0
  let v263_r0 : BitVec 32 := Scalar.muli c128_i32_195_r0 v125_r0
  let c0_i32_196_r0 : BitVec 32 := 0#32
  ![v263_r0.toNat, 0]
def k0_off22 (arg22_r0 : BitVec 32) : Fin 3 → Nat :=
  let c2_i32_194_r0 : BitVec 32 := 2#32
  let v262_r0 : BitVec 32 := Scalar.remui arg22_r0 c2_i32_194_r0
  let c0_i32_197_r0 : BitVec 32 := 0#32
  let c0_i32_198_r0 : BitVec 32 := 0#32
  ![v262_r0.toNat, 0, 0]
def k0_off23 (arg23_r0 : BitVec 32) : Fin 1 → Nat :=
  let c2_i32_194_r0 : BitVec 32 := 2#32
  let v262_r0 : BitVec 32 := Scalar.remui arg23_r0 c2_i32_194_r0
  ![v262_r0.toNat]
def k0_cond11 (k0_t1 : Fin k0_t1_loop.trips) (arg24_r0 : BitVec 32) : BitVec 1 :=
  let c0_i32_121_r0 : BitVec 32 := 0#32
  let v125_r0 : BitVec 32 := Scalar.addi arg24_r0 c0_i32_121_r0
  let true_123_r0 : BitVec 1 := 1#1
  let c1_i32_122_r0 : BitVec 32 := 1#32
  let v126_r0 : BitVec 32 := Scalar.subi arg24_r0 c1_i32_122_r0
  let v127_r0 : BitVec 32 := Scalar.select true_123_r0 v126_r0 arg24_r0
  let c_m1_i32_124_r0 : BitVec 32 := 4294967295#32
  let v128_r0 : BitVec 1 := Scalar.cmpi .eq v127_r0 c_m1_i32_124_r0
  let c31_i32_125_r0 : BitVec 32 := 31#32
  let v129_r0 : BitVec 32 := Scalar.select v128_r0 c31_i32_125_r0 v127_r0
  let c0_i32_126_r0 : BitVec 32 := 0#32
  let v130_r0 : BitVec 32 := Scalar.addi v129_r0 c0_i32_126_r0
  let v242_r0 : BitVec 1 := Scalar.cmpi .ne v125_r0 v130_r0
  let c0_i32_91_r0 : BitVec 32 := 0#32
  let c1_i32_93_r0 : BitVec 32 := 1#32
  let arg17_r0 : BitVec 32 := Scf.iv c0_i32_91_r0 c1_i32_93_r0 k0_t1
  let c0_i32_119_r0 : BitVec 32 := 0#32
  let v123_r0 : BitVec 1 := Scalar.cmpi .eq arg17_r0 c0_i32_119_r0
  let true_184_r0 : BitVec 1 := 1#1
  let v243_r0 : BitVec 1 := Scalar.xori v123_r0 true_184_r0
  let v244_r0 : BitVec 1 := Scalar.andi v242_r0 v243_r0
  let v245_r0 : BitVec 32 := Scalar.extui v244_r0
  let c0_i32_185_r0 : BitVec 32 := 0#32
  let v246_r0 : BitVec 1 := Scalar.cmpi .ne v245_r0 c0_i32_185_r0
  v246_r0

def k0_off24 (arg24_r0 : BitVec 32) : Fin 2 → Nat :=
  let c128_i32_195_r0 : BitVec 32 := 128#32
  let true_123_r0 : BitVec 1 := 1#1
  let c1_i32_122_r0 : BitVec 32 := 1#32
  let v126_r0 : BitVec 32 := Scalar.subi arg24_r0 c1_i32_122_r0
  let v127_r0 : BitVec 32 := Scalar.select true_123_r0 v126_r0 arg24_r0
  let c_m1_i32_124_r0 : BitVec 32 := 4294967295#32
  let v128_r0 : BitVec 1 := Scalar.cmpi .eq v127_r0 c_m1_i32_124_r0
  let c31_i32_125_r0 : BitVec 32 := 31#32
  let v129_r0 : BitVec 32 := Scalar.select v128_r0 c31_i32_125_r0 v127_r0
  let c0_i32_126_r0 : BitVec 32 := 0#32
  let v130_r0 : BitVec 32 := Scalar.addi v129_r0 c0_i32_126_r0
  let v263_r0 : BitVec 32 := Scalar.muli c128_i32_195_r0 v130_r0
  let c0_i32_196_r0 : BitVec 32 := 0#32
  ![v263_r0.toNat, 0]
def k0_off25 (arg23_r0 : BitVec 32) : Fin 3 → Nat :=
  let c2_i32_194_r0 : BitVec 32 := 2#32
  let v262_r0 : BitVec 32 := Scalar.remui arg23_r0 c2_i32_194_r0
  let c0_i32_197_r0 : BitVec 32 := 0#32
  let c0_i32_198_r0 : BitVec 32 := 0#32
  ![v262_r0.toNat, 0, 0]

def k0_chk1 (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) : Prop :=
  (∀ (k0_h1 : k0_cond1 k0_t1 arg24_r0 = 1#1), ∀ a, (k0_off3 arg18_r0) a + S1.size a ≤ S2.size a) ∧
  (∀ (k0_h1 : k0_cond1 k0_t1 arg24_r0 = 1#1), ∀ a, (k0_off4 arg18_r0) a + S1x128x4096.size a ≤ S2x128x4096.size a) ∧
  (∀ (k0_h1 : k0_cond1 k0_t1 arg24_r0 = 1#1), ∀ a, (k0_off5 arg24_r0) a + S128x4096.size a ≤ S4096x4096.size a) ∧
  (∀ (k0_h2 : k0_cond2 k0_t1 arg24_r0 = 1#1), ∀ a, (k0_off6 arg20_r0) a + S1.size a ≤ S2.size a) ∧
  (∀ (k0_h2 : k0_cond2 k0_t1 arg24_r0 = 1#1), ∀ a, (k0_off7 arg20_r0) a + S1x128x4096.size a ≤ S2x128x4096.size a) ∧
  (∀ (k0_h2 : k0_cond2 k0_t1 arg24_r0 = 1#1), ∀ a, (k0_off8 arg24_r0) a + S128x4096.size a ≤ S4096x4096.size a) ∧
  (∀ (k0_h3 : k0_cond3 k0_t1 arg24_r0 = 1#1), ∀ a, (k0_off9 arg19_r0) a + S1.size a ≤ S2.size a) ∧
  (∀ (k0_h3 : k0_cond3 k0_t1 arg24_r0 = 1#1), ∀ a, (k0_off10 arg19_r0) a + S1x128x4096.size a ≤ S2x128x4096.size a) ∧
  (∀ (k0_h3 : k0_cond3 k0_t1 arg24_r0 = 1#1), ∀ a, (k0_off11 arg24_r0) a + S128x4096.size a ≤ S4096x4096.size a) ∧
  (∀ (k0_h4 : k0_cond4 k0_t1 arg24_r0 = 1#1), ∀ a, (k0_off12 arg21_r0) a + S1.size a ≤ S2.size a) ∧
  (∀ (k0_h4 : k0_cond4 k0_t1 arg24_r0 = 1#1), ∀ a, (k0_off13 arg21_r0) a + S1x128x4096.size a ≤ S2x128x4096.size a) ∧
  (∀ (k0_h4 : k0_cond4 k0_t1 arg24_r0 = 1#1), ∀ a, (k0_off14 arg24_r0) a + S128x4096.size a ≤ S4096x4096.size a) ∧
  (∀ a, (k0_off17 arg24_r0) a + S128x16.size a ≤ S4096x16.size a) ∧
  (∀ a, (k0_off18 arg24_r0) a + S128x4096.size a ≤ S4096x4096.size a) ∧
  (∀ (hinb : ∀ a, (k0_off18 arg24_r0) a + S128x4096.size a ≤ S4096x4096.size a), (Rect.unit (s := S4096x4096) (k0_off18 arg24_r0) S128x4096.size hinb).PackedRows (EltTy.packing .bf16)) ∧
  (∀ (k0_h8 : k0_cond8 k0_t1 arg24_r0 = 1#1), ∀ a, (k0_off20 arg22_r0) a + S1.size a ≤ S2.size a) ∧
  (∀ (k0_h8 : k0_cond8 k0_t1 arg24_r0 = 1#1), ∀ a, (k0_off21 arg24_r0) a + S128x4096.size a ≤ S4096x4096.size a) ∧
  (∀ (k0_h8 : k0_cond8 k0_t1 arg24_r0 = 1#1), ∀ a, (k0_off22 arg22_r0) a + S1x128x4096.size a ≤ S2x128x4096.size a) ∧
  (∀ (k0_h8 : k0_cond8 k0_t1 arg24_r0 = 1#1), ∀ (hinb : ∀ a, (k0_off22 arg22_r0) a + S1x128x4096.size a ≤ S2x128x4096.size a), (Rect.unit (s := S2x128x4096) (k0_off22 arg22_r0) S1x128x4096.size hinb).WholeWords (EltTy.packing .bf16)) ∧
  (∀ (k0_h8 : k0_cond8 k0_t1 arg24_r0 = 1#1), ∀ (hinb : ∀ a, (k0_off21 arg24_r0) a + S128x4096.size a ≤ S4096x4096.size a), (Rect.unit (s := S4096x4096) (k0_off21 arg24_r0) S128x4096.size hinb).WholeWords (EltTy.packing .bf16)) ∧
  (∀ (k0_h11 : k0_cond11 k0_t1 arg24_r0 = 1#1), ∀ a, (k0_off23 arg23_r0) a + S1.size a ≤ S2.size a) ∧
  (∀ (k0_h11 : k0_cond11 k0_t1 arg24_r0 = 1#1), ∀ a, (k0_off24 arg24_r0) a + S128x4096.size a ≤ S4096x4096.size a) ∧
  (∀ (k0_h11 : k0_cond11 k0_t1 arg24_r0 = 1#1), ∀ a, (k0_off25 arg23_r0) a + S1x128x4096.size a ≤ S2x128x4096.size a) ∧
  (∀ (k0_h11 : k0_cond11 k0_t1 arg24_r0 = 1#1), ∀ (hinb : ∀ a, (k0_off25 arg23_r0) a + S1x128x4096.size a ≤ S2x128x4096.size a), (Rect.unit (s := S2x128x4096) (k0_off25 arg23_r0) S1x128x4096.size hinb).WholeWords (EltTy.packing .bf16)) ∧
  (∀ (k0_h11 : k0_cond11 k0_t1 arg24_r0 = 1#1), ∀ (hinb : ∀ a, (k0_off24 arg24_r0) a + S128x4096.size a ≤ S4096x4096.size a), (Rect.unit (s := S4096x4096) (k0_off24 arg24_r0) S128x4096.size hinb).WholeWords (EltTy.packing .bf16))
theorem k0_off3_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h1 : k0_cond1 k0_t1 arg24_r0 = 1#1), ∀ a, (k0_off3 arg18_r0) a + S1.size a ≤ S2.size a := fun k0_t1 arg18_r0 arg19_r0 arg20_r0 arg21_r0 arg22_r0 arg23_r0 arg24_r0 k0_hw1 k0_h1 => k0_hw1.1 k0_h1
theorem k0_off4_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h1 : k0_cond1 k0_t1 arg24_r0 = 1#1), ∀ a, (k0_off4 arg18_r0) a + S1x128x4096.size a ≤ S2x128x4096.size a := fun k0_t1 arg18_r0 arg19_r0 arg20_r0 arg21_r0 arg22_r0 arg23_r0 arg24_r0 k0_hw1 k0_h1 => k0_hw1.2.1 k0_h1
theorem k0_off5_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h1 : k0_cond1 k0_t1 arg24_r0 = 1#1), ∀ a, (k0_off5 arg24_r0) a + S128x4096.size a ≤ S4096x4096.size a := fun k0_t1 arg18_r0 arg19_r0 arg20_r0 arg21_r0 arg22_r0 arg23_r0 arg24_r0 k0_hw1 k0_h1 => k0_hw1.2.2.1 k0_h1
theorem k0_off6_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h2 : k0_cond2 k0_t1 arg24_r0 = 1#1), ∀ a, (k0_off6 arg20_r0) a + S1.size a ≤ S2.size a := fun k0_t1 arg18_r0 arg19_r0 arg20_r0 arg21_r0 arg22_r0 arg23_r0 arg24_r0 k0_hw1 k0_h2 => k0_hw1.2.2.2.1 k0_h2
theorem k0_off7_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h2 : k0_cond2 k0_t1 arg24_r0 = 1#1), ∀ a, (k0_off7 arg20_r0) a + S1x128x4096.size a ≤ S2x128x4096.size a := fun k0_t1 arg18_r0 arg19_r0 arg20_r0 arg21_r0 arg22_r0 arg23_r0 arg24_r0 k0_hw1 k0_h2 => k0_hw1.2.2.2.2.1 k0_h2
theorem k0_off8_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h2 : k0_cond2 k0_t1 arg24_r0 = 1#1), ∀ a, (k0_off8 arg24_r0) a + S128x4096.size a ≤ S4096x4096.size a := fun k0_t1 arg18_r0 arg19_r0 arg20_r0 arg21_r0 arg22_r0 arg23_r0 arg24_r0 k0_hw1 k0_h2 => k0_hw1.2.2.2.2.2.1 k0_h2
theorem k0_off9_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h3 : k0_cond3 k0_t1 arg24_r0 = 1#1), ∀ a, (k0_off9 arg19_r0) a + S1.size a ≤ S2.size a := fun k0_t1 arg18_r0 arg19_r0 arg20_r0 arg21_r0 arg22_r0 arg23_r0 arg24_r0 k0_hw1 k0_h3 => k0_hw1.2.2.2.2.2.2.1 k0_h3
theorem k0_off10_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h3 : k0_cond3 k0_t1 arg24_r0 = 1#1), ∀ a, (k0_off10 arg19_r0) a + S1x128x4096.size a ≤ S2x128x4096.size a := fun k0_t1 arg18_r0 arg19_r0 arg20_r0 arg21_r0 arg22_r0 arg23_r0 arg24_r0 k0_hw1 k0_h3 => k0_hw1.2.2.2.2.2.2.2.1 k0_h3
theorem k0_off11_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h3 : k0_cond3 k0_t1 arg24_r0 = 1#1), ∀ a, (k0_off11 arg24_r0) a + S128x4096.size a ≤ S4096x4096.size a := fun k0_t1 arg18_r0 arg19_r0 arg20_r0 arg21_r0 arg22_r0 arg23_r0 arg24_r0 k0_hw1 k0_h3 => k0_hw1.2.2.2.2.2.2.2.2.1 k0_h3
theorem k0_off12_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h4 : k0_cond4 k0_t1 arg24_r0 = 1#1), ∀ a, (k0_off12 arg21_r0) a + S1.size a ≤ S2.size a := fun k0_t1 arg18_r0 arg19_r0 arg20_r0 arg21_r0 arg22_r0 arg23_r0 arg24_r0 k0_hw1 k0_h4 => k0_hw1.2.2.2.2.2.2.2.2.2.1 k0_h4
theorem k0_off13_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h4 : k0_cond4 k0_t1 arg24_r0 = 1#1), ∀ a, (k0_off13 arg21_r0) a + S1x128x4096.size a ≤ S2x128x4096.size a := fun k0_t1 arg18_r0 arg19_r0 arg20_r0 arg21_r0 arg22_r0 arg23_r0 arg24_r0 k0_hw1 k0_h4 => k0_hw1.2.2.2.2.2.2.2.2.2.2.1 k0_h4
theorem k0_off14_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h4 : k0_cond4 k0_t1 arg24_r0 = 1#1), ∀ a, (k0_off14 arg24_r0) a + S128x4096.size a ≤ S4096x4096.size a := fun k0_t1 arg18_r0 arg19_r0 arg20_r0 arg21_r0 arg22_r0 arg23_r0 arg24_r0 k0_hw1 k0_h4 => k0_hw1.2.2.2.2.2.2.2.2.2.2.2.1 k0_h4
theorem k0_off17_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ a, (k0_off17 arg24_r0) a + S128x16.size a ≤ S4096x16.size a := fun k0_t1 arg18_r0 arg19_r0 arg20_r0 arg21_r0 arg22_r0 arg23_r0 arg24_r0 k0_hw1 => k0_hw1.2.2.2.2.2.2.2.2.2.2.2.2.1
theorem k0_off18_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ a, (k0_off18 arg24_r0) a + S128x4096.size a ≤ S4096x4096.size a := fun k0_t1 arg18_r0 arg19_r0 arg20_r0 arg21_r0 arg22_r0 arg23_r0 arg24_r0 k0_hw1 => k0_hw1.2.2.2.2.2.2.2.2.2.2.2.2.2.1
theorem k0_off18_packedbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), (Rect.unit (s := S4096x4096) (k0_off18 arg24_r0) S128x4096.size (k0_off18_inb k0_t1 arg18_r0 arg19_r0 arg20_r0 arg21_r0 arg22_r0 arg23_r0 arg24_r0 k0_hw1)).PackedRows (EltTy.packing .bf16) := fun k0_t1 arg18_r0 arg19_r0 arg20_r0 arg21_r0 arg22_r0 arg23_r0 arg24_r0 k0_hw1 => k0_hw1.2.2.2.2.2.2.2.2.2.2.2.2.2.2.1 (k0_off18_inb k0_t1 arg18_r0 arg19_r0 arg20_r0 arg21_r0 arg22_r0 arg23_r0 arg24_r0 k0_hw1)
theorem k0_off20_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h8 : k0_cond8 k0_t1 arg24_r0 = 1#1), ∀ a, (k0_off20 arg22_r0) a + S1.size a ≤ S2.size a := fun k0_t1 arg18_r0 arg19_r0 arg20_r0 arg21_r0 arg22_r0 arg23_r0 arg24_r0 k0_hw1 k0_h8 => k0_hw1.2.2.2.2.2.2.2.2.2.2.2.2.2.2.2.1 k0_h8
theorem k0_off21_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h8 : k0_cond8 k0_t1 arg24_r0 = 1#1), ∀ a, (k0_off21 arg24_r0) a + S128x4096.size a ≤ S4096x4096.size a := fun k0_t1 arg18_r0 arg19_r0 arg20_r0 arg21_r0 arg22_r0 arg23_r0 arg24_r0 k0_hw1 k0_h8 => k0_hw1.2.2.2.2.2.2.2.2.2.2.2.2.2.2.2.2.1 k0_h8
theorem k0_off22_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h8 : k0_cond8 k0_t1 arg24_r0 = 1#1), ∀ a, (k0_off22 arg22_r0) a + S1x128x4096.size a ≤ S2x128x4096.size a := fun k0_t1 arg18_r0 arg19_r0 arg20_r0 arg21_r0 arg22_r0 arg23_r0 arg24_r0 k0_hw1 k0_h8 => k0_hw1.2.2.2.2.2.2.2.2.2.2.2.2.2.2.2.2.2.1 k0_h8
theorem k0_off22_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h8 : k0_cond8 k0_t1 arg24_r0 = 1#1), (Rect.unit (s := S2x128x4096) (k0_off22 arg22_r0) S1x128x4096.size (k0_off22_inb k0_t1 arg18_r0 arg19_r0 arg20_r0 arg21_r0 arg22_r0 arg23_r0 arg24_r0 k0_hw1 k0_h8)).WholeWords (EltTy.packing .bf16) := fun k0_t1 arg18_r0 arg19_r0 arg20_r0 arg21_r0 arg22_r0 arg23_r0 arg24_r0 k0_hw1 k0_h8 => k0_hw1.2.2.2.2.2.2.2.2.2.2.2.2.2.2.2.2.2.2.1 k0_h8 (k0_off22_inb k0_t1 arg18_r0 arg19_r0 arg20_r0 arg21_r0 arg22_r0 arg23_r0 arg24_r0 k0_hw1 k0_h8)
theorem k0_off21_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h8 : k0_cond8 k0_t1 arg24_r0 = 1#1), (Rect.unit (s := S4096x4096) (k0_off21 arg24_r0) S128x4096.size (k0_off21_inb k0_t1 arg18_r0 arg19_r0 arg20_r0 arg21_r0 arg22_r0 arg23_r0 arg24_r0 k0_hw1 k0_h8)).WholeWords (EltTy.packing .bf16) := fun k0_t1 arg18_r0 arg19_r0 arg20_r0 arg21_r0 arg22_r0 arg23_r0 arg24_r0 k0_hw1 k0_h8 => k0_hw1.2.2.2.2.2.2.2.2.2.2.2.2.2.2.2.2.2.2.2.1 k0_h8 (k0_off21_inb k0_t1 arg18_r0 arg19_r0 arg20_r0 arg21_r0 arg22_r0 arg23_r0 arg24_r0 k0_hw1 k0_h8)
theorem k0_off23_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h11 : k0_cond11 k0_t1 arg24_r0 = 1#1), ∀ a, (k0_off23 arg23_r0) a + S1.size a ≤ S2.size a := fun k0_t1 arg18_r0 arg19_r0 arg20_r0 arg21_r0 arg22_r0 arg23_r0 arg24_r0 k0_hw1 k0_h11 => k0_hw1.2.2.2.2.2.2.2.2.2.2.2.2.2.2.2.2.2.2.2.2.1 k0_h11
theorem k0_off24_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h11 : k0_cond11 k0_t1 arg24_r0 = 1#1), ∀ a, (k0_off24 arg24_r0) a + S128x4096.size a ≤ S4096x4096.size a := fun k0_t1 arg18_r0 arg19_r0 arg20_r0 arg21_r0 arg22_r0 arg23_r0 arg24_r0 k0_hw1 k0_h11 => k0_hw1.2.2.2.2.2.2.2.2.2.2.2.2.2.2.2.2.2.2.2.2.2.1 k0_h11
theorem k0_off25_inb : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h11 : k0_cond11 k0_t1 arg24_r0 = 1#1), ∀ a, (k0_off25 arg23_r0) a + S1x128x4096.size a ≤ S2x128x4096.size a := fun k0_t1 arg18_r0 arg19_r0 arg20_r0 arg21_r0 arg22_r0 arg23_r0 arg24_r0 k0_hw1 k0_h11 => k0_hw1.2.2.2.2.2.2.2.2.2.2.2.2.2.2.2.2.2.2.2.2.2.2.1 k0_h11
theorem k0_off25_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h11 : k0_cond11 k0_t1 arg24_r0 = 1#1), (Rect.unit (s := S2x128x4096) (k0_off25 arg23_r0) S1x128x4096.size (k0_off25_inb k0_t1 arg18_r0 arg19_r0 arg20_r0 arg21_r0 arg22_r0 arg23_r0 arg24_r0 k0_hw1 k0_h11)).WholeWords (EltTy.packing .bf16) := fun k0_t1 arg18_r0 arg19_r0 arg20_r0 arg21_r0 arg22_r0 arg23_r0 arg24_r0 k0_hw1 k0_h11 => k0_hw1.2.2.2.2.2.2.2.2.2.2.2.2.2.2.2.2.2.2.2.2.2.2.2.1 k0_h11 (k0_off25_inb k0_t1 arg18_r0 arg19_r0 arg20_r0 arg21_r0 arg22_r0 arg23_r0 arg24_r0 k0_hw1 k0_h11)
theorem k0_off24_wordsbf16 : ∀ (k0_t1 : Fin k0_t1_loop.trips) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t1 arg18_r0 arg19_r0 arg20_r0 arg21_r0 arg22_r0 arg23_r0 arg24_r0), ∀ (k0_h11 : k0_cond11 k0_t1 arg24_r0 = 1#1), (Rect.unit (s := S4096x4096) (k0_off24 arg24_r0) S128x4096.size (k0_off24_inb k0_t1 arg18_r0 arg19_r0 arg20_r0 arg21_r0 arg22_r0 arg23_r0 arg24_r0 k0_hw1 k0_h11)).WholeWords (EltTy.packing .bf16) := fun k0_t1 arg18_r0 arg19_r0 arg20_r0 arg21_r0 arg22_r0 arg23_r0 arg24_r0 k0_hw1 k0_h11 => k0_hw1.2.2.2.2.2.2.2.2.2.2.2.2.2.2.2.2.2.2.2.2.2.2.2.2 k0_h11 (k0_off24_inb k0_t1 arg18_r0 arg19_r0 arg20_r0 arg21_r0 arg22_r0 arg23_r0 arg24_r0 k0_hw1 k0_h11)

def k0_off26 (v95_5_r0 : BitVec 32) : Fin 1 → Nat :=
  let c2_i32_115_r0 : BitVec 32 := 2#32
  let v116_r0 : BitVec 32 := Scalar.remui v95_5_r0 c2_i32_115_r0
  ![v116_r0.toNat]

def k0_off27 (v95_6_r0 : BitVec 32) : Fin 2 → Nat :=
  let c128_i32_r0 : BitVec 32 := 128#32
  let true_96_r0 : BitVec 1 := 1#1
  let c1_i32_95_r0 : BitVec 32 := 1#32
  let v96_r0 : BitVec 32 := Scalar.subi v95_6_r0 c1_i32_95_r0
  let v97_r0 : BitVec 32 := Scalar.select true_96_r0 v96_r0 v95_6_r0
  let c_m1_i32_97_r0 : BitVec 32 := 4294967295#32
  let v98_r0 : BitVec 1 := Scalar.cmpi .eq v97_r0 c_m1_i32_97_r0
  let c31_i32_98_r0 : BitVec 32 := 31#32
  let v99_r0 : BitVec 32 := Scalar.select v98_r0 c31_i32_98_r0 v97_r0
  let c0_i32_99_r0 : BitVec 32 := 0#32
  let v100_r0 : BitVec 32 := Scalar.addi v99_r0 c0_i32_99_r0
  let v117_r0 : BitVec 32 := Scalar.muli c128_i32_r0 v100_r0
  let c0_i32_116_r0 : BitVec 32 := 0#32
  ![v117_r0.toNat, 0]

def k0_off28 (v95_5_r0 : BitVec 32) : Fin 3 → Nat :=
  let c2_i32_115_r0 : BitVec 32 := 2#32
  let v116_r0 : BitVec 32 := Scalar.remui v95_5_r0 c2_i32_115_r0
  let c0_i32_117_r0 : BitVec 32 := 0#32
  let c0_i32_118_r0 : BitVec 32 := 0#32
  ![v116_r0.toNat, 0, 0]

def k0_chk5 (v95_5_r0 : BitVec 32) : Prop :=
  (∀ a, (k0_off26 v95_5_r0) a + S1.size a ≤ S2.size a) ∧
  (∀ a, (k0_off28 v95_5_r0) a + S1x128x4096.size a ≤ S2x128x4096.size a) ∧
  (∀ (hinb : ∀ a, (k0_off28 v95_5_r0) a + S1x128x4096.size a ≤ S2x128x4096.size a), (Rect.unit (s := S2x128x4096) (k0_off28 v95_5_r0) S1x128x4096.size hinb).WholeWords (EltTy.packing .bf16))
theorem k0_off26_inb : ∀ (v95_5_r0 : BitVec 32) (k0_hw5 : k0_chk5 v95_5_r0), ∀ a, (k0_off26 v95_5_r0) a + S1.size a ≤ S2.size a := fun v95_5_r0 k0_hw5 => k0_hw5.1
theorem k0_off28_inb : ∀ (v95_5_r0 : BitVec 32) (k0_hw5 : k0_chk5 v95_5_r0), ∀ a, (k0_off28 v95_5_r0) a + S1x128x4096.size a ≤ S2x128x4096.size a := fun v95_5_r0 k0_hw5 => k0_hw5.2.1
theorem k0_off28_wordsbf16 : ∀ (v95_5_r0 : BitVec 32) (k0_hw5 : k0_chk5 v95_5_r0), (Rect.unit (s := S2x128x4096) (k0_off28 v95_5_r0) S1x128x4096.size (k0_off28_inb v95_5_r0 k0_hw5)).WholeWords (EltTy.packing .bf16) := fun v95_5_r0 k0_hw5 => k0_hw5.2.2 (k0_off28_inb v95_5_r0 k0_hw5)

def k0_chk6 (v95_6_r0 : BitVec 32) : Prop :=
  (∀ a, (k0_off27 v95_6_r0) a + S128x4096.size a ≤ S4096x4096.size a) ∧
  (∀ (hinb : ∀ a, (k0_off27 v95_6_r0) a + S128x4096.size a ≤ S4096x4096.size a), (Rect.unit (s := S4096x4096) (k0_off27 v95_6_r0) S128x4096.size hinb).WholeWords (EltTy.packing .bf16))
theorem k0_off27_inb : ∀ (v95_6_r0 : BitVec 32) (k0_hw6 : k0_chk6 v95_6_r0), ∀ a, (k0_off27 v95_6_r0) a + S128x4096.size a ≤ S4096x4096.size a := fun v95_6_r0 k0_hw6 => k0_hw6.1
theorem k0_off27_wordsbf16 : ∀ (v95_6_r0 : BitVec 32) (k0_hw6 : k0_chk6 v95_6_r0), (Rect.unit (s := S4096x4096) (k0_off27 v95_6_r0) S128x4096.size (k0_off27_inb v95_6_r0 k0_hw6)).WholeWords (EltTy.packing .bf16) := fun v95_6_r0 k0_hw6 => k0_hw6.2 (k0_off27_inb v95_6_r0 k0_hw6)

def k0_off29 : Fin 1 → Nat :=
  let c0_i32_69_r1 : BitVec 32 := 0#32
  let c2_i32_r1 : BitVec 32 := 2#32
  let v78_r1 : BitVec 32 := Scalar.remui c0_i32_69_r1 c2_i32_r1
  ![v78_r1.toNat]
def k0_off30 : Fin 3 → Nat :=
  let c0_i32_69_r1 : BitVec 32 := 0#32
  let c2_i32_r1 : BitVec 32 := 2#32
  let v78_r1 : BitVec 32 := Scalar.remui c0_i32_69_r1 c2_i32_r1
  let c0_i32_70_r1 : BitVec 32 := 0#32
  let c0_i32_71_r1 : BitVec 32 := 0#32
  ![v78_r1.toNat, 0, 0]
@[reducible] def k0_t2_loop : Scf.Loop 32 :=
  let c0_i32_78_r1 : BitVec 32 := 0#32
  let c8_i32_79_r1 : BitVec 32 := 8#32
  let v85_r1 : BitVec 32 := Scalar.addi c0_i32_78_r1 c8_i32_79_r1
  let c1_i32_80_r1 : BitVec 32 := 1#32
  ⟨c0_i32_78_r1, v85_r1, c1_i32_80_r1⟩
def k0_off31 (arg18_r1 : BitVec 32) : Fin 1 → Nat :=
  let c2_i32_155_r1 : BitVec 32 := 2#32
  let v185_r1 : BitVec 32 := Scalar.remui arg18_r1 c2_i32_155_r1
  ![v185_r1.toNat]
def k0_cond12 (k0_t2 : Fin k0_t2_loop.trips) (arg20_r1 : BitVec 32) : BitVec 1 :=
  let c0_i32_104_r1 : BitVec 32 := 0#32
  let v109_r1 : BitVec 32 := Scalar.addi arg20_r1 c0_i32_104_r1
  let true_111_r1 : BitVec 1 := 1#1
  let c1_i32_110_r1 : BitVec 32 := 1#32
  let v115_r1 : BitVec 32 := Scalar.addi arg20_r1 c1_i32_110_r1
  let v116_r1 : BitVec 32 := Scalar.select true_111_r1 v115_r1 arg20_r1
  let c8_i32_112_r1 : BitVec 32 := 8#32
  let v117_r1 : BitVec 1 := Scalar.cmpi .eq v116_r1 c8_i32_112_r1
  let c0_i32_113_r1 : BitVec 32 := 0#32
  let v118_r1 : BitVec 32 := Scalar.select v117_r1 c0_i32_113_r1 v116_r1
  let c0_i32_114_r1 : BitVec 32 := 0#32
  let v119_r1 : BitVec 32 := Scalar.addi v118_r1 c0_i32_114_r1
  let v125_r1 : BitVec 1 := Scalar.cmpi .ne v109_r1 v119_r1
  let c0_i32_78_r1 : BitVec 32 := 0#32
  let c1_i32_80_r1 : BitVec 32 := 1#32
  let arg17_r1 : BitVec 32 := Scf.iv c0_i32_78_r1 c1_i32_80_r1 k0_t2
  let c7_i32_120_r1 : BitVec 32 := 7#32
  let v126_r1 : BitVec 1 := Scalar.cmpi .sge arg17_r1 c7_i32_120_r1
  let true_121_r1 : BitVec 1 := 1#1
  let v127_r1 : BitVec 1 := Scalar.xori v126_r1 true_121_r1
  let v128_r1 : BitVec 1 := Scalar.andi v125_r1 v127_r1
  let true_122_r1 : BitVec 1 := 1#1
  let v129_r1 : BitVec 1 := Scalar.andi v128_r1 true_122_r1
  let v130_r1 : BitVec 32 := Scalar.extui v129_r1
  let c0_i32_123_r1 : BitVec 32 := 0#32
  let v131_r1 : BitVec 1 := Scalar.cmpi .ne v130_r1 c0_i32_123_r1
  v131_r1

def k0_off32 (arg18_r1 : BitVec 32) : Fin 3 → Nat :=
  let c2_i32_155_r1 : BitVec 32 := 2#32
  let v185_r1 : BitVec 32 := Scalar.remui arg18_r1 c2_i32_155_r1
  let c0_i32_157_r1 : BitVec 32 := 0#32
  let c0_i32_158_r1 : BitVec 32 := 0#32
  ![v185_r1.toNat, 0, 0]
def k0_off33 (arg20_r1 : BitVec 32) : Fin 2 → Nat :=
  let c512_i32_156_r1 : BitVec 32 := 512#32
  let true_111_r1 : BitVec 1 := 1#1
  let c1_i32_110_r1 : BitVec 32 := 1#32
  let v115_r1 : BitVec 32 := Scalar.addi arg20_r1 c1_i32_110_r1
  let v116_r1 : BitVec 32 := Scalar.select true_111_r1 v115_r1 arg20_r1
  let c8_i32_112_r1 : BitVec 32 := 8#32
  let v117_r1 : BitVec 1 := Scalar.cmpi .eq v116_r1 c8_i32_112_r1
  let c0_i32_113_r1 : BitVec 32 := 0#32
  let v118_r1 : BitVec 32 := Scalar.select v117_r1 c0_i32_113_r1 v116_r1
  let c0_i32_114_r1 : BitVec 32 := 0#32
  let v119_r1 : BitVec 32 := Scalar.addi v118_r1 c0_i32_114_r1
  let v186_r1 : BitVec 32 := Scalar.muli c512_i32_156_r1 v119_r1
  let c0_i32_159_r1 : BitVec 32 := 0#32
  ![v186_r1.toNat, 0]
def k0_off34 (arg19_r1 : BitVec 32) : Fin 1 → Nat :=
  let c2_i32_156_r1 : BitVec 32 := 2#32
  let v186_r1 : BitVec 32 := Scalar.remui arg19_r1 c2_i32_156_r1
  ![v186_r1.toNat]
def k0_cond13 (k0_t2 : Fin k0_t2_loop.trips) (arg20_r1 : BitVec 32) : BitVec 1 :=
  let c0_i32_104_r1 : BitVec 32 := 0#32
  let v109_r1 : BitVec 32 := Scalar.addi arg20_r1 c0_i32_104_r1
  let true_106_r1 : BitVec 1 := 1#1
  let c1_i32_105_r1 : BitVec 32 := 1#32
  let v110_r1 : BitVec 32 := Scalar.subi arg20_r1 c1_i32_105_r1
  let v111_r1 : BitVec 32 := Scalar.select true_106_r1 v110_r1 arg20_r1
  let c_m1_i32_107_r1 : BitVec 32 := 4294967295#32
  let v112_r1 : BitVec 1 := Scalar.cmpi .eq v111_r1 c_m1_i32_107_r1
  let c7_i32_108_r1 : BitVec 32 := 7#32
  let v113_r1 : BitVec 32 := Scalar.select v112_r1 c7_i32_108_r1 v111_r1
  let c0_i32_109_r1 : BitVec 32 := 0#32
  let v114_r1 : BitVec 32 := Scalar.addi v113_r1 c0_i32_109_r1
  let v135_r1 : BitVec 1 := Scalar.cmpi .ne v109_r1 v114_r1
  let c0_i32_78_r1 : BitVec 32 := 0#32
  let c1_i32_80_r1 : BitVec 32 := 1#32
  let arg17_r1 : BitVec 32 := Scf.iv c0_i32_78_r1 c1_i32_80_r1 k0_t2
  let c0_i32_102_r1 : BitVec 32 := 0#32
  let v107_r1 : BitVec 1 := Scalar.cmpi .eq arg17_r1 c0_i32_102_r1
  let v136_r1 : BitVec 1 := Scalar.ori v135_r1 v107_r1
  let c0_i32_126_r1 : BitVec 32 := 0#32
  let v137_r1 : BitVec 1 := Scalar.cmpi .sge arg17_r1 c0_i32_126_r1
  let v138_r1 : BitVec 1 := Scalar.andi v136_r1 v137_r1
  let v139_r1 : BitVec 32 := Scalar.extui v138_r1
  let c0_i32_127_r1 : BitVec 32 := 0#32
  let v140_r1 : BitVec 1 := Scalar.cmpi .ne v139_r1 c0_i32_127_r1
  v140_r1

def k0_off35 (arg19_r1 : BitVec 32) : Fin 3 → Nat :=
  let c2_i32_156_r1 : BitVec 32 := 2#32
  let v186_r1 : BitVec 32 := Scalar.remui arg19_r1 c2_i32_156_r1
  let c0_i32_157_r1 : BitVec 32 := 0#32
  let c0_i32_158_r1 : BitVec 32 := 0#32
  ![v186_r1.toNat, 0, 0]
def k0_off36 (arg20_r1 : BitVec 32) : Fin 2 → Nat :=
  let c512_i32_155_r1 : BitVec 32 := 512#32
  let c0_i32_104_r1 : BitVec 32 := 0#32
  let v109_r1 : BitVec 32 := Scalar.addi arg20_r1 c0_i32_104_r1
  let v185_r1 : BitVec 32 := Scalar.muli c512_i32_155_r1 v109_r1
  let c0_i32_159_r1 : BitVec 32 := 0#32
  ![v185_r1.toNat, 0]
def k0_off37 (arg20_r1 : BitVec 32) : Fin 2 → Nat :=
  let c0_i32_104_r1 : BitVec 32 := 0#32
  let v109_r1 : BitVec 32 := Scalar.addi arg20_r1 c0_i32_104_r1
  let c512_i32_r1 : BitVec 32 := 512#32
  let v142_r1 : BitVec 32 := Scalar.muli v109_r1 c512_i32_r1
  let v143_r1 : Index := Scalar.indexCast v142_r1
  let c0_129_r1 : Index := 0#32
  ![v143_r1.toNat, 0]
def k0_off38 (arg19_r1 : BitVec 32) : Fin 3 → Nat :=
  let c2_i32_128_r1 : BitVec 32 := 2#32
  let v141_r1 : BitVec 32 := Scalar.remui arg19_r1 c2_i32_128_r1
  let v147_r1 : Index := Scalar.indexCast v141_r1
  let c0_133_r1 : Index := 0#32
  let c0_134_r1 : Index := 0#32
  ![v147_r1.toNat, 0, 0]

def k0_chk8 (arg19_r1 : BitVec 32) : Prop :=
  (∀ a, (k0_off38 arg19_r1) a + S1x512x4096.size a ≤ S2x512x4096.size a)
theorem k0_off38_inb : ∀ (arg19_r1 : BitVec 32) (k0_hw8 : k0_chk8 arg19_r1), ∀ a, (k0_off38 arg19_r1) a + S1x512x4096.size a ≤ S2x512x4096.size a := fun arg19_r1 k0_hw8 => k0_hw8

def k0_off39 (arg20_r1 : BitVec 32) : Fin 2 → Nat :=
  let c0_i32_104_r1 : BitVec 32 := 0#32
  let v109_r1 : BitVec 32 := Scalar.addi arg20_r1 c0_i32_104_r1
  let c512_i32_r1 : BitVec 32 := 512#32
  let v142_r1 : BitVec 32 := Scalar.muli v109_r1 c512_i32_r1
  let v152_r1 : Index := Scalar.indexCast v142_r1
  let c0_138_r1 : Index := 0#32
  ![v152_r1.toNat, 0]

def k0_chk7 (k0_t2 : Fin k0_t2_loop.trips) (arg18_r1 : BitVec 32) (arg19_r1 : BitVec 32) (arg20_r1 : BitVec 32) : Prop :=
  (∀ (k0_h12 : k0_cond12 k0_t2 arg20_r1 = 1#1), ∀ a, (k0_off31 arg18_r1) a + S1.size a ≤ S2.size a) ∧
  (∀ (k0_h12 : k0_cond12 k0_t2 arg20_r1 = 1#1), ∀ a, (k0_off32 arg18_r1) a + S1x512x4096.size a ≤ S2x512x4096.size a) ∧
  (∀ (k0_h12 : k0_cond12 k0_t2 arg20_r1 = 1#1), ∀ a, (k0_off33 arg20_r1) a + S512x4096.size a ≤ S4096x4096.size a) ∧
  (∀ (k0_h12 : k0_cond12 k0_t2 arg20_r1 = 1#1), ∀ (hinb : ∀ a, (k0_off33 arg20_r1) a + S512x4096.size a ≤ S4096x4096.size a), (Rect.unit (s := S4096x4096) (k0_off33 arg20_r1) S512x4096.size hinb).WholeWords (EltTy.packing .bf16)) ∧
  (∀ (k0_h12 : k0_cond12 k0_t2 arg20_r1 = 1#1), ∀ (hinb : ∀ a, (k0_off32 arg18_r1) a + S1x512x4096.size a ≤ S2x512x4096.size a), (Rect.unit (s := S2x512x4096) (k0_off32 arg18_r1) S1x512x4096.size hinb).WholeWords (EltTy.packing .bf16)) ∧
  (∀ (k0_h13 : k0_cond13 k0_t2 arg20_r1 = 1#1), ∀ a, (k0_off34 arg19_r1) a + S1.size a ≤ S2.size a) ∧
  (∀ (k0_h13 : k0_cond13 k0_t2 arg20_r1 = 1#1), ∀ a, (k0_off35 arg19_r1) a + S1x512x4096.size a ≤ S2x512x4096.size a) ∧
  (∀ (k0_h13 : k0_cond13 k0_t2 arg20_r1 = 1#1), ∀ a, (k0_off36 arg20_r1) a + S512x4096.size a ≤ S4096x4096.size a) ∧
  (∀ (k0_h13 : k0_cond13 k0_t2 arg20_r1 = 1#1), ∀ (hinb : ∀ a, (k0_off36 arg20_r1) a + S512x4096.size a ≤ S4096x4096.size a), (Rect.unit (s := S4096x4096) (k0_off36 arg20_r1) S512x4096.size hinb).WholeWords (EltTy.packing .bf16)) ∧
  (∀ (k0_h13 : k0_cond13 k0_t2 arg20_r1 = 1#1), ∀ (hinb : ∀ a, (k0_off35 arg19_r1) a + S1x512x4096.size a ≤ S2x512x4096.size a), (Rect.unit (s := S2x512x4096) (k0_off35 arg19_r1) S1x512x4096.size hinb).WholeWords (EltTy.packing .bf16)) ∧
  (∀ a, (k0_off37 arg20_r1) a + S512x4096.size a ≤ S4096x4096.size a) ∧
  (∀ a, (k0_off39 arg20_r1) a + S512x16.size a ≤ S4096x16.size a)
theorem k0_off31_inb : ∀ (k0_t2 : Fin k0_t2_loop.trips) (arg18_r1 : BitVec 32) (arg19_r1 : BitVec 32) (arg20_r1 : BitVec 32) (k0_hw7 : k0_chk7 k0_t2 arg18_r1 arg19_r1 arg20_r1), ∀ (k0_h12 : k0_cond12 k0_t2 arg20_r1 = 1#1), ∀ a, (k0_off31 arg18_r1) a + S1.size a ≤ S2.size a := fun k0_t2 arg18_r1 arg19_r1 arg20_r1 k0_hw7 k0_h12 => k0_hw7.1 k0_h12
theorem k0_off32_inb : ∀ (k0_t2 : Fin k0_t2_loop.trips) (arg18_r1 : BitVec 32) (arg19_r1 : BitVec 32) (arg20_r1 : BitVec 32) (k0_hw7 : k0_chk7 k0_t2 arg18_r1 arg19_r1 arg20_r1), ∀ (k0_h12 : k0_cond12 k0_t2 arg20_r1 = 1#1), ∀ a, (k0_off32 arg18_r1) a + S1x512x4096.size a ≤ S2x512x4096.size a := fun k0_t2 arg18_r1 arg19_r1 arg20_r1 k0_hw7 k0_h12 => k0_hw7.2.1 k0_h12
theorem k0_off33_inb : ∀ (k0_t2 : Fin k0_t2_loop.trips) (arg18_r1 : BitVec 32) (arg19_r1 : BitVec 32) (arg20_r1 : BitVec 32) (k0_hw7 : k0_chk7 k0_t2 arg18_r1 arg19_r1 arg20_r1), ∀ (k0_h12 : k0_cond12 k0_t2 arg20_r1 = 1#1), ∀ a, (k0_off33 arg20_r1) a + S512x4096.size a ≤ S4096x4096.size a := fun k0_t2 arg18_r1 arg19_r1 arg20_r1 k0_hw7 k0_h12 => k0_hw7.2.2.1 k0_h12
theorem k0_off33_wordsbf16 : ∀ (k0_t2 : Fin k0_t2_loop.trips) (arg18_r1 : BitVec 32) (arg19_r1 : BitVec 32) (arg20_r1 : BitVec 32) (k0_hw7 : k0_chk7 k0_t2 arg18_r1 arg19_r1 arg20_r1), ∀ (k0_h12 : k0_cond12 k0_t2 arg20_r1 = 1#1), (Rect.unit (s := S4096x4096) (k0_off33 arg20_r1) S512x4096.size (k0_off33_inb k0_t2 arg18_r1 arg19_r1 arg20_r1 k0_hw7 k0_h12)).WholeWords (EltTy.packing .bf16) := fun k0_t2 arg18_r1 arg19_r1 arg20_r1 k0_hw7 k0_h12 => k0_hw7.2.2.2.1 k0_h12 (k0_off33_inb k0_t2 arg18_r1 arg19_r1 arg20_r1 k0_hw7 k0_h12)
theorem k0_off32_wordsbf16 : ∀ (k0_t2 : Fin k0_t2_loop.trips) (arg18_r1 : BitVec 32) (arg19_r1 : BitVec 32) (arg20_r1 : BitVec 32) (k0_hw7 : k0_chk7 k0_t2 arg18_r1 arg19_r1 arg20_r1), ∀ (k0_h12 : k0_cond12 k0_t2 arg20_r1 = 1#1), (Rect.unit (s := S2x512x4096) (k0_off32 arg18_r1) S1x512x4096.size (k0_off32_inb k0_t2 arg18_r1 arg19_r1 arg20_r1 k0_hw7 k0_h12)).WholeWords (EltTy.packing .bf16) := fun k0_t2 arg18_r1 arg19_r1 arg20_r1 k0_hw7 k0_h12 => k0_hw7.2.2.2.2.1 k0_h12 (k0_off32_inb k0_t2 arg18_r1 arg19_r1 arg20_r1 k0_hw7 k0_h12)
theorem k0_off34_inb : ∀ (k0_t2 : Fin k0_t2_loop.trips) (arg18_r1 : BitVec 32) (arg19_r1 : BitVec 32) (arg20_r1 : BitVec 32) (k0_hw7 : k0_chk7 k0_t2 arg18_r1 arg19_r1 arg20_r1), ∀ (k0_h13 : k0_cond13 k0_t2 arg20_r1 = 1#1), ∀ a, (k0_off34 arg19_r1) a + S1.size a ≤ S2.size a := fun k0_t2 arg18_r1 arg19_r1 arg20_r1 k0_hw7 k0_h13 => k0_hw7.2.2.2.2.2.1 k0_h13
theorem k0_off35_inb : ∀ (k0_t2 : Fin k0_t2_loop.trips) (arg18_r1 : BitVec 32) (arg19_r1 : BitVec 32) (arg20_r1 : BitVec 32) (k0_hw7 : k0_chk7 k0_t2 arg18_r1 arg19_r1 arg20_r1), ∀ (k0_h13 : k0_cond13 k0_t2 arg20_r1 = 1#1), ∀ a, (k0_off35 arg19_r1) a + S1x512x4096.size a ≤ S2x512x4096.size a := fun k0_t2 arg18_r1 arg19_r1 arg20_r1 k0_hw7 k0_h13 => k0_hw7.2.2.2.2.2.2.1 k0_h13
theorem k0_off36_inb : ∀ (k0_t2 : Fin k0_t2_loop.trips) (arg18_r1 : BitVec 32) (arg19_r1 : BitVec 32) (arg20_r1 : BitVec 32) (k0_hw7 : k0_chk7 k0_t2 arg18_r1 arg19_r1 arg20_r1), ∀ (k0_h13 : k0_cond13 k0_t2 arg20_r1 = 1#1), ∀ a, (k0_off36 arg20_r1) a + S512x4096.size a ≤ S4096x4096.size a := fun k0_t2 arg18_r1 arg19_r1 arg20_r1 k0_hw7 k0_h13 => k0_hw7.2.2.2.2.2.2.2.1 k0_h13
theorem k0_off36_wordsbf16 : ∀ (k0_t2 : Fin k0_t2_loop.trips) (arg18_r1 : BitVec 32) (arg19_r1 : BitVec 32) (arg20_r1 : BitVec 32) (k0_hw7 : k0_chk7 k0_t2 arg18_r1 arg19_r1 arg20_r1), ∀ (k0_h13 : k0_cond13 k0_t2 arg20_r1 = 1#1), (Rect.unit (s := S4096x4096) (k0_off36 arg20_r1) S512x4096.size (k0_off36_inb k0_t2 arg18_r1 arg19_r1 arg20_r1 k0_hw7 k0_h13)).WholeWords (EltTy.packing .bf16) := fun k0_t2 arg18_r1 arg19_r1 arg20_r1 k0_hw7 k0_h13 => k0_hw7.2.2.2.2.2.2.2.2.1 k0_h13 (k0_off36_inb k0_t2 arg18_r1 arg19_r1 arg20_r1 k0_hw7 k0_h13)
theorem k0_off35_wordsbf16 : ∀ (k0_t2 : Fin k0_t2_loop.trips) (arg18_r1 : BitVec 32) (arg19_r1 : BitVec 32) (arg20_r1 : BitVec 32) (k0_hw7 : k0_chk7 k0_t2 arg18_r1 arg19_r1 arg20_r1), ∀ (k0_h13 : k0_cond13 k0_t2 arg20_r1 = 1#1), (Rect.unit (s := S2x512x4096) (k0_off35 arg19_r1) S1x512x4096.size (k0_off35_inb k0_t2 arg18_r1 arg19_r1 arg20_r1 k0_hw7 k0_h13)).WholeWords (EltTy.packing .bf16) := fun k0_t2 arg18_r1 arg19_r1 arg20_r1 k0_hw7 k0_h13 => k0_hw7.2.2.2.2.2.2.2.2.2.1 k0_h13 (k0_off35_inb k0_t2 arg18_r1 arg19_r1 arg20_r1 k0_hw7 k0_h13)
theorem k0_off37_inb : ∀ (k0_t2 : Fin k0_t2_loop.trips) (arg18_r1 : BitVec 32) (arg19_r1 : BitVec 32) (arg20_r1 : BitVec 32) (k0_hw7 : k0_chk7 k0_t2 arg18_r1 arg19_r1 arg20_r1), ∀ a, (k0_off37 arg20_r1) a + S512x4096.size a ≤ S4096x4096.size a := fun k0_t2 arg18_r1 arg19_r1 arg20_r1 k0_hw7 => k0_hw7.2.2.2.2.2.2.2.2.2.2.1
theorem k0_off39_inb : ∀ (k0_t2 : Fin k0_t2_loop.trips) (arg18_r1 : BitVec 32) (arg19_r1 : BitVec 32) (arg20_r1 : BitVec 32) (k0_hw7 : k0_chk7 k0_t2 arg18_r1 arg19_r1 arg20_r1), ∀ a, (k0_off39 arg20_r1) a + S512x16.size a ≤ S4096x16.size a := fun k0_t2 arg18_r1 arg19_r1 arg20_r1 k0_hw7 => k0_hw7.2.2.2.2.2.2.2.2.2.2.2

@[reducible] def k0_t3_loop : Scf.Loop 32 :=
  let c0_i32_78_r2 : BitVec 32 := 0#32
  let c8_i32_79_r2 : BitVec 32 := 8#32
  let v85_r2 : BitVec 32 := Scalar.addi c0_i32_78_r2 c8_i32_79_r2
  let c1_i32_80_r2 : BitVec 32 := 1#32
  ⟨c0_i32_78_r2, v85_r2, c1_i32_80_r2⟩
def k0_off40 (arg18_r2 : BitVec 32) : Fin 1 → Nat :=
  let c2_i32_149_r2 : BitVec 32 := 2#32
  let v179_r2 : BitVec 32 := Scalar.remui arg18_r2 c2_i32_149_r2
  ![v179_r2.toNat]
def k0_cond16 (k0_t3 : Fin k0_t3_loop.trips) (arg20_r2 : BitVec 32) : BitVec 1 :=
  let c0_i32_104_r2 : BitVec 32 := 0#32
  let v109_r2 : BitVec 32 := Scalar.addi arg20_r2 c0_i32_104_r2
  let true_111_r2 : BitVec 1 := 1#1
  let c1_i32_110_r2 : BitVec 32 := 1#32
  let v115_r2 : BitVec 32 := Scalar.addi arg20_r2 c1_i32_110_r2
  let v116_r2 : BitVec 32 := Scalar.select true_111_r2 v115_r2 arg20_r2
  let c8_i32_112_r2 : BitVec 32 := 8#32
  let v117_r2 : BitVec 1 := Scalar.cmpi .eq v116_r2 c8_i32_112_r2
  let c0_i32_113_r2 : BitVec 32 := 0#32
  let v118_r2 : BitVec 32 := Scalar.select v117_r2 c0_i32_113_r2 v116_r2
  let c0_i32_114_r2 : BitVec 32 := 0#32
  let v119_r2 : BitVec 32 := Scalar.addi v118_r2 c0_i32_114_r2
  let v125_r2 : BitVec 1 := Scalar.cmpi .ne v109_r2 v119_r2
  let c0_i32_78_r2 : BitVec 32 := 0#32
  let c1_i32_80_r2 : BitVec 32 := 1#32
  let arg17_r2 : BitVec 32 := Scf.iv c0_i32_78_r2 c1_i32_80_r2 k0_t3
  let c7_i32_120_r2 : BitVec 32 := 7#32
  let v126_r2 : BitVec 1 := Scalar.cmpi .sge arg17_r2 c7_i32_120_r2
  let true_121_r2 : BitVec 1 := 1#1
  let v127_r2 : BitVec 1 := Scalar.xori v126_r2 true_121_r2
  let v128_r2 : BitVec 1 := Scalar.andi v125_r2 v127_r2
  let true_122_r2 : BitVec 1 := 1#1
  let v129_r2 : BitVec 1 := Scalar.andi v128_r2 true_122_r2
  let v130_r2 : BitVec 32 := Scalar.extui v129_r2
  let c0_i32_123_r2 : BitVec 32 := 0#32
  let v131_r2 : BitVec 1 := Scalar.cmpi .ne v130_r2 c0_i32_123_r2
  v131_r2

def k0_off41 (arg18_r2 : BitVec 32) : Fin 3 → Nat :=
  let c2_i32_149_r2 : BitVec 32 := 2#32
  let v179_r2 : BitVec 32 := Scalar.remui arg18_r2 c2_i32_149_r2
  let c0_i32_151_r2 : BitVec 32 := 0#32
  let c0_i32_152_r2 : BitVec 32 := 0#32
  ![v179_r2.toNat, 0, 0]
def k0_off42 (arg20_r2 : BitVec 32) : Fin 2 → Nat :=
  let c512_i32_150_r2 : BitVec 32 := 512#32
  let true_111_r2 : BitVec 1 := 1#1
  let c1_i32_110_r2 : BitVec 32 := 1#32
  let v115_r2 : BitVec 32 := Scalar.addi arg20_r2 c1_i32_110_r2
  let v116_r2 : BitVec 32 := Scalar.select true_111_r2 v115_r2 arg20_r2
  let c8_i32_112_r2 : BitVec 32 := 8#32
  let v117_r2 : BitVec 1 := Scalar.cmpi .eq v116_r2 c8_i32_112_r2
  let c0_i32_113_r2 : BitVec 32 := 0#32
  let v118_r2 : BitVec 32 := Scalar.select v117_r2 c0_i32_113_r2 v116_r2
  let c0_i32_114_r2 : BitVec 32 := 0#32
  let v119_r2 : BitVec 32 := Scalar.addi v118_r2 c0_i32_114_r2
  let v180_r2 : BitVec 32 := Scalar.muli c512_i32_150_r2 v119_r2
  let c0_i32_153_r2 : BitVec 32 := 0#32
  ![v180_r2.toNat, 0]
def k0_off43 (arg19_r2 : BitVec 32) : Fin 1 → Nat :=
  let c2_i32_150_r2 : BitVec 32 := 2#32
  let v180_r2 : BitVec 32 := Scalar.remui arg19_r2 c2_i32_150_r2
  ![v180_r2.toNat]
def k0_cond17 (k0_t3 : Fin k0_t3_loop.trips) (arg20_r2 : BitVec 32) : BitVec 1 :=
  let c0_i32_104_r2 : BitVec 32 := 0#32
  let v109_r2 : BitVec 32 := Scalar.addi arg20_r2 c0_i32_104_r2
  let true_106_r2 : BitVec 1 := 1#1
  let c1_i32_105_r2 : BitVec 32 := 1#32
  let v110_r2 : BitVec 32 := Scalar.subi arg20_r2 c1_i32_105_r2
  let v111_r2 : BitVec 32 := Scalar.select true_106_r2 v110_r2 arg20_r2
  let c_m1_i32_107_r2 : BitVec 32 := 4294967295#32
  let v112_r2 : BitVec 1 := Scalar.cmpi .eq v111_r2 c_m1_i32_107_r2
  let c7_i32_108_r2 : BitVec 32 := 7#32
  let v113_r2 : BitVec 32 := Scalar.select v112_r2 c7_i32_108_r2 v111_r2
  let c0_i32_109_r2 : BitVec 32 := 0#32
  let v114_r2 : BitVec 32 := Scalar.addi v113_r2 c0_i32_109_r2
  let v135_r2 : BitVec 1 := Scalar.cmpi .ne v109_r2 v114_r2
  let c0_i32_78_r2 : BitVec 32 := 0#32
  let c1_i32_80_r2 : BitVec 32 := 1#32
  let arg17_r2 : BitVec 32 := Scf.iv c0_i32_78_r2 c1_i32_80_r2 k0_t3
  let c0_i32_102_r2 : BitVec 32 := 0#32
  let v107_r2 : BitVec 1 := Scalar.cmpi .eq arg17_r2 c0_i32_102_r2
  let v136_r2 : BitVec 1 := Scalar.ori v135_r2 v107_r2
  let c0_i32_126_r2 : BitVec 32 := 0#32
  let v137_r2 : BitVec 1 := Scalar.cmpi .sge arg17_r2 c0_i32_126_r2
  let v138_r2 : BitVec 1 := Scalar.andi v136_r2 v137_r2
  let v139_r2 : BitVec 32 := Scalar.extui v138_r2
  let c0_i32_127_r2 : BitVec 32 := 0#32
  let v140_r2 : BitVec 1 := Scalar.cmpi .ne v139_r2 c0_i32_127_r2
  v140_r2

def k0_off44 (arg19_r2 : BitVec 32) : Fin 3 → Nat :=
  let c2_i32_150_r2 : BitVec 32 := 2#32
  let v180_r2 : BitVec 32 := Scalar.remui arg19_r2 c2_i32_150_r2
  let c0_i32_151_r2 : BitVec 32 := 0#32
  let c0_i32_152_r2 : BitVec 32 := 0#32
  ![v180_r2.toNat, 0, 0]
def k0_off45 (arg20_r2 : BitVec 32) : Fin 2 → Nat :=
  let c512_i32_149_r2 : BitVec 32 := 512#32
  let c0_i32_104_r2 : BitVec 32 := 0#32
  let v109_r2 : BitVec 32 := Scalar.addi arg20_r2 c0_i32_104_r2
  let v179_r2 : BitVec 32 := Scalar.muli c512_i32_149_r2 v109_r2
  let c0_i32_153_r2 : BitVec 32 := 0#32
  ![v179_r2.toNat, 0]
def k0_off46 (arg20_r2 : BitVec 32) : Fin 2 → Nat :=
  let c0_i32_104_r2 : BitVec 32 := 0#32
  let v109_r2 : BitVec 32 := Scalar.addi arg20_r2 c0_i32_104_r2
  let c512_i32_r2 : BitVec 32 := 512#32
  let v142_r2 : BitVec 32 := Scalar.muli v109_r2 c512_i32_r2
  let v143_r2 : Index := Scalar.indexCast v142_r2
  let c0_129_r2 : Index := 0#32
  ![v143_r2.toNat, 0]
def k0_off47 (arg20_r2 : BitVec 32) : Fin 2 → Nat :=
  let c0_i32_104_r2 : BitVec 32 := 0#32
  let v109_r2 : BitVec 32 := Scalar.addi arg20_r2 c0_i32_104_r2
  let c512_i32_r2 : BitVec 32 := 512#32
  let v142_r2 : BitVec 32 := Scalar.muli v109_r2 c512_i32_r2
  let v147_r2 : Index := Scalar.indexCast v142_r2
  let c0_133_r2 : Index := 0#32
  ![v147_r2.toNat, 0]

def k0_chk9 (k0_t3 : Fin k0_t3_loop.trips) (arg18_r2 : BitVec 32) (arg19_r2 : BitVec 32) (arg20_r2 : BitVec 32) : Prop :=
  (∀ (k0_h16 : k0_cond16 k0_t3 arg20_r2 = 1#1), ∀ a, (k0_off40 arg18_r2) a + S1.size a ≤ S2.size a) ∧
  (∀ (k0_h16 : k0_cond16 k0_t3 arg20_r2 = 1#1), ∀ a, (k0_off41 arg18_r2) a + S1x512x4096.size a ≤ S2x512x4096.size a) ∧
  (∀ (k0_h16 : k0_cond16 k0_t3 arg20_r2 = 1#1), ∀ a, (k0_off42 arg20_r2) a + S512x4096.size a ≤ S4096x4096.size a) ∧
  (∀ (k0_h16 : k0_cond16 k0_t3 arg20_r2 = 1#1), ∀ (hinb : ∀ a, (k0_off42 arg20_r2) a + S512x4096.size a ≤ S4096x4096.size a), (Rect.unit (s := S4096x4096) (k0_off42 arg20_r2) S512x4096.size hinb).WholeWords (EltTy.packing .bf16)) ∧
  (∀ (k0_h16 : k0_cond16 k0_t3 arg20_r2 = 1#1), ∀ (hinb : ∀ a, (k0_off41 arg18_r2) a + S1x512x4096.size a ≤ S2x512x4096.size a), (Rect.unit (s := S2x512x4096) (k0_off41 arg18_r2) S1x512x4096.size hinb).WholeWords (EltTy.packing .bf16)) ∧
  (∀ (k0_h17 : k0_cond17 k0_t3 arg20_r2 = 1#1), ∀ a, (k0_off43 arg19_r2) a + S1.size a ≤ S2.size a) ∧
  (∀ (k0_h17 : k0_cond17 k0_t3 arg20_r2 = 1#1), ∀ a, (k0_off44 arg19_r2) a + S1x512x4096.size a ≤ S2x512x4096.size a) ∧
  (∀ (k0_h17 : k0_cond17 k0_t3 arg20_r2 = 1#1), ∀ a, (k0_off45 arg20_r2) a + S512x4096.size a ≤ S4096x4096.size a) ∧
  (∀ (k0_h17 : k0_cond17 k0_t3 arg20_r2 = 1#1), ∀ (hinb : ∀ a, (k0_off45 arg20_r2) a + S512x4096.size a ≤ S4096x4096.size a), (Rect.unit (s := S4096x4096) (k0_off45 arg20_r2) S512x4096.size hinb).WholeWords (EltTy.packing .bf16)) ∧
  (∀ (k0_h17 : k0_cond17 k0_t3 arg20_r2 = 1#1), ∀ (hinb : ∀ a, (k0_off44 arg19_r2) a + S1x512x4096.size a ≤ S2x512x4096.size a), (Rect.unit (s := S2x512x4096) (k0_off44 arg19_r2) S1x512x4096.size hinb).WholeWords (EltTy.packing .bf16)) ∧
  (∀ a, (k0_off46 arg20_r2) a + S512x4096.size a ≤ S4096x4096.size a) ∧
  (∀ a, (k0_off47 arg20_r2) a + S512x16.size a ≤ S4096x16.size a)
theorem k0_off40_inb : ∀ (k0_t3 : Fin k0_t3_loop.trips) (arg18_r2 : BitVec 32) (arg19_r2 : BitVec 32) (arg20_r2 : BitVec 32) (k0_hw9 : k0_chk9 k0_t3 arg18_r2 arg19_r2 arg20_r2), ∀ (k0_h16 : k0_cond16 k0_t3 arg20_r2 = 1#1), ∀ a, (k0_off40 arg18_r2) a + S1.size a ≤ S2.size a := fun k0_t3 arg18_r2 arg19_r2 arg20_r2 k0_hw9 k0_h16 => k0_hw9.1 k0_h16
theorem k0_off41_inb : ∀ (k0_t3 : Fin k0_t3_loop.trips) (arg18_r2 : BitVec 32) (arg19_r2 : BitVec 32) (arg20_r2 : BitVec 32) (k0_hw9 : k0_chk9 k0_t3 arg18_r2 arg19_r2 arg20_r2), ∀ (k0_h16 : k0_cond16 k0_t3 arg20_r2 = 1#1), ∀ a, (k0_off41 arg18_r2) a + S1x512x4096.size a ≤ S2x512x4096.size a := fun k0_t3 arg18_r2 arg19_r2 arg20_r2 k0_hw9 k0_h16 => k0_hw9.2.1 k0_h16
theorem k0_off42_inb : ∀ (k0_t3 : Fin k0_t3_loop.trips) (arg18_r2 : BitVec 32) (arg19_r2 : BitVec 32) (arg20_r2 : BitVec 32) (k0_hw9 : k0_chk9 k0_t3 arg18_r2 arg19_r2 arg20_r2), ∀ (k0_h16 : k0_cond16 k0_t3 arg20_r2 = 1#1), ∀ a, (k0_off42 arg20_r2) a + S512x4096.size a ≤ S4096x4096.size a := fun k0_t3 arg18_r2 arg19_r2 arg20_r2 k0_hw9 k0_h16 => k0_hw9.2.2.1 k0_h16
theorem k0_off42_wordsbf16 : ∀ (k0_t3 : Fin k0_t3_loop.trips) (arg18_r2 : BitVec 32) (arg19_r2 : BitVec 32) (arg20_r2 : BitVec 32) (k0_hw9 : k0_chk9 k0_t3 arg18_r2 arg19_r2 arg20_r2), ∀ (k0_h16 : k0_cond16 k0_t3 arg20_r2 = 1#1), (Rect.unit (s := S4096x4096) (k0_off42 arg20_r2) S512x4096.size (k0_off42_inb k0_t3 arg18_r2 arg19_r2 arg20_r2 k0_hw9 k0_h16)).WholeWords (EltTy.packing .bf16) := fun k0_t3 arg18_r2 arg19_r2 arg20_r2 k0_hw9 k0_h16 => k0_hw9.2.2.2.1 k0_h16 (k0_off42_inb k0_t3 arg18_r2 arg19_r2 arg20_r2 k0_hw9 k0_h16)
theorem k0_off41_wordsbf16 : ∀ (k0_t3 : Fin k0_t3_loop.trips) (arg18_r2 : BitVec 32) (arg19_r2 : BitVec 32) (arg20_r2 : BitVec 32) (k0_hw9 : k0_chk9 k0_t3 arg18_r2 arg19_r2 arg20_r2), ∀ (k0_h16 : k0_cond16 k0_t3 arg20_r2 = 1#1), (Rect.unit (s := S2x512x4096) (k0_off41 arg18_r2) S1x512x4096.size (k0_off41_inb k0_t3 arg18_r2 arg19_r2 arg20_r2 k0_hw9 k0_h16)).WholeWords (EltTy.packing .bf16) := fun k0_t3 arg18_r2 arg19_r2 arg20_r2 k0_hw9 k0_h16 => k0_hw9.2.2.2.2.1 k0_h16 (k0_off41_inb k0_t3 arg18_r2 arg19_r2 arg20_r2 k0_hw9 k0_h16)
theorem k0_off43_inb : ∀ (k0_t3 : Fin k0_t3_loop.trips) (arg18_r2 : BitVec 32) (arg19_r2 : BitVec 32) (arg20_r2 : BitVec 32) (k0_hw9 : k0_chk9 k0_t3 arg18_r2 arg19_r2 arg20_r2), ∀ (k0_h17 : k0_cond17 k0_t3 arg20_r2 = 1#1), ∀ a, (k0_off43 arg19_r2) a + S1.size a ≤ S2.size a := fun k0_t3 arg18_r2 arg19_r2 arg20_r2 k0_hw9 k0_h17 => k0_hw9.2.2.2.2.2.1 k0_h17
theorem k0_off44_inb : ∀ (k0_t3 : Fin k0_t3_loop.trips) (arg18_r2 : BitVec 32) (arg19_r2 : BitVec 32) (arg20_r2 : BitVec 32) (k0_hw9 : k0_chk9 k0_t3 arg18_r2 arg19_r2 arg20_r2), ∀ (k0_h17 : k0_cond17 k0_t3 arg20_r2 = 1#1), ∀ a, (k0_off44 arg19_r2) a + S1x512x4096.size a ≤ S2x512x4096.size a := fun k0_t3 arg18_r2 arg19_r2 arg20_r2 k0_hw9 k0_h17 => k0_hw9.2.2.2.2.2.2.1 k0_h17
theorem k0_off45_inb : ∀ (k0_t3 : Fin k0_t3_loop.trips) (arg18_r2 : BitVec 32) (arg19_r2 : BitVec 32) (arg20_r2 : BitVec 32) (k0_hw9 : k0_chk9 k0_t3 arg18_r2 arg19_r2 arg20_r2), ∀ (k0_h17 : k0_cond17 k0_t3 arg20_r2 = 1#1), ∀ a, (k0_off45 arg20_r2) a + S512x4096.size a ≤ S4096x4096.size a := fun k0_t3 arg18_r2 arg19_r2 arg20_r2 k0_hw9 k0_h17 => k0_hw9.2.2.2.2.2.2.2.1 k0_h17
theorem k0_off45_wordsbf16 : ∀ (k0_t3 : Fin k0_t3_loop.trips) (arg18_r2 : BitVec 32) (arg19_r2 : BitVec 32) (arg20_r2 : BitVec 32) (k0_hw9 : k0_chk9 k0_t3 arg18_r2 arg19_r2 arg20_r2), ∀ (k0_h17 : k0_cond17 k0_t3 arg20_r2 = 1#1), (Rect.unit (s := S4096x4096) (k0_off45 arg20_r2) S512x4096.size (k0_off45_inb k0_t3 arg18_r2 arg19_r2 arg20_r2 k0_hw9 k0_h17)).WholeWords (EltTy.packing .bf16) := fun k0_t3 arg18_r2 arg19_r2 arg20_r2 k0_hw9 k0_h17 => k0_hw9.2.2.2.2.2.2.2.2.1 k0_h17 (k0_off45_inb k0_t3 arg18_r2 arg19_r2 arg20_r2 k0_hw9 k0_h17)
theorem k0_off44_wordsbf16 : ∀ (k0_t3 : Fin k0_t3_loop.trips) (arg18_r2 : BitVec 32) (arg19_r2 : BitVec 32) (arg20_r2 : BitVec 32) (k0_hw9 : k0_chk9 k0_t3 arg18_r2 arg19_r2 arg20_r2), ∀ (k0_h17 : k0_cond17 k0_t3 arg20_r2 = 1#1), (Rect.unit (s := S2x512x4096) (k0_off44 arg19_r2) S1x512x4096.size (k0_off44_inb k0_t3 arg18_r2 arg19_r2 arg20_r2 k0_hw9 k0_h17)).WholeWords (EltTy.packing .bf16) := fun k0_t3 arg18_r2 arg19_r2 arg20_r2 k0_hw9 k0_h17 => k0_hw9.2.2.2.2.2.2.2.2.2.1 k0_h17 (k0_off44_inb k0_t3 arg18_r2 arg19_r2 arg20_r2 k0_hw9 k0_h17)
theorem k0_off46_inb : ∀ (k0_t3 : Fin k0_t3_loop.trips) (arg18_r2 : BitVec 32) (arg19_r2 : BitVec 32) (arg20_r2 : BitVec 32) (k0_hw9 : k0_chk9 k0_t3 arg18_r2 arg19_r2 arg20_r2), ∀ a, (k0_off46 arg20_r2) a + S512x4096.size a ≤ S4096x4096.size a := fun k0_t3 arg18_r2 arg19_r2 arg20_r2 k0_hw9 => k0_hw9.2.2.2.2.2.2.2.2.2.2.1
theorem k0_off47_inb : ∀ (k0_t3 : Fin k0_t3_loop.trips) (arg18_r2 : BitVec 32) (arg19_r2 : BitVec 32) (arg20_r2 : BitVec 32) (k0_hw9 : k0_chk9 k0_t3 arg18_r2 arg19_r2 arg20_r2), ∀ a, (k0_off47 arg20_r2) a + S512x16.size a ≤ S4096x16.size a := fun k0_t3 arg18_r2 arg19_r2 arg20_r2 k0_hw9 => k0_hw9.2.2.2.2.2.2.2.2.2.2.2

def k0_off48 (arg19_r2 : BitVec 32) : Fin 3 → Nat :=
  let c2_i32_128_r2 : BitVec 32 := 2#32
  let v141_r2 : BitVec 32 := Scalar.remui arg19_r2 c2_i32_128_r2
  let v151_r2 : Index := Scalar.indexCast v141_r2
  let c0_134_r2 : Index := 0#32
  let c0_135_r2 : Index := 0#32
  ![v151_r2.toNat, 0, 0]

def k0_chk10 (arg19_r2 : BitVec 32) : Prop :=
  (∀ a, (k0_off48 arg19_r2) a + S1x512x4096.size a ≤ S2x512x4096.size a)
theorem k0_off48_inb : ∀ (arg19_r2 : BitVec 32) (k0_hw10 : k0_chk10 arg19_r2), ∀ a, (k0_off48 arg19_r2) a + S1x512x4096.size a ≤ S2x512x4096.size a := fun arg19_r2 k0_hw10 => k0_hw10

@[reducible] def k0_t4_loop : Scf.Loop 32 :=
  let c0_i32_78_r3 : BitVec 32 := 0#32
  let c8_i32_79_r3 : BitVec 32 := 8#32
  let v85_r3 : BitVec 32 := Scalar.addi c0_i32_78_r3 c8_i32_79_r3
  let c1_i32_80_r3 : BitVec 32 := 1#32
  ⟨c0_i32_78_r3, v85_r3, c1_i32_80_r3⟩
def k0_off49 (arg18_r3 : BitVec 32) : Fin 1 → Nat :=
  let c2_i32_155_r3 : BitVec 32 := 2#32
  let v183_r3 : BitVec 32 := Scalar.remui arg18_r3 c2_i32_155_r3
  ![v183_r3.toNat]
def k0_cond20 (k0_t4 : Fin k0_t4_loop.trips) (arg20_r3 : BitVec 32) : BitVec 1 :=
  let c0_i32_104_r3 : BitVec 32 := 0#32
  let v109_r3 : BitVec 32 := Scalar.addi arg20_r3 c0_i32_104_r3
  let true_111_r3 : BitVec 1 := 1#1
  let c1_i32_110_r3 : BitVec 32 := 1#32
  let v115_r3 : BitVec 32 := Scalar.addi arg20_r3 c1_i32_110_r3
  let v116_r3 : BitVec 32 := Scalar.select true_111_r3 v115_r3 arg20_r3
  let c8_i32_112_r3 : BitVec 32 := 8#32
  let v117_r3 : BitVec 1 := Scalar.cmpi .eq v116_r3 c8_i32_112_r3
  let c0_i32_113_r3 : BitVec 32 := 0#32
  let v118_r3 : BitVec 32 := Scalar.select v117_r3 c0_i32_113_r3 v116_r3
  let c0_i32_114_r3 : BitVec 32 := 0#32
  let v119_r3 : BitVec 32 := Scalar.addi v118_r3 c0_i32_114_r3
  let v125_r3 : BitVec 1 := Scalar.cmpi .ne v109_r3 v119_r3
  let c0_i32_78_r3 : BitVec 32 := 0#32
  let c1_i32_80_r3 : BitVec 32 := 1#32
  let arg17_r3 : BitVec 32 := Scf.iv c0_i32_78_r3 c1_i32_80_r3 k0_t4
  let c7_i32_120_r3 : BitVec 32 := 7#32
  let v126_r3 : BitVec 1 := Scalar.cmpi .sge arg17_r3 c7_i32_120_r3
  let true_121_r3 : BitVec 1 := 1#1
  let v127_r3 : BitVec 1 := Scalar.xori v126_r3 true_121_r3
  let v128_r3 : BitVec 1 := Scalar.andi v125_r3 v127_r3
  let true_122_r3 : BitVec 1 := 1#1
  let v129_r3 : BitVec 1 := Scalar.andi v128_r3 true_122_r3
  let v130_r3 : BitVec 32 := Scalar.extui v129_r3
  let c0_i32_123_r3 : BitVec 32 := 0#32
  let v131_r3 : BitVec 1 := Scalar.cmpi .ne v130_r3 c0_i32_123_r3
  v131_r3

def k0_off50 (arg18_r3 : BitVec 32) : Fin 3 → Nat :=
  let c2_i32_155_r3 : BitVec 32 := 2#32
  let v183_r3 : BitVec 32 := Scalar.remui arg18_r3 c2_i32_155_r3
  let c0_i32_157_r3 : BitVec 32 := 0#32
  let c0_i32_158_r3 : BitVec 32 := 0#32
  ![v183_r3.toNat, 0, 0]
def k0_off51 (arg20_r3 : BitVec 32) : Fin 2 → Nat :=
  let c512_i32_156_r3 : BitVec 32 := 512#32
  let true_111_r3 : BitVec 1 := 1#1
  let c1_i32_110_r3 : BitVec 32 := 1#32
  let v115_r3 : BitVec 32 := Scalar.addi arg20_r3 c1_i32_110_r3
  let v116_r3 : BitVec 32 := Scalar.select true_111_r3 v115_r3 arg20_r3
  let c8_i32_112_r3 : BitVec 32 := 8#32
  let v117_r3 : BitVec 1 := Scalar.cmpi .eq v116_r3 c8_i32_112_r3
  let c0_i32_113_r3 : BitVec 32 := 0#32
  let v118_r3 : BitVec 32 := Scalar.select v117_r3 c0_i32_113_r3 v116_r3
  let c0_i32_114_r3 : BitVec 32 := 0#32
  let v119_r3 : BitVec 32 := Scalar.addi v118_r3 c0_i32_114_r3
  let v184_r3 : BitVec 32 := Scalar.muli c512_i32_156_r3 v119_r3
  let c0_i32_159_r3 : BitVec 32 := 0#32
  ![v184_r3.toNat, 0]
def k0_off52 (arg19_r3 : BitVec 32) : Fin 1 → Nat :=
  let c2_i32_156_r3 : BitVec 32 := 2#32
  let v184_r3 : BitVec 32 := Scalar.remui arg19_r3 c2_i32_156_r3
  ![v184_r3.toNat]
def k0_cond21 (k0_t4 : Fin k0_t4_loop.trips) (arg20_r3 : BitVec 32) : BitVec 1 :=
  let c0_i32_104_r3 : BitVec 32 := 0#32
  let v109_r3 : BitVec 32 := Scalar.addi arg20_r3 c0_i32_104_r3
  let true_106_r3 : BitVec 1 := 1#1
  let c1_i32_105_r3 : BitVec 32 := 1#32
  let v110_r3 : BitVec 32 := Scalar.subi arg20_r3 c1_i32_105_r3
  let v111_r3 : BitVec 32 := Scalar.select true_106_r3 v110_r3 arg20_r3
  let c_m1_i32_107_r3 : BitVec 32 := 4294967295#32
  let v112_r3 : BitVec 1 := Scalar.cmpi .eq v111_r3 c_m1_i32_107_r3
  let c7_i32_108_r3 : BitVec 32 := 7#32
  let v113_r3 : BitVec 32 := Scalar.select v112_r3 c7_i32_108_r3 v111_r3
  let c0_i32_109_r3 : BitVec 32 := 0#32
  let v114_r3 : BitVec 32 := Scalar.addi v113_r3 c0_i32_109_r3
  let v135_r3 : BitVec 1 := Scalar.cmpi .ne v109_r3 v114_r3
  let c0_i32_78_r3 : BitVec 32 := 0#32
  let c1_i32_80_r3 : BitVec 32 := 1#32
  let arg17_r3 : BitVec 32 := Scf.iv c0_i32_78_r3 c1_i32_80_r3 k0_t4
  let c0_i32_102_r3 : BitVec 32 := 0#32
  let v107_r3 : BitVec 1 := Scalar.cmpi .eq arg17_r3 c0_i32_102_r3
  let v136_r3 : BitVec 1 := Scalar.ori v135_r3 v107_r3
  let c0_i32_126_r3 : BitVec 32 := 0#32
  let v137_r3 : BitVec 1 := Scalar.cmpi .sge arg17_r3 c0_i32_126_r3
  let v138_r3 : BitVec 1 := Scalar.andi v136_r3 v137_r3
  let v139_r3 : BitVec 32 := Scalar.extui v138_r3
  let c0_i32_127_r3 : BitVec 32 := 0#32
  let v140_r3 : BitVec 1 := Scalar.cmpi .ne v139_r3 c0_i32_127_r3
  v140_r3

def k0_off53 (arg19_r3 : BitVec 32) : Fin 3 → Nat :=
  let c2_i32_156_r3 : BitVec 32 := 2#32
  let v184_r3 : BitVec 32 := Scalar.remui arg19_r3 c2_i32_156_r3
  let c0_i32_157_r3 : BitVec 32 := 0#32
  let c0_i32_158_r3 : BitVec 32 := 0#32
  ![v184_r3.toNat, 0, 0]
def k0_off54 (arg20_r3 : BitVec 32) : Fin 2 → Nat :=
  let c512_i32_155_r3 : BitVec 32 := 512#32
  let c0_i32_104_r3 : BitVec 32 := 0#32
  let v109_r3 : BitVec 32 := Scalar.addi arg20_r3 c0_i32_104_r3
  let v183_r3 : BitVec 32 := Scalar.muli c512_i32_155_r3 v109_r3
  let c0_i32_159_r3 : BitVec 32 := 0#32
  ![v183_r3.toNat, 0]
def k0_off55 (arg20_r3 : BitVec 32) : Fin 2 → Nat :=
  let c0_i32_104_r3 : BitVec 32 := 0#32
  let v109_r3 : BitVec 32 := Scalar.addi arg20_r3 c0_i32_104_r3
  let c512_i32_r3 : BitVec 32 := 512#32
  let v142_r3 : BitVec 32 := Scalar.muli v109_r3 c512_i32_r3
  let v143_r3 : Index := Scalar.indexCast v142_r3
  let c0_129_r3 : Index := 0#32
  ![v143_r3.toNat, 0]
def k0_off56 (arg19_r3 : BitVec 32) : Fin 3 → Nat :=
  let c2_i32_128_r3 : BitVec 32 := 2#32
  let v141_r3 : BitVec 32 := Scalar.remui arg19_r3 c2_i32_128_r3
  let v147_r3 : Index := Scalar.indexCast v141_r3
  let c0_133_r3 : Index := 0#32
  let c0_134_r3 : Index := 0#32
  ![v147_r3.toNat, 0, 0]

def k0_chk12 (arg19_r3 : BitVec 32) : Prop :=
  (∀ a, (k0_off56 arg19_r3) a + S1x512x4096.size a ≤ S2x512x4096.size a)
theorem k0_off56_inb : ∀ (arg19_r3 : BitVec 32) (k0_hw12 : k0_chk12 arg19_r3), ∀ a, (k0_off56 arg19_r3) a + S1x512x4096.size a ≤ S2x512x4096.size a := fun arg19_r3 k0_hw12 => k0_hw12

def k0_off57 (arg20_r3 : BitVec 32) : Fin 2 → Nat :=
  let c0_i32_104_r3 : BitVec 32 := 0#32
  let v109_r3 : BitVec 32 := Scalar.addi arg20_r3 c0_i32_104_r3
  let c512_i32_r3 : BitVec 32 := 512#32
  let v142_r3 : BitVec 32 := Scalar.muli v109_r3 c512_i32_r3
  let v152_r3 : Index := Scalar.indexCast v142_r3
  let c0_138_r3 : Index := 0#32
  ![v152_r3.toNat, 0]

def k0_chk11 (k0_t4 : Fin k0_t4_loop.trips) (arg18_r3 : BitVec 32) (arg19_r3 : BitVec 32) (arg20_r3 : BitVec 32) : Prop :=
  (∀ (k0_h20 : k0_cond20 k0_t4 arg20_r3 = 1#1), ∀ a, (k0_off49 arg18_r3) a + S1.size a ≤ S2.size a) ∧
  (∀ (k0_h20 : k0_cond20 k0_t4 arg20_r3 = 1#1), ∀ a, (k0_off50 arg18_r3) a + S1x512x4096.size a ≤ S2x512x4096.size a) ∧
  (∀ (k0_h20 : k0_cond20 k0_t4 arg20_r3 = 1#1), ∀ a, (k0_off51 arg20_r3) a + S512x4096.size a ≤ S4096x4096.size a) ∧
  (∀ (k0_h20 : k0_cond20 k0_t4 arg20_r3 = 1#1), ∀ (hinb : ∀ a, (k0_off51 arg20_r3) a + S512x4096.size a ≤ S4096x4096.size a), (Rect.unit (s := S4096x4096) (k0_off51 arg20_r3) S512x4096.size hinb).WholeWords (EltTy.packing .bf16)) ∧
  (∀ (k0_h20 : k0_cond20 k0_t4 arg20_r3 = 1#1), ∀ (hinb : ∀ a, (k0_off50 arg18_r3) a + S1x512x4096.size a ≤ S2x512x4096.size a), (Rect.unit (s := S2x512x4096) (k0_off50 arg18_r3) S1x512x4096.size hinb).WholeWords (EltTy.packing .bf16)) ∧
  (∀ (k0_h21 : k0_cond21 k0_t4 arg20_r3 = 1#1), ∀ a, (k0_off52 arg19_r3) a + S1.size a ≤ S2.size a) ∧
  (∀ (k0_h21 : k0_cond21 k0_t4 arg20_r3 = 1#1), ∀ a, (k0_off53 arg19_r3) a + S1x512x4096.size a ≤ S2x512x4096.size a) ∧
  (∀ (k0_h21 : k0_cond21 k0_t4 arg20_r3 = 1#1), ∀ a, (k0_off54 arg20_r3) a + S512x4096.size a ≤ S4096x4096.size a) ∧
  (∀ (k0_h21 : k0_cond21 k0_t4 arg20_r3 = 1#1), ∀ (hinb : ∀ a, (k0_off54 arg20_r3) a + S512x4096.size a ≤ S4096x4096.size a), (Rect.unit (s := S4096x4096) (k0_off54 arg20_r3) S512x4096.size hinb).WholeWords (EltTy.packing .bf16)) ∧
  (∀ (k0_h21 : k0_cond21 k0_t4 arg20_r3 = 1#1), ∀ (hinb : ∀ a, (k0_off53 arg19_r3) a + S1x512x4096.size a ≤ S2x512x4096.size a), (Rect.unit (s := S2x512x4096) (k0_off53 arg19_r3) S1x512x4096.size hinb).WholeWords (EltTy.packing .bf16)) ∧
  (∀ a, (k0_off55 arg20_r3) a + S512x4096.size a ≤ S4096x4096.size a) ∧
  (∀ a, (k0_off57 arg20_r3) a + S512x16.size a ≤ S4096x16.size a)
theorem k0_off49_inb : ∀ (k0_t4 : Fin k0_t4_loop.trips) (arg18_r3 : BitVec 32) (arg19_r3 : BitVec 32) (arg20_r3 : BitVec 32) (k0_hw11 : k0_chk11 k0_t4 arg18_r3 arg19_r3 arg20_r3), ∀ (k0_h20 : k0_cond20 k0_t4 arg20_r3 = 1#1), ∀ a, (k0_off49 arg18_r3) a + S1.size a ≤ S2.size a := fun k0_t4 arg18_r3 arg19_r3 arg20_r3 k0_hw11 k0_h20 => k0_hw11.1 k0_h20
theorem k0_off50_inb : ∀ (k0_t4 : Fin k0_t4_loop.trips) (arg18_r3 : BitVec 32) (arg19_r3 : BitVec 32) (arg20_r3 : BitVec 32) (k0_hw11 : k0_chk11 k0_t4 arg18_r3 arg19_r3 arg20_r3), ∀ (k0_h20 : k0_cond20 k0_t4 arg20_r3 = 1#1), ∀ a, (k0_off50 arg18_r3) a + S1x512x4096.size a ≤ S2x512x4096.size a := fun k0_t4 arg18_r3 arg19_r3 arg20_r3 k0_hw11 k0_h20 => k0_hw11.2.1 k0_h20
theorem k0_off51_inb : ∀ (k0_t4 : Fin k0_t4_loop.trips) (arg18_r3 : BitVec 32) (arg19_r3 : BitVec 32) (arg20_r3 : BitVec 32) (k0_hw11 : k0_chk11 k0_t4 arg18_r3 arg19_r3 arg20_r3), ∀ (k0_h20 : k0_cond20 k0_t4 arg20_r3 = 1#1), ∀ a, (k0_off51 arg20_r3) a + S512x4096.size a ≤ S4096x4096.size a := fun k0_t4 arg18_r3 arg19_r3 arg20_r3 k0_hw11 k0_h20 => k0_hw11.2.2.1 k0_h20
theorem k0_off51_wordsbf16 : ∀ (k0_t4 : Fin k0_t4_loop.trips) (arg18_r3 : BitVec 32) (arg19_r3 : BitVec 32) (arg20_r3 : BitVec 32) (k0_hw11 : k0_chk11 k0_t4 arg18_r3 arg19_r3 arg20_r3), ∀ (k0_h20 : k0_cond20 k0_t4 arg20_r3 = 1#1), (Rect.unit (s := S4096x4096) (k0_off51 arg20_r3) S512x4096.size (k0_off51_inb k0_t4 arg18_r3 arg19_r3 arg20_r3 k0_hw11 k0_h20)).WholeWords (EltTy.packing .bf16) := fun k0_t4 arg18_r3 arg19_r3 arg20_r3 k0_hw11 k0_h20 => k0_hw11.2.2.2.1 k0_h20 (k0_off51_inb k0_t4 arg18_r3 arg19_r3 arg20_r3 k0_hw11 k0_h20)
theorem k0_off50_wordsbf16 : ∀ (k0_t4 : Fin k0_t4_loop.trips) (arg18_r3 : BitVec 32) (arg19_r3 : BitVec 32) (arg20_r3 : BitVec 32) (k0_hw11 : k0_chk11 k0_t4 arg18_r3 arg19_r3 arg20_r3), ∀ (k0_h20 : k0_cond20 k0_t4 arg20_r3 = 1#1), (Rect.unit (s := S2x512x4096) (k0_off50 arg18_r3) S1x512x4096.size (k0_off50_inb k0_t4 arg18_r3 arg19_r3 arg20_r3 k0_hw11 k0_h20)).WholeWords (EltTy.packing .bf16) := fun k0_t4 arg18_r3 arg19_r3 arg20_r3 k0_hw11 k0_h20 => k0_hw11.2.2.2.2.1 k0_h20 (k0_off50_inb k0_t4 arg18_r3 arg19_r3 arg20_r3 k0_hw11 k0_h20)
theorem k0_off52_inb : ∀ (k0_t4 : Fin k0_t4_loop.trips) (arg18_r3 : BitVec 32) (arg19_r3 : BitVec 32) (arg20_r3 : BitVec 32) (k0_hw11 : k0_chk11 k0_t4 arg18_r3 arg19_r3 arg20_r3), ∀ (k0_h21 : k0_cond21 k0_t4 arg20_r3 = 1#1), ∀ a, (k0_off52 arg19_r3) a + S1.size a ≤ S2.size a := fun k0_t4 arg18_r3 arg19_r3 arg20_r3 k0_hw11 k0_h21 => k0_hw11.2.2.2.2.2.1 k0_h21
theorem k0_off53_inb : ∀ (k0_t4 : Fin k0_t4_loop.trips) (arg18_r3 : BitVec 32) (arg19_r3 : BitVec 32) (arg20_r3 : BitVec 32) (k0_hw11 : k0_chk11 k0_t4 arg18_r3 arg19_r3 arg20_r3), ∀ (k0_h21 : k0_cond21 k0_t4 arg20_r3 = 1#1), ∀ a, (k0_off53 arg19_r3) a + S1x512x4096.size a ≤ S2x512x4096.size a := fun k0_t4 arg18_r3 arg19_r3 arg20_r3 k0_hw11 k0_h21 => k0_hw11.2.2.2.2.2.2.1 k0_h21
theorem k0_off54_inb : ∀ (k0_t4 : Fin k0_t4_loop.trips) (arg18_r3 : BitVec 32) (arg19_r3 : BitVec 32) (arg20_r3 : BitVec 32) (k0_hw11 : k0_chk11 k0_t4 arg18_r3 arg19_r3 arg20_r3), ∀ (k0_h21 : k0_cond21 k0_t4 arg20_r3 = 1#1), ∀ a, (k0_off54 arg20_r3) a + S512x4096.size a ≤ S4096x4096.size a := fun k0_t4 arg18_r3 arg19_r3 arg20_r3 k0_hw11 k0_h21 => k0_hw11.2.2.2.2.2.2.2.1 k0_h21
theorem k0_off54_wordsbf16 : ∀ (k0_t4 : Fin k0_t4_loop.trips) (arg18_r3 : BitVec 32) (arg19_r3 : BitVec 32) (arg20_r3 : BitVec 32) (k0_hw11 : k0_chk11 k0_t4 arg18_r3 arg19_r3 arg20_r3), ∀ (k0_h21 : k0_cond21 k0_t4 arg20_r3 = 1#1), (Rect.unit (s := S4096x4096) (k0_off54 arg20_r3) S512x4096.size (k0_off54_inb k0_t4 arg18_r3 arg19_r3 arg20_r3 k0_hw11 k0_h21)).WholeWords (EltTy.packing .bf16) := fun k0_t4 arg18_r3 arg19_r3 arg20_r3 k0_hw11 k0_h21 => k0_hw11.2.2.2.2.2.2.2.2.1 k0_h21 (k0_off54_inb k0_t4 arg18_r3 arg19_r3 arg20_r3 k0_hw11 k0_h21)
theorem k0_off53_wordsbf16 : ∀ (k0_t4 : Fin k0_t4_loop.trips) (arg18_r3 : BitVec 32) (arg19_r3 : BitVec 32) (arg20_r3 : BitVec 32) (k0_hw11 : k0_chk11 k0_t4 arg18_r3 arg19_r3 arg20_r3), ∀ (k0_h21 : k0_cond21 k0_t4 arg20_r3 = 1#1), (Rect.unit (s := S2x512x4096) (k0_off53 arg19_r3) S1x512x4096.size (k0_off53_inb k0_t4 arg18_r3 arg19_r3 arg20_r3 k0_hw11 k0_h21)).WholeWords (EltTy.packing .bf16) := fun k0_t4 arg18_r3 arg19_r3 arg20_r3 k0_hw11 k0_h21 => k0_hw11.2.2.2.2.2.2.2.2.2.1 k0_h21 (k0_off53_inb k0_t4 arg18_r3 arg19_r3 arg20_r3 k0_hw11 k0_h21)
theorem k0_off55_inb : ∀ (k0_t4 : Fin k0_t4_loop.trips) (arg18_r3 : BitVec 32) (arg19_r3 : BitVec 32) (arg20_r3 : BitVec 32) (k0_hw11 : k0_chk11 k0_t4 arg18_r3 arg19_r3 arg20_r3), ∀ a, (k0_off55 arg20_r3) a + S512x4096.size a ≤ S4096x4096.size a := fun k0_t4 arg18_r3 arg19_r3 arg20_r3 k0_hw11 => k0_hw11.2.2.2.2.2.2.2.2.2.2.1
theorem k0_off57_inb : ∀ (k0_t4 : Fin k0_t4_loop.trips) (arg18_r3 : BitVec 32) (arg19_r3 : BitVec 32) (arg20_r3 : BitVec 32) (k0_hw11 : k0_chk11 k0_t4 arg18_r3 arg19_r3 arg20_r3), ∀ a, (k0_off57 arg20_r3) a + S512x16.size a ≤ S4096x16.size a := fun k0_t4 arg18_r3 arg19_r3 arg20_r3 k0_hw11 => k0_hw11.2.2.2.2.2.2.2.2.2.2.2

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x16 : Shape := ⟨2, ![4096, 16]⟩
abbrev S4096x4096 : Shape := ⟨2, ![4096, 4096]⟩
abbrev S16x16x5 : Shape := ⟨3, ![16, 16, 5]⟩
abbrev S16x16 : Shape := ⟨2, ![16, 16]⟩
abbrev S16 : Shape := ⟨1, ![16]⟩
abbrev S4096x16x1 : Shape := ⟨3, ![4096, 16, 1]⟩
abbrev S4096x16x5 : Shape := ⟨3, ![4096, 16, 5]⟩
abbrev S1x16 : Shape := ⟨2, ![1, 16]⟩

abbrev nBuf : Space → Nat
  | .hbm => 33
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x4096, .f32⟩
  | .hbm, ⟨2, _⟩ => ⟨S4096x4096, .f32⟩
  | .hbm, ⟨3, _⟩ => ⟨S16x16x5, .f32⟩
  | .hbm, ⟨4, _⟩ => ⟨S16x16x5, .f32⟩
  | .hbm, ⟨5, _⟩ => ⟨S16x16, .f32⟩
  | .hbm, ⟨6, _⟩ => ⟨S16, .f32⟩
  | .hbm, ⟨7, _⟩ => ⟨S4096x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S4096x16x1, .f32⟩
  | .hbm, ⟨12, _⟩ => ⟨S4096x16x1, .f32⟩
  | .hbm, ⟨13, _⟩ => ⟨S4096x16x1, .f32⟩
  | .hbm, ⟨14, _⟩ => ⟨S4096x16x1, .f32⟩
  | .hbm, ⟨15, _⟩ => ⟨S4096x16x1, .f32⟩
  | .hbm, ⟨16, _⟩ => ⟨S4096x16x5, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16x1, .f32⟩
  | .hbm, ⟨23, _⟩ => ⟨S4096x16x1, .f32⟩
  | .hbm, ⟨24, _⟩ => ⟨S4096x16x1, .f32⟩
  | .hbm, ⟨25, _⟩ => ⟨S4096x16x1, .f32⟩
  | .hbm, ⟨26, _⟩ => ⟨S4096x16x1, .f32⟩
  | .hbm, ⟨27, _⟩ => ⟨S4096x16x5, .f32⟩
  | .hbm, ⟨28, _⟩ => ⟨S4096x16, .f32⟩
  | .hbm, ⟨29, _⟩ => ⟨S4096x16, .f32⟩
  | .hbm, ⟨30, _⟩ => ⟨S1x16, .f32⟩
  | .hbm, ⟨31, _⟩ => ⟨S4096x16, .f32⟩
  | .hbm, ⟨32, _⟩ => ⟨S4096x16, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Ideal.Names.lean ====
/-
  Names and closed forms for the idealized kernel: the blocks of rows, the slots and the semaphore cells the kernel's
  four inner pipelines use, and what each printed offset, condition and side condition is at a trip of its loop. Every
  pipeline carries its own counters, so a trip's words are those of the trip number (`wd`), and every closed form below
  is a statement about finitely many trips, decided.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic
public import Idealize.ShloMosaic.Lib.Pipeline.Value
public import Idealize.ShloMosaic.Lib.VecWindow
public import Idealize.ShloMosaic.Lib.WholeRead

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra: the staging pipeline's, beside the counters of the kernel's own transfers -/

abbrev UU : Type := UR sig nD τ × Counters
local notation "𝕄" => MT nD τ sig Unit (Elt F) ℕ UU ℕ
abbrev 𝒱₀ : Variants := Variants.none

/-! ## The buffers the kernel addresses itself -/

abbrev mLd : Memref sig .tc .hbm S4096x4096 .f32 := Memref.whole main_arg1
abbrev mLu : Memref sig .tc .hbm S4096x4096 .f32 := Memref.whole main_arg2
abbrev mLub : Memref sig .tc .hbm S4096x4096 .bf16 := Memref.whole main_v4_1
abbrev mLdb : Memref sig .tc .vmem S4096x4096 .bf16 := Memref.whole cc0_scratch0
abbrev mXd : Memref sig .tc .vmem S4096x16 .f32 := Memref.whole cc0_scratch1
abbrev mXu : Memref sig .tc .vmem S4096x16 .f32 := Memref.whole cc0_scratch2
abbrev mH : Memref sig .tc .vmem S4096x16 .f32 := Memref.whole cc0_scratch3
abbrev mHd : Memref sig .tc .vmem S4096x16 .f32 := Memref.whole cc0_scratch4
abbrev mHu : Memref sig .tc .vmem S4096x16 .f32 := Memref.whole cc0_scratch5
abbrev mP : Memref sig .tc .vmem S4096x16 .f32 := Memref.whole cc0_scratch6
abbrev mXdb : Memref sig .tc .vmem S4096x16 .bf16 := Memref.whole cc0_scratch7
abbrev mXub : Memref sig .tc .vmem S4096x16 .bf16 := Memref.whole cc0_scratch8
abbrev mSd : Memref sig .tc .vmem S2x128x4096 .f32 := Memref.whole cc0_scoped0
abbrev mSu : Memref sig .tc .vmem S2x128x4096 .f32 := Memref.whole cc0_scoped2
abbrev mSo : Memref sig .tc .vmem S2x128x4096 .bf16 := Memref.whole cc0_scoped4
abbrev mS1 : Memref sig .tc .vmem S2x512x4096 .bf16 := Memref.whole cc0_scoped6
abbrev mS2 : Memref sig .tc .vmem S2x512x4096 .bf16 := Memref.whole cc0_scoped8
abbrev mS3 : Memref sig .tc .vmem S2x512x4096 .bf16 := Memref.whole cc0_scoped10

/-! ## Offsets -/

abbrev semOff (s : Fin 2) : Fin 1 → Nat := ![s.val]
theorem semOff_inb (s : Fin 2) : ∀ a, semOff s a + S1.size a ≤ S2.size a := by
  have := s.isLt; intro a; fin_cases a; show s.val + 1 ≤ 2; omega
abbrev slotOff (s : Fin 2) : Fin 3 → Nat := ![s.val, 0, 0]
theorem slotOff_inbA (s : Fin 2) : ∀ a, slotOff s a + S1x128x4096.size a ≤ S2x128x4096.size a := by
  have := s.isLt; intro a; fin_cases a
  · show s.val + 1 ≤ 2; omega
  · show 0 + 128 ≤ 128; omega
  · show 0 + 4096 ≤ 4096; omega
theorem slotOff_inbB (s : Fin 2) : ∀ a, slotOff s a + S1x512x4096.size a ≤ S2x512x4096.size a := by
  have := s.isLt; intro a; fin_cases a
  · show s.val + 1 ≤ 2; omega
  · show 0 + 512 ≤ 512; omega
  · show 0 + 4096 ≤ 4096; omega
abbrev rowOffA (b : Fin 32) : Fin 2 → Nat := ![128 * b.val, 0]
theorem rowOffA_inb (b : Fin 32) : ∀ a, rowOffA b a + S128x4096.size a ≤ S4096x4096.size a := by
  have := b.isLt; intro a; fin_cases a
  · show 128 * b.val + 128 ≤ 4096; omega
  · show 0 + 4096 ≤ 4096; omega
theorem rowOffA_inb' (b : Fin 32) : ∀ a, rowOffA b a + S128x16.size a ≤ S4096x16.size a := by
  have := b.isLt; intro a; fin_cases a
  · show 128 * b.val + 128 ≤ 4096; omega
  · show 0 + 16 ≤ 16; omega
abbrev rowOffB (b : Fin 8) : Fin 2 → Nat := ![512 * b.val, 0]
theorem rowOffB_inb (b : Fin 8) : ∀ a, rowOffB b a + S512x4096.size a ≤ S4096x4096.size a := by
  have := b.isLt; intro a; fin_cases a
  · show 512 * b.val + 512 ≤ 4096; omega
  · show 0 + 4096 ≤ 4096; omega
theorem rowOffB_inb' (b : Fin 8) : ∀ a, rowOffB b a + S512x16.size a ≤ S4096x16.size a := by
  have := b.isLt; intro a; fin_cases a
  · show 512 * b.val + 512 ≤ 4096; omega
  · show 0 + 16 ≤ 16; omega

instance (s : Fin 2) : ClosedOff (slotOff s) := ⟨slotOff s, rfl⟩
instance (b : Fin 32) : ClosedOff (rowOffA b) := ⟨rowOffA b, rfl⟩
instance (b : Fin 8) : ClosedOff (rowOffB b) := ⟨rowOffB b, rfl⟩

/-! ## The rows of a whole buffer, as rectangles -/

/-- Rows `128 b …` of the square arrays and of the narrow ones; rows `512 b …` likewise. -/
abbrev rA (b : Fin 32) : Rect S4096x4096 := Rect.unit (s := S4096x4096) (rowOffA b) S128x4096.size (rowOffA_inb b)
abbrev rA' (b : Fin 32) : Rect S4096x16 := Rect.unit (s := S4096x16) (rowOffA b) S128x16.size (rowOffA_inb' b)
abbrev rB (b : Fin 8) : Rect S4096x4096 := Rect.unit (s := S4096x4096) (rowOffB b) S512x4096.size (rowOffB_inb b)
abbrev rB' (b : Fin 8) : Rect S4096x16 := Rect.unit (s := S4096x16) (rowOffB b) S512x16.size (rowOffB_inb' b)

/-! ## Slots, cells and blocks as the body slices and squeezes them -/

/-- Slot `s` of a two-slot buffer of 128 rows: one for each input the first pipeline fetches, one for its output. -/
def slotA {e : EltTy} (M : Memref sig .tc .vmem S2x128x4096 e) (s : Fin 2) : Memref sig .tc .vmem S128x4096 e :=
  (M.slice (Rect.unit (s := S2x128x4096) (slotOff s) S1x128x4096.size (slotOff_inbA s)) (fun _ => rfl)).squeeze S128x4096 squeezes_S1x128x4096_S128x4096
/-- Slot `s` of a two-slot buffer of 512 rows: the three later pipelines each have their own buffer. -/
def slotB (M : Memref sig .tc .vmem S2x512x4096 .bf16) (s : Fin 2) : Memref sig .tc .vmem S512x4096 .bf16 :=
  (M.slice (Rect.unit (s := S2x512x4096) (slotOff s) S1x512x4096.size (slotOff_inbB s)) (fun _ => rfl)).squeeze S512x4096 squeezes_S1x512x4096_S512x4096

/-- Cell `s` of an array of two semaphores. -/
def cell (A : DmaSems sig S2) (s : Fin 2) : DmaSems sig S_ :=
  (A.slice (Rect.unit (s := S2) (semOff s) S1.size (semOff_inb s))).squeeze S_ squeezes_S1_S_

/-- Block `b` of 128 rows of a square array, and of 512 rows. -/
def blkA {e : EltTy} (M : Memref sig .tc .hbm S4096x4096 e) (b : Fin 32) : Memref sig .tc .hbm S128x4096 e := M.slice (rA b) (fun _ => rfl)
def blkB (b : Fin 8) : Memref sig .tc .hbm S512x4096 .bf16 := mLub.slice (rB b) (fun _ => rfl)

/-! ## A trip's words -/

/-- The trip number as a word. -/
def wd (k : ℕ) : BitVec 32 := BitVec.ofNat 32 k

/-! ## The congruences: a slice at a closed offset is the slot, the cell, the block -/

theorem cell_congr (A : DmaSems sig S2) {off : Fin 1 → Nat} {s : Fin 2} (e : off = semOff s) (hh) :
    (A.slice (Rect.unit (s := S2) off S1.size hh)).squeeze S_ squeezes_S1_S_ = cell A s :=
  congrArg (fun A : DmaSems sig S1 => A.squeeze S_ squeezes_S1_S_) (SemArray.slice_unit_congr _ e _ _)
theorem slotA_congr {et : EltTy} (M : Memref sig .tc .vmem S2x128x4096 et) {off : Fin 3 → Nat} {s : Fin 2} (e : off = slotOff s) (hh hs) :
    (M.slice (Rect.unit (s := S2x128x4096) off S1x128x4096.size hh) hs).squeeze S128x4096 squeezes_S1x128x4096_S128x4096 = slotA M s :=
  congrArg (fun M : Memref sig .tc .vmem S1x128x4096 et => M.squeeze S128x4096 squeezes_S1x128x4096_S128x4096) (Memref.slice_unit_congr _ e _ _ _ _)
theorem slotB_congr (M : Memref sig .tc .vmem S2x512x4096 .bf16) {off : Fin 3 → Nat} {s : Fin 2} (e : off = slotOff s) (hh hs) :
    (M.slice (Rect.unit (s := S2x512x4096) off S1x512x4096.size hh) hs).squeeze S512x4096 squeezes_S1x512x4096_S512x4096 = slotB M s :=
  congrArg (fun M : Memref sig .tc .vmem S1x512x4096 .bf16 => M.squeeze S512x4096 squeezes_S1x512x4096_S512x4096) (Memref.slice_unit_congr _ e _ _ _ _)
theorem blkA_congr {et : EltTy} (M : Memref sig .tc .hbm S4096x4096 et) {off : Fin 2 → Nat} {b : Fin 32} (e : off = rowOffA b) (hh hs) :
    M.slice (Rect.unit (s := S4096x4096) off S128x4096.size hh) hs = blkA M b := Memref.slice_unit_congr _ e _ _ _ (fun _ => rfl)
theorem blkB_congr {off : Fin 2 → Nat} {b : Fin 8} (e : off = rowOffB b) (hh hs) :
    mLub.slice (Rect.unit (s := S4096x4096) off S512x4096.size hh) hs = blkB b := Memref.slice_unit_congr _ e _ _ _ (fun _ => rfl)

/-! ## The closed forms of the three later loops, trip by trip

Each trip `k` waits block `k` in slot `k % 2` and, up to the last but one, issues block `k + 1` into the other slot.
 -/

theorem c16_lt : ∀ k : Fin k0_t3_loop.trips, k.val < 7 → k0_cond16 k (wd (k.val % 8)) = 1#1 := by decide +kernel
theorem c16_last : ∀ k : Fin k0_t3_loop.trips, k.val = 7 → ¬ k0_cond16 k (wd (k.val % 8)) = 1#1 := by decide +kernel
theorem c17_all : ∀ k : Fin k0_t3_loop.trips, k0_cond17 k (wd (k.val % 8)) = 1#1 := by decide +kernel
theorem o40 : ∀ k : Fin k0_t3_loop.trips, k.val < 7 → k0_off40 (wd (min (k.val + 1) 8)) = semOff (Ring.sl 2 (k.val + 1)) := by decide +kernel
theorem o41 : ∀ k : Fin k0_t3_loop.trips, k.val < 7 → k0_off41 (wd (min (k.val + 1) 8)) = slotOff (Ring.sl 2 (k.val + 1)) := by decide +kernel
theorem o42 : ∀ k : Fin k0_t3_loop.trips, k.val < 7 → k0_off42 (wd (k.val % 8)) = rowOffB (Ring.bk 8 (k.val + 1)) := by decide +kernel
theorem o43 : ∀ k : Fin k0_t3_loop.trips, k0_off43 (wd k.val) = semOff (Ring.sl 2 k.val) := by decide +kernel
theorem o44 : ∀ k : Fin k0_t3_loop.trips, k0_off44 (wd k.val) = slotOff (Ring.sl 2 k.val) := by decide +kernel
theorem o45 : ∀ k : Fin k0_t3_loop.trips, k0_off45 (wd (k.val % 8)) = rowOffB (Ring.bk 8 k.val) := by decide +kernel
theorem o46 : ∀ k : Fin k0_t3_loop.trips, k0_off46 (wd (k.val % 8)) = rowOffB (Ring.bk 8 k.val) := by decide +kernel
theorem o47 : ∀ k : Fin k0_t3_loop.trips, k0_off47 (wd (k.val % 8)) = rowOffB (Ring.bk 8 k.val) := by decide +kernel
theorem o48 : ∀ k : Fin k0_t3_loop.trips, k0_off48 (wd k.val) = slotOff (Ring.sl 2 k.val) := by decide +kernel
theorem chk9 : ∀ k : Fin k0_t3_loop.trips, k0_chk9 k (wd (min (k.val + 1) 8)) (wd k.val) (wd (k.val % 8)) := by decide +kernel
theorem chk10 : ∀ k : Fin k0_t3_loop.trips, k0_chk10 (wd k.val) := by decide +kernel

instance (k : Fin k0_t3_loop.trips) : ClosedOff (k0_off46 (wd (k.val % 8))) := ⟨rowOffB (Ring.bk 8 k.val), o46 k⟩
instance (k : Fin k0_t3_loop.trips) : ClosedOff (k0_off47 (wd (k.val % 8))) := ⟨rowOffB (Ring.bk 8 k.val), o47 k⟩
instance (k : Fin k0_t3_loop.trips) : ClosedOff (k0_off48 (wd k.val)) := ⟨slotOff (Ring.sl 2 k.val), o48 k⟩

@[sl_canon] theorem t3_semI (A : DmaSems sig S2) (k : Fin k0_t3_loop.trips) (h : k.val < 7) (hh) :
    (A.slice (Rect.unit (s := S2) (k0_off40 (wd (min (k.val + 1) 8))) S1.size hh)).squeeze S_ squeezes_S1_S_ = cell A (Ring.sl 2 (k.val + 1)) := cell_congr A (o40 k h) _
@[sl_canon] theorem t3_slotI (M : Memref sig .tc .vmem S2x512x4096 .bf16) (k : Fin k0_t3_loop.trips) (h : k.val < 7) (hh hs) :
    (M.slice (Rect.unit (s := S2x512x4096) (k0_off41 (wd (min (k.val + 1) 8))) S1x512x4096.size hh) hs).squeeze S512x4096 squeezes_S1x512x4096_S512x4096 = slotB M (Ring.sl 2 (k.val + 1)) := slotB_congr M (o41 k h) _ _
@[sl_canon] theorem t3_blkI (k : Fin k0_t3_loop.trips) (h : k.val < 7) (hh hs) :
    mLub.slice (Rect.unit (s := S4096x4096) (k0_off42 (wd (k.val % 8))) S512x4096.size hh) hs = blkB (Ring.bk 8 (k.val + 1)) := blkB_congr (o42 k h) _ _
@[sl_canon] theorem t3_semW (A : DmaSems sig S2) (k : Fin k0_t3_loop.trips) (hh) :
    (A.slice (Rect.unit (s := S2) (k0_off43 (wd k.val)) S1.size hh)).squeeze S_ squeezes_S1_S_ = cell A (Ring.sl 2 k.val) := cell_congr A (o43 k) _
@[sl_canon] theorem t3_slotW (M : Memref sig .tc .vmem S2x512x4096 .bf16) (k : Fin k0_t3_loop.trips) (hh hs) :
    (M.slice (Rect.unit (s := S2x512x4096) (k0_off44 (wd k.val)) S1x512x4096.size hh) hs).squeeze S512x4096 squeezes_S1x512x4096_S512x4096 = slotB M (Ring.sl 2 k.val) := slotB_congr M (o44 k) _ _
@[sl_canon] theorem t3_blkW (k : Fin k0_t3_loop.trips) (hh hs) :
    mLub.slice (Rect.unit (s := S4096x4096) (k0_off45 (wd (k.val % 8))) S512x4096.size hh) hs = blkB (Ring.bk 8 k.val) := blkB_congr (o45 k) _ _

theorem c12_lt : ∀ k : Fin k0_t2_loop.trips, k.val < 7 → k0_cond12 k (wd (k.val % 8)) = 1#1 := by decide +kernel
theorem c12_last : ∀ k : Fin k0_t2_loop.trips, k.val = 7 → ¬ k0_cond12 k (wd (k.val % 8)) = 1#1 := by decide +kernel
theorem c13_all : ∀ k : Fin k0_t2_loop.trips, k0_cond13 k (wd (k.val % 8)) = 1#1 := by decide +kernel
theorem o31 : ∀ k : Fin k0_t2_loop.trips, k.val < 7 → k0_off31 (wd (min (k.val + 1) 8)) = semOff (Ring.sl 2 (k.val + 1)) := by decide +kernel
theorem o32 : ∀ k : Fin k0_t2_loop.trips, k.val < 7 → k0_off32 (wd (min (k.val + 1) 8)) = slotOff (Ring.sl 2 (k.val + 1)) := by decide +kernel
theorem o33 : ∀ k : Fin k0_t2_loop.trips, k.val < 7 → k0_off33 (wd (k.val % 8)) = rowOffB (Ring.bk 8 (k.val + 1)) := by decide +kernel
theorem o34 : ∀ k : Fin k0_t2_loop.trips, k0_off34 (wd k.val) = semOff (Ring.sl 2 k.val) := by decide +kernel
theorem o35 : ∀ k : Fin k0_t2_loop.trips, k0_off35 (wd k.val) = slotOff (Ring.sl 2 k.val) := by decide +kernel
theorem o36 : ∀ k : Fin k0_t2_loop.trips, k0_off36 (wd (k.val % 8)) = rowOffB (Ring.bk 8 k.val) := by decide +kernel
theorem o37 : ∀ k : Fin k0_t2_loop.trips, k0_off37 (wd (k.val % 8)) = rowOffB (Ring.bk 8 k.val) := by decide +kernel
theorem o39 : ∀ k : Fin k0_t2_loop.trips, k0_off39 (wd (k.val % 8)) = rowOffB (Ring.bk 8 k.val) := by decide +kernel
theorem o38 : ∀ k : Fin k0_t2_loop.trips, k0_off38 (wd k.val) = slotOff (Ring.sl 2 k.val) := by decide +kernel
theorem chk7 : ∀ k : Fin k0_t2_loop.trips, k0_chk7 k (wd (min (k.val + 1) 8)) (wd k.val) (wd (k.val % 8)) := by decide +kernel
theorem chk8 : ∀ k : Fin k0_t2_loop.trips, k0_chk8 (wd k.val) := by decide +kernel

instance (k : Fin k0_t2_loop.trips) : ClosedOff (k0_off37 (wd (k.val % 8))) := ⟨rowOffB (Ring.bk 8 k.val), o37 k⟩
instance (k : Fin k0_t2_loop.trips) : ClosedOff (k0_off39 (wd (k.val % 8))) := ⟨rowOffB (Ring.bk 8 k.val), o39 k⟩
instance (k : Fin k0_t2_loop.trips) : ClosedOff (k0_off38 (wd k.val)) := ⟨slotOff (Ring.sl 2 k.val), o38 k⟩

@[sl_canon] theorem t2_semI (A : DmaSems sig S2) (k : Fin k0_t2_loop.trips) (h : k.val < 7) (hh) :
    (A.slice (Rect.unit (s := S2) (k0_off31 (wd (min (k.val + 1) 8))) S1.size hh)).squeeze S_ squeezes_S1_S_ = cell A (Ring.sl 2 (k.val + 1)) := cell_congr A (o31 k h) _
@[sl_canon] theorem t2_slotI (M : Memref sig .tc .vmem S2x512x4096 .bf16) (k : Fin k0_t2_loop.trips) (h : k.val < 7) (hh hs) :
    (M.slice (Rect.unit (s := S2x512x4096) (k0_off32 (wd (min (k.val + 1) 8))) S1x512x4096.size hh) hs).squeeze S512x4096 squeezes_S1x512x4096_S512x4096 = slotB M (Ring.sl 2 (k.val + 1)) := slotB_congr M (o32 k h) _ _
@[sl_canon] theorem t2_blkI (k : Fin k0_t2_loop.trips) (h : k.val < 7) (hh hs) :
    mLub.slice (Rect.unit (s := S4096x4096) (k0_off33 (wd (k.val % 8))) S512x4096.size hh) hs = blkB (Ring.bk 8 (k.val + 1)) := blkB_congr (o33 k h) _ _
@[sl_canon] theorem t2_semW (A : DmaSems sig S2) (k : Fin k0_t2_loop.trips) (hh) :
    (A.slice (Rect.unit (s := S2) (k0_off34 (wd k.val)) S1.size hh)).squeeze S_ squeezes_S1_S_ = cell A (Ring.sl 2 k.val) := cell_congr A (o34 k) _
@[sl_canon] theorem t2_slotW (M : Memref sig .tc .vmem S2x512x4096 .bf16) (k : Fin k0_t2_loop.trips) (hh hs) :
    (M.slice (Rect.unit (s := S2x512x4096) (k0_off35 (wd k.val)) S1x512x4096.size hh) hs).squeeze S512x4096 squeezes_S1x512x4096_S512x4096 = slotB M (Ring.sl 2 k.val) := slotB_congr M (o35 k) _ _
@[sl_canon] theorem t2_blkW (k : Fin k0_t2_loop.trips) (hh hs) :
    mLub.slice (Rect.unit (s := S4096x4096) (k0_off36 (wd (k.val % 8))) S512x4096.size hh) hs = blkB (Ring.bk 8 k.val) := blkB_congr (o36 k) _ _

theorem c20_lt : ∀ k : Fin k0_t4_loop.trips, k.val < 7 → k0_cond20 k (wd (k.val % 8)) = 1#1 := by decide +kernel
theorem c20_last : ∀ k : Fin k0_t4_loop.trips, k.val = 7 → ¬ k0_cond20 k (wd (k.val % 8)) = 1#1 := by decide +kernel
theorem c21_all : ∀ k : Fin k0_t4_loop.trips, k0_cond21 k (wd (k.val % 8)) = 1#1 := by decide +kernel
theorem o49 : ∀ k : Fin k0_t4_loop.trips, k.val < 7 → k0_off49 (wd (min (k.val + 1) 8)) = semOff (Ring.sl 2 (k.val + 1)) := by decide +kernel
theorem o50 : ∀ k : Fin k0_t4_loop.trips, k.val < 7 → k0_off50 (wd (min (k.val + 1) 8)) = slotOff (Ring.sl 2 (k.val + 1)) := by decide +kernel
theorem o51 : ∀ k : Fin k0_t4_loop.trips, k.val < 7 → k0_off51 (wd (k.val % 8)) = rowOffB (Ring.bk 8 (k.val + 1)) := by decide +kernel
theorem o52 : ∀ k : Fin k0_t4_loop.trips, k0_off52 (wd k.val) = semOff (Ring.sl 2 k.val) := by decide +kernel
theorem o53 : ∀ k : Fin k0_t4_loop.trips, k0_off53 (wd k.val) = slotOff (Ring.sl 2 k.val) := by decide +kernel
theorem o54 : ∀ k : Fin k0_t4_loop.trips, k0_off54 (wd (k.val % 8)) = rowOffB (Ring.bk 8 k.val) := by decide +kernel
theorem o55 : ∀ k : Fin k0_t4_loop.trips, k0_off55 (wd (k.val % 8)) = rowOffB (Ring.bk 8 k.val) := by decide +kernel
theorem o57 : ∀ k : Fin k0_t4_loop.trips, k0_off57 (wd (k.val % 8)) = rowOffB (Ring.bk 8 k.val) := by decide +kernel
theorem o56 : ∀ k : Fin k0_t4_loop.trips, k0_off56 (wd k.val) = slotOff (Ring.sl 2 k.val) := by decide +kernel
theorem chk11 : ∀ k : Fin k0_t4_loop.trips, k0_chk11 k (wd (min (k.val + 1) 8)) (wd k.val) (wd (k.val % 8)) := by decide +kernel
theorem chk12 : ∀ k : Fin k0_t4_loop.trips, k0_chk12 (wd k.val) := by decide +kernel

instance (k : Fin k0_t4_loop.trips) : ClosedOff (k0_off55 (wd (k.val % 8))) := ⟨rowOffB (Ring.bk 8 k.val), o55 k⟩
instance (k : Fin k0_t4_loop.trips) : ClosedOff (k0_off57 (wd (k.val % 8))) := ⟨rowOffB (Ring.bk 8 k.val), o57 k⟩
instance (k : Fin k0_t4_loop.trips) : ClosedOff (k0_off56 (wd k.val)) := ⟨slotOff (Ring.sl 2 k.val), o56 k⟩

@[sl_canon] theorem t4_semI (A : DmaSems sig S2) (k : Fin k0_t4_loop.trips) (h : k.val < 7) (hh) :
    (A.slice (Rect.unit (s := S2) (k0_off49 (wd (min (k.val + 1) 8))) S1.size hh)).squeeze S_ squeezes_S1_S_ = cell A (Ring.sl 2 (k.val + 1)) := cell_congr A (o49 k h) _
@[sl_canon] theorem t4_slotI (M : Memref sig .tc .vmem S2x512x4096 .bf16) (k : Fin k0_t4_loop.trips) (h : k.val < 7) (hh hs) :
    (M.slice (Rect.unit (s := S2x512x4096) (k0_off50 (wd (min (k.val + 1) 8))) S1x512x4096.size hh) hs).squeeze S512x4096 squeezes_S1x512x4096_S512x4096 = slotB M (Ring.sl 2 (k.val + 1)) := slotB_congr M (o50 k h) _ _
@[sl_canon] theorem t4_blkI (k : Fin k0_t4_loop.trips) (h : k.val < 7) (hh hs) :
    mLub.slice (Rect.unit (s := S4096x4096) (k0_off51 (wd (k.val % 8))) S512x4096.size hh) hs = blkB (Ring.bk 8 (k.val + 1)) := blkB_congr (o51 k h) _ _
@[sl_canon] theorem t4_semW (A : DmaSems sig S2) (k : Fin k0_t4_loop.trips) (hh) :
    (A.slice (Rect.unit (s := S2) (k0_off52 (wd k.val)) S1.size hh)).squeeze S_ squeezes_S1_S_ = cell A (Ring.sl 2 k.val) := cell_congr A (o52 k) _
@[sl_canon] theorem t4_slotW (M : Memref sig .tc .vmem S2x512x4096 .bf16) (k : Fin k0_t4_loop.trips) (hh hs) :
    (M.slice (Rect.unit (s := S2x512x4096) (k0_off53 (wd k.val)) S1x512x4096.size hh) hs).squeeze S512x4096 squeezes_S1x512x4096_S512x4096 = slotB M (Ring.sl 2 k.val) := slotB_congr M (o53 k) _ _
@[sl_canon] theorem t4_blkW (k : Fin k0_t4_loop.trips) (hh hs) :
    mLub.slice (Rect.unit (s := S4096x4096) (k0_off54 (wd (k.val % 8))) S512x4096.size hh) hs = blkB (Ring.bk 8 k.val) := blkB_congr (o54 k) _ _

end Cert.KernelIdeal.Hand

end
-- ==== Proof.Ideal.NamesFirst.lean ====
/-
  The first loop's closed forms. It runs three pipelines at once over blocks of 128 rows: it fetches both Laplacians, one
  block ahead, and sends the rounded upper one out, one block behind. Also the offsets of the transfers issued before
  each loop, which name block 0 and slot 0.
-/
module

public import proofs.«01_k».proof.Proof.Ideal.Names

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem c1_lt : ∀ k : Fin k0_t1_loop.trips, k.val < 31 → k0_cond1 k (wd (k.val % 32)) = 1#1 := by decide +kernel
theorem c1_last : ∀ k : Fin k0_t1_loop.trips, k.val = 31 → ¬ k0_cond1 k (wd (k.val % 32)) = 1#1 := by decide +kernel
theorem c2_lt : ∀ k : Fin k0_t1_loop.trips, k.val < 31 → k0_cond2 k (wd (k.val % 32)) = 1#1 := by decide +kernel
theorem c2_last : ∀ k : Fin k0_t1_loop.trips, k.val = 31 → ¬ k0_cond2 k (wd (k.val % 32)) = 1#1 := by decide +kernel
theorem c3_all : ∀ k : Fin k0_t1_loop.trips, k0_cond3 k (wd (k.val % 32)) = 1#1 := by decide +kernel
theorem c4_all : ∀ k : Fin k0_t1_loop.trips, k0_cond4 k (wd (k.val % 32)) = 1#1 := by decide +kernel
theorem c8_all : ∀ k : Fin k0_t1_loop.trips, k0_cond8 k (wd (k.val % 32)) = 1#1 := by decide +kernel
theorem c11_pos : ∀ k : Fin k0_t1_loop.trips, 0 < k.val → k0_cond11 k (wd (k.val % 32)) = 1#1 := by decide +kernel
theorem c11_zero : ∀ k : Fin k0_t1_loop.trips, k.val = 0 → ¬ k0_cond11 k (wd (k.val % 32)) = 1#1 := by decide +kernel
theorem o3 : ∀ k : Fin k0_t1_loop.trips, k.val < 31 → k0_off3 (wd (min (k.val + 1) 32)) = semOff (Ring.sl 2 (k.val + 1)) := by decide +kernel
theorem o4 : ∀ k : Fin k0_t1_loop.trips, k.val < 31 → k0_off4 (wd (min (k.val + 1) 32)) = slotOff (Ring.sl 2 (k.val + 1)) := by decide +kernel
theorem o5 : ∀ k : Fin k0_t1_loop.trips, k.val < 31 → k0_off5 (wd (k.val % 32)) = rowOffA (Ring.bk 32 (k.val + 1)) := by decide +kernel
theorem o6 : ∀ k : Fin k0_t1_loop.trips, k.val < 31 → k0_off6 (wd (min (k.val + 1) 32)) = semOff (Ring.sl 2 (k.val + 1)) := by decide +kernel
theorem o7 : ∀ k : Fin k0_t1_loop.trips, k.val < 31 → k0_off7 (wd (min (k.val + 1) 32)) = slotOff (Ring.sl 2 (k.val + 1)) := by decide +kernel
theorem o8 : ∀ k : Fin k0_t1_loop.trips, k.val < 31 → k0_off8 (wd (k.val % 32)) = rowOffA (Ring.bk 32 (k.val + 1)) := by decide +kernel
theorem o9 : ∀ k : Fin k0_t1_loop.trips, k0_off9 (wd k.val) = semOff (Ring.sl 2 k.val) := by decide +kernel
theorem o10 : ∀ k : Fin k0_t1_loop.trips, k0_off10 (wd k.val) = slotOff (Ring.sl 2 k.val) := by decide +kernel
theorem o11 : ∀ k : Fin k0_t1_loop.trips, k0_off11 (wd (k.val % 32)) = rowOffA (Ring.bk 32 k.val) := by decide +kernel
theorem o12 : ∀ k : Fin k0_t1_loop.trips, k0_off12 (wd k.val) = semOff (Ring.sl 2 k.val) := by decide +kernel
theorem o13 : ∀ k : Fin k0_t1_loop.trips, k0_off13 (wd k.val) = slotOff (Ring.sl 2 k.val) := by decide +kernel
theorem o14 : ∀ k : Fin k0_t1_loop.trips, k0_off14 (wd (k.val % 32)) = rowOffA (Ring.bk 32 k.val) := by decide +kernel
theorem o15 : ∀ k : Fin k0_t1_loop.trips, k0_off15 (wd k.val) = slotOff (Ring.sl 2 k.val) := by decide +kernel
theorem o16 : ∀ k : Fin k0_t1_loop.trips, k0_off16 (wd k.val) = slotOff (Ring.sl 2 k.val) := by decide +kernel
theorem o17 : ∀ k : Fin k0_t1_loop.trips, k0_off17 (wd (k.val % 32)) = rowOffA (Ring.bk 32 k.val) := by decide +kernel
theorem o18 : ∀ k : Fin k0_t1_loop.trips, k0_off18 (wd (k.val % 32)) = rowOffA (Ring.bk 32 k.val) := by decide +kernel
theorem o19 : ∀ k : Fin k0_t1_loop.trips, k0_off19 (wd k.val) = slotOff (Ring.sl 2 k.val) := by decide +kernel
theorem o20 : ∀ k : Fin k0_t1_loop.trips, k0_off20 (wd k.val) = semOff (Ring.sl 2 k.val) := by decide +kernel
theorem o22 : ∀ k : Fin k0_t1_loop.trips, k0_off22 (wd k.val) = slotOff (Ring.sl 2 k.val) := by decide +kernel
theorem o21 : ∀ k : Fin k0_t1_loop.trips, k0_off21 (wd (k.val % 32)) = rowOffA (Ring.bk 32 k.val) := by decide +kernel
theorem o23 : ∀ k : Fin k0_t1_loop.trips, 0 < k.val → k0_off23 (wd (k.val - 1)) = semOff (Ring.sl 2 (k.val + 1)) := by decide +kernel
theorem o25 : ∀ k : Fin k0_t1_loop.trips, 0 < k.val → k0_off25 (wd (k.val - 1)) = slotOff (Ring.sl 2 (k.val + 1)) := by decide +kernel
theorem o24 : ∀ k : Fin k0_t1_loop.trips, 0 < k.val → k0_off24 (wd (k.val % 32)) = rowOffA (Ring.bk 32 (k.val - 1)) := by decide +kernel
theorem chk1 : ∀ k : Fin k0_t1_loop.trips, k0_chk1 k (wd (min (k.val + 1) 32)) (wd k.val) (wd (min (k.val + 1) 32)) (wd k.val) (wd k.val) (wd (k.val - 1)) (wd (k.val % 32)) := by decide +kernel
theorem chk2 : ∀ k : Fin k0_t1_loop.trips, k0_chk2 (wd k.val) := by decide +kernel
theorem chk3 : ∀ k : Fin k0_t1_loop.trips, k0_chk3 (wd k.val) := by decide +kernel
theorem chk4 : ∀ k : Fin k0_t1_loop.trips, k0_chk4 (wd k.val) := by decide +kernel

instance (k : Fin k0_t1_loop.trips) : ClosedOff (k0_off15 (wd k.val)) := ⟨slotOff (Ring.sl 2 k.val), o15 k⟩
instance (k : Fin k0_t1_loop.trips) : ClosedOff (k0_off16 (wd k.val)) := ⟨slotOff (Ring.sl 2 k.val), o16 k⟩
instance (k : Fin k0_t1_loop.trips) : ClosedOff (k0_off17 (wd (k.val % 32))) := ⟨rowOffA (Ring.bk 32 k.val), o17 k⟩
instance (k : Fin k0_t1_loop.trips) : ClosedOff (k0_off18 (wd (k.val % 32))) := ⟨rowOffA (Ring.bk 32 k.val), o18 k⟩
instance (k : Fin k0_t1_loop.trips) : ClosedOff (k0_off19 (wd k.val)) := ⟨slotOff (Ring.sl 2 k.val), o19 k⟩

@[sl_canon] theorem t1_semI (A : DmaSems sig S2) (k : Fin k0_t1_loop.trips) (h : k.val < 31) (hh) :
    (A.slice (Rect.unit (s := S2) (k0_off3 (wd (min (k.val + 1) 32))) S1.size hh)).squeeze S_ squeezes_S1_S_ = cell A (Ring.sl 2 (k.val + 1)) := cell_congr A (o3 k h) _
@[sl_canon] theorem t1_slotI {et : EltTy} (M : Memref sig .tc .vmem S2x128x4096 et) (k : Fin k0_t1_loop.trips) (h : k.val < 31) (hh hs) :
    (M.slice (Rect.unit (s := S2x128x4096) (k0_off4 (wd (min (k.val + 1) 32))) S1x128x4096.size hh) hs).squeeze S128x4096 squeezes_S1x128x4096_S128x4096 = slotA M (Ring.sl 2 (k.val + 1)) := slotA_congr M (o4 k h) _ _
@[sl_canon] theorem t1_blkI {et : EltTy} (M : Memref sig .tc .hbm S4096x4096 et) (k : Fin k0_t1_loop.trips) (h : k.val < 31) (hh hs) :
    M.slice (Rect.unit (s := S4096x4096) (k0_off5 (wd (k.val % 32))) S128x4096.size hh) hs = blkA M (Ring.bk 32 (k.val + 1)) := blkA_congr M (o5 k h) _ _
@[sl_canon] theorem t1_semI2 (A : DmaSems sig S2) (k : Fin k0_t1_loop.trips) (h : k.val < 31) (hh) :
    (A.slice (Rect.unit (s := S2) (k0_off6 (wd (min (k.val + 1) 32))) S1.size hh)).squeeze S_ squeezes_S1_S_ = cell A (Ring.sl 2 (k.val + 1)) := cell_congr A (o6 k h) _
@[sl_canon] theorem t1_slotI2 {et : EltTy} (M : Memref sig .tc .vmem S2x128x4096 et) (k : Fin k0_t1_loop.trips) (h : k.val < 31) (hh hs) :
    (M.slice (Rect.unit (s := S2x128x4096) (k0_off7 (wd (min (k.val + 1) 32))) S1x128x4096.size hh) hs).squeeze S128x4096 squeezes_S1x128x4096_S128x4096 = slotA M (Ring.sl 2 (k.val + 1)) := slotA_congr M (o7 k h) _ _
@[sl_canon] theorem t1_blkI2 {et : EltTy} (M : Memref sig .tc .hbm S4096x4096 et) (k : Fin k0_t1_loop.trips) (h : k.val < 31) (hh hs) :
    M.slice (Rect.unit (s := S4096x4096) (k0_off8 (wd (k.val % 32))) S128x4096.size hh) hs = blkA M (Ring.bk 32 (k.val + 1)) := blkA_congr M (o8 k h) _ _
@[sl_canon] theorem t1_semW (A : DmaSems sig S2) (k : Fin k0_t1_loop.trips) (hh) :
    (A.slice (Rect.unit (s := S2) (k0_off9 (wd k.val)) S1.size hh)).squeeze S_ squeezes_S1_S_ = cell A (Ring.sl 2 k.val) := cell_congr A (o9 k) _
@[sl_canon] theorem t1_slotW {et : EltTy} (M : Memref sig .tc .vmem S2x128x4096 et) (k : Fin k0_t1_loop.trips) (hh hs) :
    (M.slice (Rect.unit (s := S2x128x4096) (k0_off10 (wd k.val)) S1x128x4096.size hh) hs).squeeze S128x4096 squeezes_S1x128x4096_S128x4096 = slotA M (Ring.sl 2 k.val) := slotA_congr M (o10 k) _ _
@[sl_canon] theorem t1_blkW {et : EltTy} (M : Memref sig .tc .hbm S4096x4096 et) (k : Fin k0_t1_loop.trips) (hh hs) :
    M.slice (Rect.unit (s := S4096x4096) (k0_off11 (wd (k.val % 32))) S128x4096.size hh) hs = blkA M (Ring.bk 32 k.val) := blkA_congr M (o11 k) _ _
@[sl_canon] theorem t1_semW2 (A : DmaSems sig S2) (k : Fin k0_t1_loop.trips) (hh) :
    (A.slice (Rect.unit (s := S2) (k0_off12 (wd k.val)) S1.size hh)).squeeze S_ squeezes_S1_S_ = cell A (Ring.sl 2 k.val) := cell_congr A (o12 k) _
@[sl_canon] theorem t1_slotW2 {et : EltTy} (M : Memref sig .tc .vmem S2x128x4096 et) (k : Fin k0_t1_loop.trips) (hh hs) :
    (M.slice (Rect.unit (s := S2x128x4096) (k0_off13 (wd k.val)) S1x128x4096.size hh) hs).squeeze S128x4096 squeezes_S1x128x4096_S128x4096 = slotA M (Ring.sl 2 k.val) := slotA_congr M (o13 k) _ _
@[sl_canon] theorem t1_blkW2 {et : EltTy} (M : Memref sig .tc .hbm S4096x4096 et) (k : Fin k0_t1_loop.trips) (hh hs) :
    M.slice (Rect.unit (s := S4096x4096) (k0_off14 (wd (k.val % 32))) S128x4096.size hh) hs = blkA M (Ring.bk 32 k.val) := blkA_congr M (o14 k) _ _
@[sl_canon] theorem t1_semO (A : DmaSems sig S2) (k : Fin k0_t1_loop.trips) (hh) :
    (A.slice (Rect.unit (s := S2) (k0_off20 (wd k.val)) S1.size hh)).squeeze S_ squeezes_S1_S_ = cell A (Ring.sl 2 k.val) := cell_congr A (o20 k) _
@[sl_canon] theorem t1_slotO {et : EltTy} (M : Memref sig .tc .vmem S2x128x4096 et) (k : Fin k0_t1_loop.trips) (hh hs) :
    (M.slice (Rect.unit (s := S2x128x4096) (k0_off22 (wd k.val)) S1x128x4096.size hh) hs).squeeze S128x4096 squeezes_S1x128x4096_S128x4096 = slotA M (Ring.sl 2 k.val) := slotA_congr M (o22 k) _ _
@[sl_canon] theorem t1_blkO {et : EltTy} (M : Memref sig .tc .hbm S4096x4096 et) (k : Fin k0_t1_loop.trips) (hh hs) :
    M.slice (Rect.unit (s := S4096x4096) (k0_off21 (wd (k.val % 32))) S128x4096.size hh) hs = blkA M (Ring.bk 32 k.val) := blkA_congr M (o21 k) _ _
@[sl_canon] theorem t1_semP (A : DmaSems sig S2) (k : Fin k0_t1_loop.trips) (h : 0 < k.val) (hh) :
    (A.slice (Rect.unit (s := S2) (k0_off23 (wd (k.val - 1))) S1.size hh)).squeeze S_ squeezes_S1_S_ = cell A (Ring.sl 2 (k.val + 1)) := cell_congr A (o23 k h) _
@[sl_canon] theorem t1_slotP {et : EltTy} (M : Memref sig .tc .vmem S2x128x4096 et) (k : Fin k0_t1_loop.trips) (h : 0 < k.val) (hh hs) :
    (M.slice (Rect.unit (s := S2x128x4096) (k0_off25 (wd (k.val - 1))) S1x128x4096.size hh) hs).squeeze S128x4096 squeezes_S1x128x4096_S128x4096 = slotA M (Ring.sl 2 (k.val + 1)) := slotA_congr M (o25 k h) _ _
@[sl_canon] theorem t1_blkP {et : EltTy} (M : Memref sig .tc .hbm S4096x4096 et) (k : Fin k0_t1_loop.trips) (h : 0 < k.val) (hh hs) :
    M.slice (Rect.unit (s := S4096x4096) (k0_off24 (wd (k.val % 32))) S128x4096.size hh) hs = blkA M (Ring.bk 32 (k.val - 1)) := blkA_congr M (o24 k h) _ _

/-! ## Before each loop: block 0 into slot 0 -/

theorem o1 : k0_off1 = semOff (Ring.sl 2 0) := by decide +kernel
theorem o2 : k0_off2 = slotOff (Ring.sl 2 0) := by decide +kernel
theorem o29 : k0_off29 = semOff (Ring.sl 2 0) := by decide +kernel
theorem o30 : k0_off30 = slotOff (Ring.sl 2 0) := by decide +kernel
theorem oA : (![0, 0] : Fin 2 → Nat) = rowOffA (Ring.bk 32 0) := by decide +kernel
theorem oB : (![0, 0] : Fin 2 → Nat) = rowOffB (Ring.bk 8 0) := by decide +kernel
@[sl_canon] theorem z_semA (A : DmaSems sig S2) (hh) :
    (A.slice (Rect.unit (s := S2) k0_off1 S1.size hh)).squeeze S_ squeezes_S1_S_ = cell A (Ring.sl 2 0) := cell_congr A o1 _
@[sl_canon] theorem z_slotA {et : EltTy} (M : Memref sig .tc .vmem S2x128x4096 et) (hh hs) :
    (M.slice (Rect.unit (s := S2x128x4096) k0_off2 S1x128x4096.size hh) hs).squeeze S128x4096 squeezes_S1x128x4096_S128x4096 = slotA M (Ring.sl 2 0) := slotA_congr M o2 _ _
@[sl_canon] theorem z_blkA {et : EltTy} (M : Memref sig .tc .hbm S4096x4096 et) (hh hs) :
    M.slice (Rect.unit (s := S4096x4096) ![0, 0] S128x4096.size hh) hs = blkA M (Ring.bk 32 0) := blkA_congr M oA _ _
@[sl_canon] theorem z_semB (A : DmaSems sig S2) (hh) :
    (A.slice (Rect.unit (s := S2) k0_off29 S1.size hh)).squeeze S_ squeezes_S1_S_ = cell A (Ring.sl 2 0) := cell_congr A o29 _
@[sl_canon] theorem z_slotB (M : Memref sig .tc .vmem S2x512x4096 .bf16) (hh hs) :
    (M.slice (Rect.unit (s := S2x512x4096) k0_off30 S1x512x4096.size hh) hs).squeeze S512x4096 squeezes_S1x512x4096_S512x4096 = slotB M (Ring.sl 2 0) := slotB_congr M o30 _ _
@[sl_canon] theorem z_blkB (hh hs) :
    mLub.slice (Rect.unit (s := S4096x4096) ![0, 0] S512x4096.size hh) hs = blkB (Ring.bk 8 0) := blkB_congr oB _ _

/-! ## After the first loop: the last block still on its way out -/

theorem chk5_end : k0_chk5 (wd (32 - 1)) := by decide +kernel
theorem chk6_end : k0_chk6 (wd (32 % 32)) := by decide +kernel
theorem o26 : k0_off26 (wd (32 - 1)) = semOff (Ring.sl 2 (32 + 1)) := by decide +kernel
theorem o27 : k0_off27 (wd (32 % 32)) = rowOffA (Ring.bk 32 (32 - 1)) := by decide +kernel
theorem o28 : k0_off28 (wd (32 - 1)) = slotOff (Ring.sl 2 (32 + 1)) := by decide +kernel
@[sl_canon] theorem e_sem (A : DmaSems sig S2) (hh) :
    (A.slice (Rect.unit (s := S2) (k0_off26 (wd (32 - 1))) S1.size hh)).squeeze S_ squeezes_S1_S_ = cell A (Ring.sl 2 (32 + 1)) := cell_congr A o26 _
@[sl_canon] theorem e_slot {et : EltTy} (M : Memref sig .tc .vmem S2x128x4096 et) (hh hs) :
    (M.slice (Rect.unit (s := S2x128x4096) (k0_off28 (wd (32 - 1))) S1x128x4096.size hh) hs).squeeze S128x4096 squeezes_S1x128x4096_S128x4096 = slotA M (Ring.sl 2 (32 + 1)) := slotA_congr M o28 _ _
@[sl_canon] theorem e_blk {et : EltTy} (M : Memref sig .tc .hbm S4096x4096 et) (hh hs) :
    M.slice (Rect.unit (s := S4096x4096) (k0_off27 (wd (32 % 32))) S128x4096.size hh) hs = blkA M (Ring.bk 32 (32 - 1)) := blkA_congr M o27 _ _

end Cert.KernelIdeal.Hand

end
-- ==== Proof.Ideal.Later.lean ====
/-
  The pipeline the kernel's three later loops share. Each fetches blocks of 512 rows of the copied upper Laplacian into
  two slots, one block ahead, and stores 512 rows of a narrow array a trip. Here: the pieces such a loop holds, the
  state of its two slots before trip `k` (`ringAt`), and the narrow array after `k` stores (`accB`).
-/
module

public import proofs.«01_k».proof.Proof.Ideal.Names

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A buffer held whole, at contents `f`. -/
abbrev pt (c : Dev nD) {sp : Space} {s : Shape} {e : EltTy} (m : Memref sig .tc sp s e) (f : Buf (Elt F) (m.view.loc (c : Thread nD τ))) : sProp 𝕄 :=
  m.view.loc (c : Thread nD τ) ↦[m.view.set]{fullShare} f

/-! ## The pieces every later pipeline moves: a block home, a slot held, a cell, a block in flight -/

section Pieces
variable (c : Dev nD) (XB : Buf (Elt F) (mLub.view.loc (c : Thread nD τ)))
  (M : Memref sig .tc .vmem S2x512x4096 .bf16) (A : DmaSems sig S2)

/-- Cell `s` at zero. -/
abbrev cellP (s : Fin 2) : sProp 𝕄 := semVal ((c : Thread nD τ), SemLoc.dma (cell A s).sem) 0
/-- Slot `s` held at contents `f`. -/
abbrev slotP (s : Fin 2) (f : Buf (Elt F) ((slotB M s).view.loc (c : Thread nD τ))) : sProp 𝕄 :=
  (slotB M s).view.loc (c : Thread nD τ) ↦[(slotB M s).view.set]{fullShare} f
/-- Block `b` home, at the contents `XB` of the whole array. -/
abbrev homeP (b : Fin 8) : sProp 𝕄 := (blkB b).view.loc (c : Thread nD τ) ↦[(blkB b).view.set]{fullShare} XB
/-- What block `b`'s transfer leaves in slot `s` over `f`. -/
abbrev landed (s : Fin 2) (b : Fin 8) (f : Buf (Elt F) ((slotB M s).view.loc (c : Thread nD τ))) : Buf (Elt F) ((slotB M s).view.loc (c : Thread nD τ)) :=
  (slotB M s).view.writes (Elt F) f [⟨Rect.whole S512x4096, ReadAs.same.apply ((blkB b).view.read (Elt F) XB)⟩]
/-- Block `b` in flight to slot `s`, issued over `f`. -/
abbrev flightP (s : Fin 2) (b : Fin 8) (f : Buf (Elt F) ((slotB M s).view.loc (c : Thread nD τ))) : sProp 𝕄 :=
  Transfers.Flight countersEmb (c : Thread nD τ) (SemLoc.dma (cell A s).sem) () 131072 iprop(slotP c M s (landed c XB M s b f) ∗ homeP c XB b)

/-- Trip `k`'s homes when it issues: block `k + 1`, about to go out, beside the rest. -/
theorem homes_here (k : ℕ) (hk : k + 1 < 8) :
    bigSep (Ring.homeSet 1 k) (homeP c XB) = iprop(homeP c XB (Ring.bk 8 (k + 1)) ∗ bigSep ((Ring.homeSet 1 k).erase (Ring.bk 8 (k + 1))) (homeP c XB)) := by
  conv_lhs => rw [Ring.homeSet_out 1 k hk, bigSep_insert (Ring.bkL_not_mem_erase 1 k)]
  rfl
/-- And after it: block `k`, just back, beside that rest. -/
theorem homes_next (k : ℕ) (hk : k + 1 < 8) :
    bigSep (Ring.homeSet 1 (k + 1)) (homeP c XB) = iprop(homeP c XB (Ring.bk 8 k) ∗ bigSep ((Ring.homeSet 1 k).erase (Ring.bk 8 (k + 1))) (homeP c XB)) := by
  conv_lhs => rw [Ring.homeSet_succ 1 k hk, bigSep_insert (Ring.bk_not_mem_erase 1 k (by omega) (by decide))]
  rfl

omit [FloatOps F] in
theorem sl2_add2 (k : ℕ) : Ring.sl 2 (k + 1 + 1) = Ring.sl 2 k := by rw [show k + 1 + 1 = k + 2 from rfl, Ring.sl_add]

end Pieces

/-- The counters a later loop carries into trip `k`: the next block to issue, the block to await, the row block. -/
abbrev words (k : ℕ) : BitVec 32 × BitVec 32 × BitVec 32 := (wd (min (k + 1) 8), wd k, wd (k % 8))

/-! ## The two slots before trip `k` -/

section RingSt
variable (c : Dev nD) (XB : Buf (Elt F) (mLub.view.loc (c : Thread nD τ)))
  (M : Memref sig .tc .vmem S2x512x4096 .bf16) (A : DmaSems sig S2)

/-- Slot `k % 2`: in flight with block `k`, or idle when every block has been taken. -/
def slotNow (k : ℕ) : sProp 𝕄 :=
  if k < 8 then iprop(∃ f, flightP c XB M A (Ring.sl 2 k) (Ring.bk 8 k) f)
  else iprop((∃ f, slotP c M (Ring.sl 2 k) f) ∗ cellP c A (Ring.sl 2 k))
theorem slotNow_lt {k : ℕ} (h : k < 8) : slotNow c XB M A k = iprop(∃ f, flightP c XB M A (Ring.sl 2 k) (Ring.bk 8 k) f) := if_pos h
theorem slotNow_end : slotNow c XB M A 8 = iprop((∃ f, slotP c M (Ring.sl 2 8) f) ∗ cellP c A (Ring.sl 2 8)) := if_neg (by decide)

/-- Every block but the one in flight home, the other slot and its cell idle. -/
def ringAt (k : ℕ) : sProp 𝕄 :=
  iprop((∃ W, owes (c : Thread nD τ) 0 W) ∗ bigSep (Ring.homeSet 1 k) (homeP c XB)
    ∗ (∃ f, slotP c M (Ring.sl 2 (k + 1)) f) ∗ cellP c A (Ring.sl 2 (k + 1)) ∗ slotNow c XB M A k)

/-- After the last trip every block is home. -/
theorem homes_last : bigSep (Ring.homeSet 1 8) (homeP c XB) = iprop(homeP c XB (Ring.bk 8 7) ∗ bigSep (Ring.homeSet 1 7) (homeP c XB)) := by
  have e : Ring.homeSet (NB := 8) 1 8 = insert (Ring.bk 8 7) (Ring.homeSet 1 7) := by decide
  rw [e, bigSep_insert (by decide)]
  rfl
theorem homes_tail (k : ℕ) (h : k = 7) : bigSep (Ring.homeSet 1 (k + 1)) (homeP (F := F) c XB) = iprop(homeP c XB (Ring.bk 8 k) ∗ bigSep (Ring.homeSet 1 k) (homeP c XB)) := by
  rw [h]; exact homes_last c XB
theorem slotNow_tail (k : ℕ) (h : k = 7) : slotNow c XB M A (k + 1) = iprop((∃ f, slotP c M (Ring.sl 2 (k + 1)) f) ∗ cellP c A (Ring.sl 2 (k + 1))) := by
  rw [h]; exact slotNow_end c XB M A
end RingSt

/-! ## What the trips read and store -/

section Store
variable (c : Dev nD)

/-- Rows `512 b …` of a square array. -/
def rdB (Z : S4096x4096.Idx → Elt F .bf16) (b : Fin 8) : S512x4096.Idx → Elt F .bf16 := fun i => Z ((rB b).emb i)
/-- Rows `512 b …` of a narrow array. -/
def rdB' (Z : S4096x16.Idx → Elt F .f32) (b : Fin 8) : S512x16.Idx → Elt F .f32 := fun i => Z ((rB' b).emb i)
/-- A narrow array read whole. -/
abbrev rd16 {e : EltTy} (m : Memref sig .tc .vmem S4096x16 e) (f : Buf (Elt F) (m.view.loc (c : Thread nD τ))) : S4096x16.Idx → Elt F e :=
  View.readAt (Elt F) m.view (Rect.unit (s := S4096x16) ![0, 0] S4096x16.size inb_S4096x16_S4096x16_0_0).toLoadRect f
theorem casts1 : S512x4096.ShapeCasts S1x512x4096 := by decide
theorem casts2 : S1x512x4096.ShapeCasts S512x4096 := by decide
/-- Rows `512 b …` as a slot of two hands them over. -/
def inB (Z : S4096x4096.Idx → Elt F .bf16) (b : Fin 8) : S1x512x4096.Idx → Elt F .bf16 := shapeCast S1x512x4096 (rdB Z b) casts1

/-- A narrow array after `k` blocks of 512 rows have been stored into it, block `b` as `pay b`. -/
def accB (m : Memref sig .tc .vmem S4096x16 .f32) (f0 : Buf (Elt F) (m.view.loc (c : Thread nD τ))) (pay : Fin 8 → S512x16.Idx → Elt F .f32) :
    ℕ → Buf (Elt F) (m.view.loc (c : Thread nD τ))
  | 0 => f0
  | k + 1 => m.view.writes (Elt F) (accB m f0 pay k) [⟨rB' (Ring.bk 8 k), pay (Ring.bk 8 k)⟩]

theorem readAt_rows (Zd : Buf (Elt F) (mLdb.view.loc (c : Thread nD τ))) {b : Fin 8} {off : Fin 2 → Nat} (e : off = rowOffB b) (hh) :
    View.readAt (Elt F) mLdb.view (Rect.unit (s := S4096x4096) off S512x4096.size hh).toLoadRect Zd = rdB Zd b := by
  subst e; rfl
theorem readAt_rows' (Z : Buf (Elt F) (mP.view.loc (c : Thread nD τ))) {b : Fin 8} {off : Fin 2 → Nat} (e : off = rowOffB b) (hh) :
    View.readAt (Elt F) mP.view (Rect.unit (s := S4096x16) off S512x16.size hh).toLoadRect Z = rdB' Z b := by
  subst e; rfl
/-- A slot read through the whole buffer, once a block has landed in it. -/
theorem readAt_slot (XB : Buf (Elt F) (mLub.view.loc (c : Thread nD τ))) (M : Memref sig .tc .vmem S2x512x4096 .bf16) (s : Fin 2) (b : Fin 8)
    (f : Buf (Elt F) ((slotB M s).view.loc (c : Thread nD τ))) {off : Fin 3 → Nat} (e : off = slotOff s) (hh) :
    View.readAt (Elt F) M.view (Rect.unit (s := S2x512x4096) off S1x512x4096.size hh).toLoadRect
      ((slotB M s).view.writes (Elt F) f [⟨Rect.whole S512x4096, ReadAs.same.apply ((blkB b).view.read (Elt F) XB)⟩]) = inB XB b := by
  subst e
  have h : (slotB M s).view.read (Elt F) ((slotB M s).view.writes (Elt F) f [⟨Rect.whole S512x4096, ReadAs.same.apply ((blkB b).view.read (Elt F) XB)⟩]) = rdB XB b := by
    funext y
    have h := View.read_writes_cons_emb (Val := Elt F) (slotB M s).view (f := f) (Rect.whole S512x4096) (ReadAs.same.apply ((blkB b).view.read (Elt F) XB)) [] y
    exact (congrArg _ (Rect.emb_unit_full (s := S512x4096) _ y)).symm.trans h
  unfold slotB at h ⊢
  rw [Memref.read_squeeze_slice (hc := casts2)] at h
  unfold inB
  rw [← h, shapeCast_shapeCast]
theorem writes_rows (m : Memref sig .tc .vmem S4096x16 .f32) (f : Buf (Elt F) (m.view.loc (c : Thread nD τ))) {b : Fin 8} {off : Fin 2 → Nat}
    (e : off = rowOffB b) (hh) (p : S512x16.Idx → Elt F .f32) :
    m.view.writes (Elt F) f [⟨Rect.unit (s := S4096x16) off S512x16.size hh, p⟩] = m.view.writes (Elt F) f [⟨rB' b, p⟩] := by
  subst e; rfl
end Store

end Cert.KernelIdeal.Hand

end
-- ==== Proof.Ideal.First.lean ====
/-
  The pieces of the first loop: the two input pipelines' slots (`inAt`), the output pipeline's (`outAt`), and what the
  trips read and store, block of 128 rows by block.
-/
module

public import proofs.«01_k».proof.Proof.Ideal.NamesFirst
public import proofs.«01_k».proof.Proof.Ideal.Later
public import Idealize.ShloMosaic.Lib.ViewIndex

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## A slot held, a block home, and the transfers between them -/

section Pieces
variable (c : Dev nD)

/-- Slot `s` of a two-slot buffer of 128 rows, held at contents `f`. -/
abbrev slotPA {e : EltTy} (M : Memref sig .tc .vmem S2x128x4096 e) (s : Fin 2) (f : Buf (Elt F) ((slotA M s).view.loc (c : Thread nD τ))) : sProp 𝕄 :=
  (slotA M s).view.loc (c : Thread nD τ) ↦[(slotA M s).view.set]{fullShare} f
/-- Block `b` of a square array, held at contents `f`. -/
abbrev blkPA {e : EltTy} (S : Memref sig .tc .hbm S4096x4096 e) (b : Fin 32) (f : Buf (Elt F) ((blkA S b).view.loc (c : Thread nD τ))) : sProp 𝕄 :=
  (blkA S b).view.loc (c : Thread nD τ) ↦[(blkA S b).view.set]{fullShare} f

/-- An array's contents, as the contents its block `b` is held at. -/
def homeC {e : EltTy} (S : Memref sig .tc .hbm S4096x4096 e) (Z : Buf (Elt F) (S.view.loc (c : Thread nD τ))) (b : Fin 32) : Buf (Elt F) ((blkA S b).view.loc (c : Thread nD τ)) := Z

variable (S : Memref sig .tc .hbm S4096x4096 .f32) (Z : Buf (Elt F) (S.view.loc (c : Thread nD τ)))
  (M : Memref sig .tc .vmem S2x128x4096 .f32) (A : DmaSems sig S2)

/-- What block `b`'s transfer leaves in slot `s` over `f`. -/
abbrev landedA (s : Fin 2) (b : Fin 32) (f : Buf (Elt F) ((slotA M s).view.loc (c : Thread nD τ))) : Buf (Elt F) ((slotA M s).view.loc (c : Thread nD τ)) :=
  (slotA M s).view.writes (Elt F) f [⟨Rect.whole S128x4096, ReadAs.same.apply ((blkA S b).view.read (Elt F) (homeC c S Z b))⟩]
/-- Block `b` in flight to slot `s`, issued over `f`. -/
abbrev flightPA (s : Fin 2) (b : Fin 32) (f : Buf (Elt F) ((slotA M s).view.loc (c : Thread nD τ))) : sProp 𝕄 :=
  Transfers.Flight countersEmb (c : Thread nD τ) (SemLoc.dma (cell A s).sem) () 65536 iprop(slotPA c M s (landedA c S Z M s b f) ∗ blkPA c S b (homeC c S Z b))

/-- Slot `k % 2`: in flight with block `k`, or idle when every block has been taken. -/
def inNow (k : ℕ) : sProp 𝕄 :=
  if k < 32 then iprop(∃ f, flightPA c S Z M A (Ring.sl 2 k) (Ring.bk 32 k) f)
  else iprop((∃ f, slotPA c M (Ring.sl 2 k) f) ∗ cellP c A (Ring.sl 2 k))
theorem inNow_lt {k : ℕ} (h : k < 32) : inNow c S Z M A k = iprop(∃ f, flightPA c S Z M A (Ring.sl 2 k) (Ring.bk 32 k) f) := if_pos h
theorem inNow_end : inNow c S Z M A 32 = iprop((∃ f, slotPA c M (Ring.sl 2 32) f) ∗ cellP c A (Ring.sl 2 32)) := if_neg (by decide)
theorem inNow_tail (k : ℕ) (h : k = 31) : inNow c S Z M A (k + 1) = iprop((∃ f, slotPA c M (Ring.sl 2 (k + 1)) f) ∗ cellP c A (Ring.sl 2 (k + 1))) := by
  rw [h]; exact inNow_end c S Z M A

/-- An input pipeline before trip `k`: every block but the one in flight home, the other slot and its cell idle. -/
def inAt (k : ℕ) : sProp 𝕄 :=
  iprop(bigSep (Ring.homeSet 1 k) (fun b => blkPA c S b (homeC c S Z b)) ∗ (∃ f, slotPA c M (Ring.sl 2 (k + 1)) f) ∗ cellP c A (Ring.sl 2 (k + 1)) ∗ inNow c S Z M A k)

theorem inHomes_here (k : ℕ) (hk : k + 1 < 32) :
    bigSep (Ring.homeSet 1 k) (fun b => blkPA c S b (homeC c S Z b)) = iprop(blkPA c S (Ring.bk 32 (k + 1)) (homeC c S Z (Ring.bk 32 (k + 1))) ∗ bigSep ((Ring.homeSet 1 k).erase (Ring.bk 32 (k + 1))) (fun b => blkPA c S b (homeC c S Z b))) := by
  conv_lhs => rw [Ring.homeSet_out 1 k hk, bigSep_insert (Ring.bkL_not_mem_erase 1 k)]
  rfl
theorem inHomes_next (k : ℕ) (hk : k + 1 < 32) :
    bigSep (Ring.homeSet 1 (k + 1)) (fun b => blkPA c S b (homeC c S Z b)) = iprop(blkPA c S (Ring.bk 32 k) (homeC c S Z (Ring.bk 32 k)) ∗ bigSep ((Ring.homeSet 1 k).erase (Ring.bk 32 (k + 1))) (fun b => blkPA c S b (homeC c S Z b))) := by
  conv_lhs => rw [Ring.homeSet_succ 1 k hk, bigSep_insert (Ring.bk_not_mem_erase 1 k (by omega) (by decide))]
  rfl
theorem inHomes_tail (k : ℕ) (h : k = 31) :
    bigSep (Ring.homeSet 1 (k + 1)) (fun b => blkPA c S b (homeC c S Z b)) = iprop(blkPA c S (Ring.bk 32 k) (homeC c S Z (Ring.bk 32 k)) ∗ bigSep (Ring.homeSet 1 k) (fun b => blkPA c S b (homeC c S Z b))) := by
  subst h
  have e : Ring.homeSet (NB := 32) 1 32 = insert (Ring.bk 32 31) (Ring.homeSet 1 31) := by decide
  rw [e, bigSep_insert (by decide)]
  rfl
end Pieces

/-! ## What the trips read and store -/

section Store
variable (c : Dev nD)

theorem castsA : S128x4096.ShapeCasts S1x128x4096 := by decide
theorem castsA' : S1x128x4096.ShapeCasts S128x4096 := by decide
/-- Rows `128 b …` of a square array; as a slot of two hands them over. -/
def rdA {e : EltTy} (Z : S4096x4096.Idx → Elt F e) (b : Fin 32) : S128x4096.Idx → Elt F e := fun i => Z ((rA b).emb i)
def inA (Z : S4096x4096.Idx → Elt F .f32) (b : Fin 32) : S1x128x4096.Idx → Elt F .f32 := shapeCast S1x128x4096 (rdA Z b) castsA

/-- A window written over whole reads what was written. -/
theorem read_landed {sp : Space} {e : EltTy} (v : View sig .tc sp S128x4096 e) (f : v.ty.Contents (Elt F)) (X : S128x4096.Idx → Elt F e) :
    v.read (Elt F) (v.writes (Elt F) f [⟨Rect.whole S128x4096, X⟩]) = X := by
  funext y
  have h := View.read_writes_cons_emb (Val := Elt F) v (f := f) (Rect.whole S128x4096) X [] y
  exact (congrArg _ (Rect.emb_unit_full (s := S128x4096) _ y)).symm.trans h
/-- Contents that read `X` through a window agree, on its elements, with `X` written over it. -/
theorem landed_eq {sp : Space} {e : EltTy} (v : View sig .tc sp S128x4096 e) (f g : v.ty.Contents (Elt F)) (X : S128x4096.Idx → Elt F e) (h : v.read (Elt F) g = X) :
    ∀ i ∈ v.set, v.writes (Elt F) f [⟨Rect.whole S128x4096, X⟩] i = g i := by
  intro i hi
  obtain ⟨y, -, rfl⟩ := Finset.mem_map.mp hi
  exact View.eq_of_read_eq (congrFun ((read_landed v f X).trans h.symm) y)
/-- A slot read back through its own window. -/
theorem slotA_read {e : EltTy} (M : Memref sig .tc .vmem S2x128x4096 e) (s : Fin 2) (g : Buf (Elt F) (M.view.loc (c : Thread nD τ))) :
    (slotA M s).view.read (Elt F) g = shapeCast S128x4096 (View.readAt (Elt F) M.view (Rect.unit (s := S2x128x4096) (slotOff s) S1x128x4096.size (slotOff_inbA s)).toLoadRect g) castsA' := by
  unfold slotA
  rw [Memref.read_squeeze_slice (hc := castsA')]
theorem readAt_slotA (M : Memref sig .tc .vmem S2x128x4096 .f32) (s : Fin 2) (X : S128x4096.Idx → Elt F .f32)
    (f : Buf (Elt F) ((slotA M s).view.loc (c : Thread nD τ))) {off : Fin 3 → Nat} (e : off = slotOff s) (hh) :
    View.readAt (Elt F) M.view (Rect.unit (s := S2x128x4096) off S1x128x4096.size hh).toLoadRect
      ((slotA M s).view.writes (Elt F) f [⟨Rect.whole S128x4096, ReadAs.same.apply X⟩]) = shapeCast S1x128x4096 X castsA := by
  subst e
  have h : (slotA M s).view.read (Elt F) ((slotA M s).view.writes (Elt F) f [⟨Rect.whole S128x4096, ReadAs.same.apply X⟩]) = X := read_landed _ _ _
  unfold slotA at h ⊢
  rw [Memref.read_squeeze_slice (hc := castsA')] at h
  conv_rhs => rw [← h]
  rw [shapeCast_shapeCast]
/-- A slot stored through the whole buffer, read back through its own window. -/
theorem slotA_stored (M : Memref sig .tc .vmem S2x128x4096 .bf16) (s : Fin 2) (p : S1x128x4096.Idx → Elt F .bf16)
    (f : Buf (Elt F) (M.view.loc (c : Thread nD τ))) {off : Fin 3 → Nat} (e : off = slotOff s) (hh) :
    (slotA M s).view.read (Elt F) (M.view.writes (Elt F) f [⟨Rect.unit (s := S2x128x4096) off S1x128x4096.size hh, p⟩]) = shapeCast S128x4096 p castsA' := by
  subst e
  rw [slotA_read c]
  congr 1
  funext y
  exact View.read_writes_cons_emb (Val := Elt F) M.view (f := f) (Rect.unit (s := S2x128x4096) (slotOff s) S1x128x4096.size hh) p [] y

theorem writes_rowsA {e : EltTy} (m : Memref sig .tc .vmem S4096x16 e) (f : Buf (Elt F) (m.view.loc (c : Thread nD τ))) {b : Fin 32} {off : Fin 2 → Nat}
    (e : off = rowOffA b) (hh) (p : S128x16.Idx → Elt F _) :
    m.view.writes (Elt F) f [⟨Rect.unit (s := S4096x16) off S128x16.size hh, p⟩] = m.view.writes (Elt F) f [⟨rA' b, p⟩] := by
  subst e; rfl
theorem writes_wideA {e : EltTy} (m : Memref sig .tc .vmem S4096x4096 e) (f : Buf (Elt F) (m.view.loc (c : Thread nD τ))) {b : Fin 32} {off : Fin 2 → Nat}
    (e : off = rowOffA b) (hh) (p : S128x4096.Idx → Elt F _) :
    m.view.writes (Elt F) f [⟨Rect.unit (s := S4096x4096) off S128x4096.size hh, p⟩] = m.view.writes (Elt F) f [⟨rA b, p⟩] := by
  subst e; rfl

/-- A narrow array, and a square one, after `k` blocks of 128 rows have been stored into it, block `b` as `pay b`. -/
def accA (m : Memref sig .tc .vmem S4096x16 .f32) (f0 : Buf (Elt F) (m.view.loc (c : Thread nD τ))) (pay : Fin 32 → S128x16.Idx → Elt F .f32) :
    ℕ → Buf (Elt F) (m.view.loc (c : Thread nD τ))
  | 0 => f0
  | k + 1 => m.view.writes (Elt F) (accA m f0 pay k) [⟨rA' (Ring.bk 32 k), pay (Ring.bk 32 k)⟩]
def accW (m : Memref sig .tc .vmem S4096x4096 .bf16) (f0 : Buf (Elt F) (m.view.loc (c : Thread nD τ))) (pay : Fin 32 → S128x4096.Idx → Elt F .bf16) :
    ℕ → Buf (Elt F) (m.view.loc (c : Thread nD τ))
  | 0 => f0
  | k + 1 => m.view.writes (Elt F) (accW m f0 pay k) [⟨rA (Ring.bk 32 k), pay (Ring.bk 32 k)⟩]

/-- The rows a trip sends out: block `b` of the upper Laplacian, rounded. -/
def outRows (Zu : S4096x4096.Idx → Elt F .f32) (b : Fin 32) : S128x4096.Idx → Elt F .bf16 := shapeCast S128x4096 (k0_pay6 (inA Zu b)) castsA'
end Store

/-! ## The output pipeline -/

section Out
variable (c : Dev nD) (Zu : S4096x4096.Idx → Elt F .f32) (XB : Buf (Elt F) (mLub.view.loc (c : Thread nD τ)))

/-- Block `b` on its way out of slot `s`, the slot reading the rounded rows. -/
abbrev flightO (s : Fin 2) (b : Fin 32) (f : Buf (Elt F) ((blkA mLub b).view.loc (c : Thread nD τ))) (g : Buf (Elt F) ((slotA mSo s).view.loc (c : Thread nD τ))) : sProp 𝕄 :=
  Transfers.Flight countersEmb (c : Thread nD τ) (SemLoc.dma (cell cc0_scoped5 s).sem) () 32768
    iprop(blkPA c mLub b ((blkA mLub b).view.writes (Elt F) f [⟨Rect.whole S128x4096, ReadAs.same.apply ((slotA mSo s).view.read (Elt F) g)⟩]) ∗ slotPA c mSo s g)

/-- The slot filled a trip ago: on its way out, or idle before the first trip. -/
def outNow (k : ℕ) : sProp 𝕄 :=
  if 0 < k then iprop(∃ f g, ⌜(slotA mSo (Ring.sl 2 (k + 1))).view.read (Elt F) g = outRows Zu (Ring.bk 32 (k - 1))⌝ ∗ flightO c (Ring.sl 2 (k + 1)) (Ring.bk 32 (k - 1)) f g)
  else iprop((∃ g, slotPA c mSo (Ring.sl 2 (k + 1)) g) ∗ cellP c cc0_scoped5 (Ring.sl 2 (k + 1)))
theorem outNow_pos {k : ℕ} (h : 0 < k) : outNow c Zu k = iprop(∃ f g, ⌜(slotA mSo (Ring.sl 2 (k + 1))).view.read (Elt F) g = outRows Zu (Ring.bk 32 (k - 1))⌝ ∗ flightO c (Ring.sl 2 (k + 1)) (Ring.bk 32 (k - 1)) f g) := if_pos h
theorem outNow_zero {k : ℕ} (h : k = 0) : outNow c Zu k = iprop((∃ g, slotPA c mSo (Ring.sl 2 (k + 1)) g) ∗ cellP c cc0_scoped5 (Ring.sl 2 (k + 1))) := if_neg (by omega)
theorem outNow_succ (k : ℕ) : outNow c Zu (k + 1) = iprop(∃ f g, ⌜(slotA mSo (Ring.sl 2 k)).view.read (Elt F) g = outRows Zu (Ring.bk 32 k)⌝ ∗ flightO c (Ring.sl 2 k) (Ring.bk 32 k) f g) := by
  rw [outNow_pos c Zu (show 0 < k + 1 from Nat.succ_pos k), sl2_add2, Nat.add_sub_cancel]

/-- Before trip `k`: blocks `0 … k-2` out at the contents `XB`, block `k-1` on its way, the rest as they were. -/
def outAt (k : ℕ) : sProp 𝕄 :=
  iprop(bigSep (Ring.rangeSet 32 0 (k - 1)) (fun b => blkPA c mLub b (homeC c mLub XB b)) ∗ bigSep (Ring.rangeSet 32 k 32) (fun b => iprop(∃ f, blkPA c mLub b f))
    ∗ (∃ g, slotPA c mSo (Ring.sl 2 k) g) ∗ cellP c cc0_scoped5 (Ring.sl 2 k) ∗ outNow c Zu k)

theorem pend_here (k : ℕ) (hk : k < 32) : bigSep (Ring.rangeSet 32 k 32) (fun b => iprop(∃ f, blkPA (F := F) c mLub b f))
    = iprop((∃ f, blkPA c mLub (Ring.bk 32 k) f) ∗ bigSep (Ring.rangeSet 32 (k + 1) 32) (fun b => iprop(∃ f, blkPA c mLub b f))) := by
  have e : Ring.bk 32 k = ⟨k, hk⟩ := Fin.ext (Ring.bk_val hk)
  rw [Ring.bigSep_rangeSet_head hk hk, e]
theorem done_next (k : ℕ) (h : 0 < k) (hk : k < 33) : bigSep (Ring.rangeSet 32 0 (k + 1 - 1)) (fun b => blkPA c mLub b (homeC c mLub XB b))
    = iprop(blkPA c mLub (Ring.bk 32 (k - 1)) (homeC c mLub XB (Ring.bk 32 (k - 1))) ∗ bigSep (Ring.rangeSet 32 0 (k - 1)) (fun b => blkPA c mLub b (homeC c mLub XB b))) := by
  have e : Ring.bk 32 (k - 1) = ⟨k - 1, by omega⟩ := Fin.ext (Ring.bk_val (by omega))
  rw [Nat.add_sub_cancel, Ring.bigSep_rangeSet_last h (by omega), e]
theorem done_first (k : ℕ) (h : k = 0) : bigSep (Ring.rangeSet 32 0 (k + 1 - 1)) (fun b => blkPA c mLub b (homeC c mLub XB b)) = bigSep (Ring.rangeSet 32 0 (k - 1)) (fun b => blkPA c mLub b (homeC c mLub XB b)) := by
  subst h; rfl

/-- A block that has landed is at the contents `XB`, which hold the rounded rows. -/
theorem landed_out (hXB : ∀ b, rdA (e := .bf16) XB b = outRows Zu b) (b : Fin 32) (X : S128x4096.Idx → Elt F .bf16) (hX : X = outRows Zu b)
    (f : Buf (Elt F) ((blkA mLub b).view.loc (c : Thread nD τ))) :
    blkPA c mLub b ((blkA mLub b).view.writes (Elt F) f [⟨Rect.whole S128x4096, ReadAs.same.apply X⟩]) ⊢ blkPA c mLub b (homeC c mLub XB b) := by
  have hr : (blkA mLub b).view.read (Elt F) (homeC c mLub XB b) = X := by
    rw [hX, ← hXB]; rfl
  rw [show blkPA c mLub b ((blkA mLub b).view.writes (Elt F) f [⟨Rect.whole S128x4096, ReadAs.same.apply X⟩]) = blkPA c mLub b (homeC c mLub XB b) from
    pointsTo_congr (landed_eq (blkA mLub b).view f (homeC c mLub XB b) X hr)]
end Out

end Cert.KernelIdeal.Hand

end
-- ==== Proof.Ideal.T1.lean ====
/-
  The first loop: each trip awaits 128 rows of both Laplacians, stores their products with the input and the rounded
  lower rows, and sends the rounded upper rows out.
-/
module

public import proofs.«01_k».proof.Proof.Ideal.First

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The counters the loop carries into trip `k`: the next block to issue and the block to await of each input, the block
    to send and the one to await of the output, the row block. -/
abbrev words1 (k : ℕ) : BitVec 32 × BitVec 32 × BitVec 32 × BitVec 32 × BitVec 32 × BitVec 32 × BitVec 32 :=
  (wd (min (k + 1) 32), wd k, wd (min (k + 1) 32), wd k, wd k, wd (k - 1), wd (k % 32))

section Trip1

variable (c : Dev nD) (Zl : Buf (Elt F) (mLd.view.loc (c : Thread nD τ))) (Zu : Buf (Elt F) (mLu.view.loc (c : Thread nD τ)))
  (XB : Buf (Elt F) (mLub.view.loc (c : Thread nD τ))) (hXB : ∀ b, rdA (e := .bf16) XB b = outRows Zu b)
  (arg0 : Memref sig .tc .vmem S4096x16 .f32) (harg0 : arg0.IsWhole)
  (arg1 : Memref sig .tc .vmem S5x16x16 .f32) (harg1 : arg1.IsWhole)
  (arg2 : Memref sig .tc .vmem S5x16x16 .f32) (harg2 : arg2.IsWhole)
  (arg3 : Memref sig .tc .vmem S1x16 .f32) (harg3 : arg3.IsWhole)
  (arg6 : Memref sig .tc .vmem S4096x16 .f32) (harg6 : arg6.IsWhole)
  (v1 : FVec F S4096x16 .bf16) (v86 : BitVec 32)

abbrev body1 (k : Fin k0_t1_loop.trips) (a : BitVec 32 × BitVec 32 × BitVec 32 × BitVec 32 × BitVec 32 × BitVec 32 × BitVec 32) :
    Prog (TpuEff nD τ sig (Elt F) Λ₀ .tc) (BitVec 32 × BitVec 32 × BitVec 32 × BitVec 32 × BitVec 32 × BitVec 32 × BitVec 32) :=
  k0_t1_body (F := F) arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v1 v86 k a

/-- What trip `b` stores: the two products' rows, and the lower Laplacian's rows rounded. -/
def pay1D (b : Fin 32) : S128x16.Idx → Elt F .f32 := k0_pay3 v1 (inA Zl b)
def pay1U (b : Fin 32) : S128x16.Idx → Elt F .f32 := k0_pay4 v1 (inA Zu b)
def pay1L (b : Fin 32) : S128x4096.Idx → Elt F .bf16 := k0_pay5 (inA Zl b)

/-- A slot's contents once block `k` has landed in it, as a trip's run spells them. -/
abbrev landD (k : Fin k0_t1_loop.trips) := landedA c mLd Zl mSd (Ring.sl 2 k.val) (Ring.bk 32 k.val) (slotA mSd (Ring.sl 2 k.val)).view.junk
abbrev landU (k : Fin k0_t1_loop.trips) := landedA c mLu Zu mSu (Ring.sl 2 k.val) (Ring.bk 32 k.val) (slotA mSu (Ring.sl 2 k.val)).view.junk

theorem readD (k : Fin k0_t1_loop.trips) (h15) :
    View.readAt (Elt F) mSd.view (Rect.unit (s := S2x128x4096) (k0_off15 (wd k.val)) S1x128x4096.size h15).toLoadRect (landD c Zl k) = inA Zl (Ring.bk 32 k.val) := by
  exact (readAt_slotA c mSd _ ((blkA mLd _).view.read (Elt F) (homeC c mLd Zl _)) _ (o15 k) _).trans rfl
theorem readU (k : Fin k0_t1_loop.trips) (h16) :
    View.readAt (Elt F) mSu.view (Rect.unit (s := S2x128x4096) (k0_off16 (wd k.val)) S1x128x4096.size h16).toLoadRect (landU c Zu k) = inA Zu (Ring.bk 32 k.val) := by
  exact (readAt_slotA c mSu _ ((blkA mLu _).view.read (Elt F) (homeC c mLu Zu _)) _ (o16 k) _).trans rfl

theorem store1D (k : Fin k0_t1_loop.trips) (fd : Buf (Elt F) (mXd.view.loc (c : Thread nD τ))) (h17 h15) :
    mXd.view.writes (Elt F) fd [⟨rA' (Ring.bk 32 k.val), pay1D c Zl v1 (Ring.bk 32 k.val)⟩]
      = mXd.view.writes (Elt F) fd [⟨Rect.unit (s := S4096x16) (k0_off17 (wd (k.val % 32))) S128x16.size h17,
          k0_pay3 v1 (View.readAt (Elt F) mSd.view (Rect.unit (s := S2x128x4096) (k0_off15 (wd k.val)) S1x128x4096.size h15).toLoadRect (landD c Zl k))⟩] := by
  rw [readD, writes_rowsA c mXd fd (o17 k)]; rfl
theorem store1U (k : Fin k0_t1_loop.trips) (fu : Buf (Elt F) (mXu.view.loc (c : Thread nD τ))) (h17 h16) :
    mXu.view.writes (Elt F) fu [⟨rA' (Ring.bk 32 k.val), pay1U c Zu v1 (Ring.bk 32 k.val)⟩]
      = mXu.view.writes (Elt F) fu [⟨Rect.unit (s := S4096x16) (k0_off17 (wd (k.val % 32))) S128x16.size h17,
          k0_pay4 v1 (View.readAt (Elt F) mSu.view (Rect.unit (s := S2x128x4096) (k0_off16 (wd k.val)) S1x128x4096.size h16).toLoadRect (landU c Zu k))⟩] := by
  rw [readU, writes_rowsA c mXu fu (o17 k)]; rfl
theorem store1L (k : Fin k0_t1_loop.trips) (fl : Buf (Elt F) (mLdb.view.loc (c : Thread nD τ))) (h18 h15) :
    mLdb.view.writes (Elt F) fl [⟨rA (Ring.bk 32 k.val), pay1L c Zl (Ring.bk 32 k.val)⟩]
      = mLdb.view.writes (Elt F) fl [⟨Rect.unit (s := S4096x4096) (k0_off18 (wd (k.val % 32))) S128x4096.size h18,
          k0_pay5 (View.readAt (Elt F) mSd.view (Rect.unit (s := S2x128x4096) (k0_off15 (wd k.val)) S1x128x4096.size h15).toLoadRect (landD c Zl k))⟩] := by
  rw [readD, writes_wideA c mLdb fl (o18 k)]; rfl

/-- The output slot a trip has filled reads the rounded rows. -/
theorem store1O (k : Fin k0_t1_loop.trips) (h16) :
    shapeCast S128x4096 (k0_pay6 (View.readAt (Elt F) mSu.view (Rect.unit (s := S2x128x4096) (k0_off16 (wd k.val)) S1x128x4096.size h16).toLoadRect (landU c Zu k))) castsA'
      = outRows Zu (Ring.bk 32 k.val) := by
  rw [readU]; rfl

/-- What the loop holds before trip `k`. -/
def res1 (k : ℕ) (fl : Buf (Elt F) (mLdb.view.loc (c : Thread nD τ))) (fd : Buf (Elt F) (mXd.view.loc (c : Thread nD τ))) (fu : Buf (Elt F) (mXu.view.loc (c : Thread nD τ))) : sProp 𝕄 :=
  iprop(pt c mLdb fl ∗ pt c mXd fd ∗ pt c mXu fu ∗ (∃ W, owes (c : Thread nD τ) 0 W)
    ∗ inAt c mLd Zl mSd cc0_scoped1 k ∗ inAt c mLu Zu mSu cc0_scoped3 k ∗ outAt c Zu XB k)

abbrev wp1 (k : Fin k0_t1_loop.trips) (fl : Buf (Elt F) (mLdb.view.loc (c : Thread nD τ))) (fd : Buf (Elt F) (mXd.view.loc (c : Thread nD τ))) (fu : Buf (Elt F) (mXu.view.loc (c : Thread nD τ))) : sProp 𝕄 :=
  wp frame (wpE (defs₀ (F := F)) 𝒱₀ (c : Thread nD τ) none) Set.univ (body1 arg0 harg0 arg1 harg1 arg2 harg2 arg3 harg3 arg6 harg6 v1 v86 k (words1 k.val))
    (fun r => iprop(⌜r = words1 (k.val + 1)⌝ ∗ res1 c Zl Zu XB (k.val + 1)
      (mLdb.view.writes (Elt F) fl [⟨rA (Ring.bk 32 k.val), pay1L c Zl (Ring.bk 32 k.val)⟩])
      (mXd.view.writes (Elt F) fd [⟨rA' (Ring.bk 32 k.val), pay1D c Zl v1 (Ring.bk 32 k.val)⟩])
      (mXu.view.writes (Elt F) fu [⟨rA' (Ring.bk 32 k.val), pay1U c Zu v1 (Ring.bk 32 k.val)⟩])))

set_option backward.proofsInPublic true in
/-- The first trip: nothing on its way out yet. -/
theorem trip1_first (k : Fin k0_t1_loop.trips) (h : k.val = 0)
    (fl : Buf (Elt F) (mLdb.view.loc (c : Thread nD τ))) (fd : Buf (Elt F) (mXd.view.loc (c : Thread nD τ))) (fu : Buf (Elt F) (mXu.view.loc (c : Thread nD τ))) :
    res1 c Zl Zu XB k.val fl fd fu ⊢ wp1 c Zl Zu XB arg0 harg0 arg1 harg1 arg2 harg2 arg3 harg3 arg6 harg6 v1 v86 k fl fd fu := by
  have hk : k.val < 32 := by omega
  have hc1 := chk1 k
  have hc2 := chk2 k
  have hc3 := chk3 k
  have hc4 := chk4 k
  have hd3 := c3_all k
  have hd4 := c4_all k
  have hd8 := c8_all k
  have hk1 : k.val + 1 < 32 := by omega
  have h31 : k.val < 31 := by omega
  have hd1 := c1_lt k h31
  have hd2 := c2_lt k h31
  have hd11 := c11_zero k h
  unfold wp1 res1 inAt outAt
  rw [store1L c Zl k fl (k0_off18_inb k _ _ _ _ _ _ _ hc1) (k0_off15_inb _ hc2), store1D c Zl v1 k fd (k0_off17_inb k _ _ _ _ _ _ _ hc1) (k0_off15_inb _ hc2),
    store1U c Zu v1 k fu (k0_off17_inb k _ _ _ _ _ _ _ hc1) (k0_off16_inb _ hc3)]
  rw [inHomes_here c mLd _ k.val hk1, inHomes_next c mLd _ k.val hk1, inHomes_here c mLu _ k.val hk1, inHomes_next c mLu _ k.val hk1,
    inNow_lt c mLd _ mSd cc0_scoped1 hk, inNow_lt c mLd _ mSd cc0_scoped1 hk1, inNow_lt c mLu _ mSu cc0_scoped3 hk, inNow_lt c mLu _ mSu cc0_scoped3 hk1]
  rw [pend_here c k.val hk, done_first c XB k.val h, outNow_zero c Zu h, outNow_succ c Zu k.val, sl2_add2]
  iintro ⟨Hl, Hd, Hu, ⟨%W, HW⟩, ⟨⟨Hgd, Hrd⟩, ⟨%fsd, Hsd⟩, Hcd, ⟨%fid, HFd⟩⟩, ⟨⟨Hgu, Hru⟩, ⟨%fsu, Hsu⟩, Hcu, ⟨%fiu, HFu⟩⟩, ⟨Hdone, ⟨⟨%fb, Hb⟩, Hpend⟩, ⟨%go, Hso⟩, Hco, ⟨⟨%gp, Hsp⟩, Hcp⟩⟩⟩
  dsimp only [body1, words1]
  sl_unfold [k0_t1_body]
  sl_exec
  sl_step
  isplitr
  · ipureintro
    sl_unfold_words
    clear * - h
    simp only [words1, Prod.mk.injEq]
    refine ⟨?_, ?_, ?_, ?_, ?_, ?_, ?_⟩ <;> (revert k; decide +kernel)
  isplitl [Hl]; · iexact Hl
  isplitl [Hd]; · iexact Hd
  isplitl [Hu]; · iexact Hu
  isplitl [HW]; · iexists _; iexact HW
  isplitl [HFd_src Hrd HFd_dst HFd Hcd]
  · isplitl [HFd_src Hrd]
    · isplitl [HFd_src]; · iexact HFd_src
      iexact Hrd
    isplitl [HFd_dst]; · iexists _; iexact HFd_dst
    isplitl [HFd]; · iexact HFd
    iexists _; iexact Hcd
  isplitl [HFu_src Hru HFu_dst HFu Hcu]
  · isplitl [HFu_src Hru]
    · isplitl [HFu_src]; · iexact HFu_src
      iexact Hru
    isplitl [HFu_dst]; · iexists _; iexact HFu_dst
    isplitl [HFu]; · iexact HFu
    iexists _; iexact Hcu
  isplitl [Hdone]; · iexact Hdone
  isplitl [Hpend]; · iexact Hpend
  isplitl [Hsp]; · iexists _; iexact Hsp
  isplitl [Hcp]; · iexact Hcp
  iexists _; iexists _
  isplitr
  rotate_left
  · iexact Hco
  · ipureintro; exact (slotA_stored c mSo _ _ _ (o19 k) (k0_off19_inb _ hc4)).trans (store1O c Zu k (k0_off16_inb _ hc3))

include hXB in
set_option backward.proofsInPublic true in
/-- A trip in the middle: block `k + 1` of both inputs issued, block `k` awaited and used, its output sent, the one before awaited. -/
theorem trip1 (k : Fin k0_t1_loop.trips) (h : 0 < k.val) (h31 : k.val < 31)
    (fl : Buf (Elt F) (mLdb.view.loc (c : Thread nD τ))) (fd : Buf (Elt F) (mXd.view.loc (c : Thread nD τ))) (fu : Buf (Elt F) (mXu.view.loc (c : Thread nD τ))) :
    res1 c Zl Zu XB k.val fl fd fu ⊢ wp1 c Zl Zu XB arg0 harg0 arg1 harg1 arg2 harg2 arg3 harg3 arg6 harg6 v1 v86 k fl fd fu := by
  have hk : k.val < 32 := by omega
  have hc1 := chk1 k
  have hc2 := chk2 k
  have hc3 := chk3 k
  have hc4 := chk4 k
  have hd3 := c3_all k
  have hd4 := c4_all k
  have hd8 := c8_all k
  have hk1 : k.val + 1 < 32 := by omega
  have hd1 := c1_lt k h31
  have hd2 := c2_lt k h31
  have hd11 := c11_pos k h
  unfold wp1 res1 inAt outAt
  rw [store1L c Zl k fl (k0_off18_inb k _ _ _ _ _ _ _ hc1) (k0_off15_inb _ hc2), store1D c Zl v1 k fd (k0_off17_inb k _ _ _ _ _ _ _ hc1) (k0_off15_inb _ hc2),
    store1U c Zu v1 k fu (k0_off17_inb k _ _ _ _ _ _ _ hc1) (k0_off16_inb _ hc3)]
  rw [inHomes_here c mLd _ k.val hk1, inHomes_next c mLd _ k.val hk1, inHomes_here c mLu _ k.val hk1, inHomes_next c mLu _ k.val hk1,
    inNow_lt c mLd _ mSd cc0_scoped1 hk, inNow_lt c mLd _ mSd cc0_scoped1 hk1, inNow_lt c mLu _ mSu cc0_scoped3 hk, inNow_lt c mLu _ mSu cc0_scoped3 hk1]
  rw [pend_here c k.val hk, done_next c XB k.val h (by omega), outNow_pos c Zu h, outNow_succ c Zu k.val, sl2_add2]
  iintro ⟨Hl, Hd, Hu, ⟨%W, HW⟩, ⟨⟨Hgd, Hrd⟩, ⟨%fsd, Hsd⟩, Hcd, ⟨%fid, HFd⟩⟩, ⟨⟨Hgu, Hru⟩, ⟨%fsu, Hsu⟩, Hcu, ⟨%fiu, HFu⟩⟩, ⟨Hdone, ⟨⟨%fb, Hb⟩, Hpend⟩, ⟨%go, Hso⟩, Hco, ⟨%fp, %gp, %hp, HFp⟩⟩⟩
  dsimp only [body1, words1]
  sl_unfold [k0_t1_body]
  sl_exec
  sl_step
  isplitr
  · ipureintro
    sl_unfold_words
    clear * - h h31
    simp only [words1, Prod.mk.injEq]
    refine ⟨?_, ?_, ?_, ?_, ?_, ?_, ?_⟩ <;> (revert k; decide +kernel)
  isplitl [Hl]; · iexact Hl
  isplitl [Hd]; · iexact Hd
  isplitl [Hu]; · iexact Hu
  isplitl [HW]; · iexists _; iexact HW
  isplitl [HFd_src Hrd HFd_dst HFd Hcd]
  · isplitl [HFd_src Hrd]
    · isplitl [HFd_src]; · iexact HFd_src
      iexact Hrd
    isplitl [HFd_dst]; · iexists _; iexact HFd_dst
    isplitl [HFd]; · iexact HFd
    iexists _; iexact Hcd
  isplitl [HFu_src Hru HFu_dst HFu Hcu]
  · isplitl [HFu_src Hru]
    · isplitl [HFu_src]; · iexact HFu_src
      iexact Hru
    isplitl [HFu_dst]; · iexists _; iexact HFu_dst
    isplitl [HFu]; · iexact HFu
    iexists _; iexact Hcu
  isplitl [HFp_dst Hdone]
  · isplitl [HFp_dst]; · iapply (landed_out c Zu XB hXB (Ring.bk 32 (k.val - 1)) _ hp _); iexact HFp_dst
    iexact Hdone
  isplitl [Hpend]; · iexact Hpend
  isplitl [HFp_src]; · iexists _; iexact HFp_src
  isplitl [HFp]; · iexact HFp
  iexists _; iexists _
  isplitr
  rotate_left
  · iexact Hco
  · ipureintro; exact (slotA_stored c mSo _ _ _ (o19 k) (k0_off19_inb _ hc4)).trans (store1O c Zu k (k0_off16_inb _ hc3))

include hXB in
set_option backward.proofsInPublic true in
/-- The last trip: nothing left to fetch. -/
theorem trip1_last (k : Fin k0_t1_loop.trips) (h : k.val = 31)
    (fl : Buf (Elt F) (mLdb.view.loc (c : Thread nD τ))) (fd : Buf (Elt F) (mXd.view.loc (c : Thread nD τ))) (fu : Buf (Elt F) (mXu.view.loc (c : Thread nD τ))) :
    res1 c Zl Zu XB k.val fl fd fu ⊢ wp1 c Zl Zu XB arg0 harg0 arg1 harg1 arg2 harg2 arg3 harg3 arg6 harg6 v1 v86 k fl fd fu := by
  have hk : k.val < 32 := by omega
  have hc1 := chk1 k
  have hc2 := chk2 k
  have hc3 := chk3 k
  have hc4 := chk4 k
  have hd3 := c3_all k
  have hd4 := c4_all k
  have hd8 := c8_all k
  have h0 : 0 < k.val := by omega
  have hd1 := c1_last k h
  have hd2 := c2_last k h
  have hd11 := c11_pos k h0
  have eD := inHomes_tail c mLd Zl k.val h
  have eU := inHomes_tail c mLu Zu k.val h
  have nD' := inNow_tail c mLd Zl mSd cc0_scoped1 k.val h
  have nU' := inNow_tail c mLu Zu mSu cc0_scoped3 k.val h
  unfold wp1 res1 inAt outAt
  rw [store1L c Zl k fl (k0_off18_inb k _ _ _ _ _ _ _ hc1) (k0_off15_inb _ hc2), store1D c Zl v1 k fd (k0_off17_inb k _ _ _ _ _ _ _ hc1) (k0_off15_inb _ hc2),
    store1U c Zu v1 k fu (k0_off17_inb k _ _ _ _ _ _ _ hc1) (k0_off16_inb _ hc3)]
  rw [eD, eU, nD', nU', inNow_lt c mLd _ mSd cc0_scoped1 hk, inNow_lt c mLu _ mSu cc0_scoped3 hk]
  rw [pend_here c k.val hk, done_next c XB k.val h0 (by omega), outNow_pos c Zu h0, outNow_succ c Zu k.val, sl2_add2]
  iintro ⟨Hl, Hd, Hu, ⟨%W, HW⟩, ⟨Hrd, ⟨%fsd, Hsd⟩, Hcd, ⟨%fid, HFd⟩⟩, ⟨Hru, ⟨%fsu, Hsu⟩, Hcu, ⟨%fiu, HFu⟩⟩, ⟨Hdone, ⟨⟨%fb, Hb⟩, Hpend⟩, ⟨%go, Hso⟩, Hco, ⟨%fp, %gp, %hp, HFp⟩⟩⟩
  dsimp only [body1, words1]
  sl_unfold [k0_t1_body]
  sl_exec
  sl_step
  isplitr
  · ipureintro
    sl_unfold_words
    clear * - h
    simp only [words1, Prod.mk.injEq]
    refine ⟨?_, ?_, ?_, ?_, ?_, ?_, ?_⟩ <;> (revert k; decide +kernel)
  isplitl [Hl]; · iexact Hl
  isplitl [Hd]; · iexact Hd
  isplitl [Hu]; · iexact Hu
  isplitl [HW]; · iexists _; iexact HW
  isplitl [HFd_src Hrd HFd_dst HFd Hsd Hcd]
  · isplitl [HFd_src Hrd]
    · isplitl [HFd_src]; · iexact HFd_src
      iexact Hrd
    isplitl [HFd_dst]; · iexists _; iexact HFd_dst
    isplitl [HFd]; · iexact HFd
    isplitl [Hsd]; · iexists _; iexact Hsd
    iexact Hcd
  isplitl [HFu_src Hru HFu_dst HFu Hsu Hcu]
  · isplitl [HFu_src Hru]
    · isplitl [HFu_src]; · iexact HFu_src
      iexact Hru
    isplitl [HFu_dst]; · iexists _; iexact HFu_dst
    isplitl [HFu]; · iexact HFu
    isplitl [Hsu]; · iexists _; iexact Hsu
    iexact Hcu
  isplitl [HFp_dst Hdone]
  · isplitl [HFp_dst]; · iapply (landed_out c Zu XB hXB (Ring.bk 32 (k.val - 1)) _ hp _); iexact HFp_dst
    iexact Hdone
  isplitl [Hpend]; · iexact Hpend
  isplitl [HFp_src]; · iexists _; iexact HFp_src
  isplitl [HFp]; · iexact HFp
  iexists _; iexists _
  isplitr
  rotate_left
  · iexact Hco
  · ipureintro; exact (slotA_stored c mSo _ _ _ (o19 k) (k0_off19_inb _ hc4)).trans (store1O c Zu k (k0_off16_inb _ hc3))

theorem last1 : ∀ k : Fin k0_t1_loop.trips, ¬ k.val < 31 → k.val = 31 := by decide

set_option warn.classDefReducibility false in
/-- The loop's invariant: before trip `k` the counters are `k`'s and `k` blocks of rows have been stored. -/
def loopInv1 (fl0 : Buf (Elt F) (mLdb.view.loc (c : Thread nD τ))) (fd0 : Buf (Elt F) (mXd.view.loc (c : Thread nD τ))) (fu0 : Buf (Elt F) (mXu.view.loc (c : Thread nD τ)))
    (ini : BitVec 32 × BitVec 32 × BitVec 32 × BitVec 32 × BitVec 32 × BitVec 32 × BitVec 32) :
    LoopInvTy_k0_t1 (F := F) Unit ℕ UU ℕ 𝒱₀ c none Set.univ arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v1 v86 ini where
  inv k a := iprop(⌜a = words1 k⌝ ∗ res1 c Zl Zu XB k (accW c mLdb fl0 (pay1L c Zl) k) (accA c mXd fd0 (pay1D c Zl v1) k) (accA c mXu fu0 (pay1U c Zu v1) k))
  step k a := by
    iintro ⟨%ha, H⟩
    subst ha
    by_cases h0 : k.val = 0
    · iapply (trip1_first c Zl Zu XB arg0 harg0 arg1 harg1 arg2 harg2 arg3 harg3 arg6 harg6 v1 v86 k h0 _ _ _); iexact H
    by_cases h : k.val < 31
    · iapply (trip1 c Zl Zu XB hXB arg0 harg0 arg1 harg1 arg2 harg2 arg3 harg3 arg6 harg6 v1 v86 k (Nat.pos_of_ne_zero h0) h _ _ _); iexact H
    · iapply (trip1_last c Zl Zu XB hXB arg0 harg0 arg1 harg1 arg2 harg2 arg3 harg3 arg6 harg6 v1 v86 k (last1 k h) _ _ _); iexact H

end Trip1

end Cert.KernelIdeal.Hand

end
-- ==== Proof.Ideal.T2.lean ====
/-
  The second loop: each trip stores 512 rows of the hidden state, the first layer's sum so far plus the two second-hop
  products through their weights.
-/
module

public import proofs.«01_k».proof.Proof.Ideal.Later

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Trip2

variable (c : Dev nD) (XB : Buf (Elt F) (mLub.view.loc (c : Thread nD τ)))
  (arg0 : Memref sig .tc .vmem S4096x16 .f32) (harg0 : arg0.IsWhole)
  (arg1 : Memref sig .tc .vmem S5x16x16 .f32) (harg1 : arg1.IsWhole)
  (arg2 : Memref sig .tc .vmem S5x16x16 .f32) (harg2 : arg2.IsWhole)
  (arg3 : Memref sig .tc .vmem S1x16 .f32) (harg3 : arg3.IsWhole)
  (arg6 : Memref sig .tc .vmem S4096x16 .f32) (harg6 : arg6.IsWhole)
  (Zd : Buf (Elt F) (mLdb.view.loc (c : Thread nD τ))) (Za : Buf (Elt F) (mXdb.view.loc (c : Thread nD τ))) (Zb : Buf (Elt F) (mXub.view.loc (c : Thread nD τ))) (Zp : Buf (Elt F) (mP.view.loc (c : Thread nD τ)))
  (G : Buf (Elt F) (arg1.view.loc (c : Thread nD τ)))
  (v23 : Vec F S4096x16 .f32)

abbrev body2 (k : Fin k0_t2_loop.trips) (a : BitVec 32 × BitVec 32 × BitVec 32) : Prog (TpuEff nD τ sig (Elt F) Λ₀ .tc) (BitVec 32 × BitVec 32 × BitVec 32) :=
  k0_t2_body (F := F) arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v23 k a

/-- What trip `b` stores: rows of the partial sum plus both second-hop products through weights 2 and 4. -/
def pay2 (b : Fin 8) : S512x16.Idx → Elt F .f32 :=
  k0_pay7 (rdB Zd b) (rd16 c mXdb Za) (inB XB b) (rd16 c mXub Zb) (rdB' Zp b)
    (View.readAt (Elt F) arg1.view (Rect.unit (s := S5x16x16) ![2, 0, 0] S1x16x16.size inb_S5x16x16_S1x16x16_2_0_0).toLoadRect G)
    (View.readAt (Elt F) arg1.view (Rect.unit (s := S5x16x16) ![4, 0, 0] S1x16x16.size inb_S5x16x16_S1x16x16_4_0_0).toLoadRect G)
/-- The same store as a trip spells it. -/
theorem store2 (k : Fin k0_t2_loop.trips) (fo : Buf (Elt F) (mH.view.loc (c : Thread nD τ))) (h1 h2 h3 h4) :
    mH.view.writes (Elt F) fo [⟨rB' (Ring.bk 8 k.val), pay2 c XB arg1 Zd Za Zb Zp G (Ring.bk 8 k.val)⟩]
      = mH.view.writes (Elt F) fo [⟨Rect.unit (s := S4096x16) (k0_off39 (wd (k.val % 8))) S512x16.size h1,
          k0_pay7 (View.readAt (Elt F) mLdb.view (Rect.unit (s := S4096x4096) (k0_off37 (wd (k.val % 8))) S512x4096.size h2).toLoadRect Zd)
            (rd16 c mXdb Za)
            (View.readAt (Elt F) mS1.view (Rect.unit (s := S2x512x4096) (k0_off38 (wd k.val)) S1x512x4096.size h3).toLoadRect
              (landed c XB mS1 (Ring.sl 2 k.val) (Ring.bk 8 k.val) (slotB mS1 (Ring.sl 2 k.val)).view.junk))
            (rd16 c mXub Zb)
            (View.readAt (Elt F) mP.view (Rect.unit (s := S4096x16) (k0_off39 (wd (k.val % 8))) S512x16.size h4).toLoadRect Zp)
            (View.readAt (Elt F) arg1.view (Rect.unit (s := S5x16x16) ![2, 0, 0] S1x16x16.size inb_S5x16x16_S1x16x16_2_0_0).toLoadRect G)
            (View.readAt (Elt F) arg1.view (Rect.unit (s := S5x16x16) ![4, 0, 0] S1x16x16.size inb_S5x16x16_S1x16x16_4_0_0).toLoadRect G)⟩] := by
  rw [readAt_rows c Zd (o37 k), landed, readAt_slot c XB mS1 _ _ _ (o38 k), readAt_rows' c Zp (o39 k), writes_rows c mH fo (o39 k)]; rfl

/-- What the loop holds before trip `k`. -/
def res2 (k : ℕ) (fo : Buf (Elt F) (mH.view.loc (c : Thread nD τ))) : sProp 𝕄 :=
  iprop(pt c mLdb Zd ∗ pt c mXdb Za
    ∗ pt c mXub Zb ∗ pt c mP Zp
    ∗ pt c arg1 G ∗ pt c mH fo ∗ ringAt c XB mS1 cc0_scoped7 k)

abbrev wp2 (k : Fin k0_t2_loop.trips) (fo : Buf (Elt F) (mH.view.loc (c : Thread nD τ))) : sProp 𝕄 :=
  wp frame (wpE (defs₀ (F := F)) 𝒱₀ (c : Thread nD τ) none) Set.univ (body2 arg0 harg0 arg1 harg1 arg2 harg2 arg3 harg3 arg6 harg6 v23 k (words k.val))
    (fun r => iprop(⌜r = words (k.val + 1)⌝ ∗ res2 c XB arg1 Zd Za Zb Zp G (k.val + 1)
      (mH.view.writes (Elt F) fo [⟨rB' (Ring.bk 8 k.val), pay2 c XB arg1 Zd Za Zb Zp G (Ring.bk 8 k.val)⟩])))

set_option backward.proofsInPublic true in
/-- A trip before the last: block `k + 1` issued, block `k` awaited, rows `k` stored. -/
theorem trip2 (k : Fin k0_t2_loop.trips) (h : k.val < 7) (fo : Buf (Elt F) (mH.view.loc (c : Thread nD τ))) :
    res2 c XB arg1 Zd Za Zb Zp G k.val fo ⊢ wp2 c XB arg0 harg0 arg1 harg1 arg2 harg2 arg3 harg3 arg6 harg6 Zd Za Zb Zp G v23 k fo := by
  have hk1 : k.val + 1 < 8 := by omega
  have hcA := chk7 k
  have hcB := chk8 k
  have hc1 := c12_lt k h
  have hc2 := c13_all k
  unfold wp2 res2 ringAt
  rw [store2 c XB arg1 Zd Za Zb Zp G k fo (k0_off39_inb k _ _ _ hcA) (k0_off37_inb k _ _ _ hcA) (k0_off38_inb _ hcB) (k0_off39_inb k _ _ _ hcA)]
  rw [homes_here c XB k.val hk1, homes_next c XB k.val hk1, slotNow_lt c XB mS1 cc0_scoped7 (show k.val < 8 by omega), slotNow_lt c XB mS1 cc0_scoped7 hk1, sl2_add2]
  iintro ⟨Ld, Xa, Xb, Pp, Gw, Ho, ⟨%W, HW⟩, ⟨Hg, Hrest⟩, ⟨%f', Hs⟩, Hc, ⟨%f, HF⟩⟩
  dsimp only [body2, words]
  sl_unfold [k0_t2_body]
  sl_exec
  sl_step
  isplitr
  · ipureintro
    sl_unfold_words
    clear * -
    revert k
    decide +kernel
  isplitl [Ld]; · iexact Ld
  isplitl [Xa]; · iexact Xa
  isplitl [Xb]; · iexact Xb
  isplitl [Pp]; · iexact Pp
  isplitl [Gw]; · iexact Gw
  isplitl [Ho]; · iexact Ho
  isplitl [HW]; · iexists _; iexact HW
  isplitl [HF_src Hrest]
  · isplitl [HF_src]; · iexact HF_src
    iexact Hrest
  isplitl [HF_dst]; · iexists _; iexact HF_dst
  isplitl [HF]; · iexact HF
  iexists _; iexact Hc

set_option backward.proofsInPublic true in
/-- The last trip: nothing left to issue. -/
theorem trip2_last (k : Fin k0_t2_loop.trips) (h : k.val = 7) (fo : Buf (Elt F) (mH.view.loc (c : Thread nD τ))) :
    res2 c XB arg1 Zd Za Zb Zp G k.val fo ⊢ wp2 c XB arg0 harg0 arg1 harg1 arg2 harg2 arg3 harg3 arg6 harg6 Zd Za Zb Zp G v23 k fo := by
  have hcA := chk7 k
  have hcB := chk8 k
  have hc1 := c12_last k h
  have hc2 := c13_all k
  have e8 := homes_tail (F := F) c XB k.val h
  have eN := slotNow_tail (F := F) c XB mS1 cc0_scoped7 k.val h
  unfold wp2 res2 ringAt
  rw [store2 c XB arg1 Zd Za Zb Zp G k fo (k0_off39_inb k _ _ _ hcA) (k0_off37_inb k _ _ _ hcA) (k0_off38_inb _ hcB) (k0_off39_inb k _ _ _ hcA)]
  rw [e8, eN, slotNow_lt c XB mS1 cc0_scoped7 (show k.val < 8 by omega), sl2_add2]
  iintro ⟨Ld, Xa, Xb, Pp, Gw, Ho, ⟨%W, HW⟩, Hrest, ⟨%f', Hs⟩, Hc, ⟨%f, HF⟩⟩
  dsimp only [body2, words]
  sl_unfold [k0_t2_body]
  sl_exec
  sl_step
  isplitr
  · ipureintro
    sl_unfold_words
    clear * -
    revert k
    decide +kernel
  isplitl [Ld]; · iexact Ld
  isplitl [Xa]; · iexact Xa
  isplitl [Xb]; · iexact Xb
  isplitl [Pp]; · iexact Pp
  isplitl [Gw]; · iexact Gw
  isplitl [Ho]; · iexact Ho
  isplitl [HW]; · iexists _; iexact HW
  isplitl [HF_src Hrest]
  · isplitl [HF_src]; · iexact HF_src
    iexact Hrest
  isplitl [HF_dst]; · iexists _; iexact HF_dst
  isplitl [HF]; · iexact HF
  isplitl [Hs]; · iexists _; iexact Hs
  iexact Hc

theorem last2 : ∀ k : Fin k0_t2_loop.trips, ¬ k.val < 7 → k.val = 7 := by decide

set_option warn.classDefReducibility false in
/-- The loop's invariant: before trip `k` the counters are `k`'s and `k` blocks of rows have been stored. -/
def loopInv2 (fo0 : Buf (Elt F) (mH.view.loc (c : Thread nD τ))) (ini : BitVec 32 × BitVec 32 × BitVec 32) :
    LoopInvTy_k0_t2 (F := F) Unit ℕ UU ℕ 𝒱₀ c none Set.univ arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v23 ini where
  inv k a := iprop(⌜a = words k⌝ ∗ res2 c XB arg1 Zd Za Zb Zp G k (accB c mH fo0 (pay2 c XB arg1 Zd Za Zb Zp G) k))
  step k a := by
    iintro ⟨%ha, H⟩
    subst ha
    by_cases h : k.val < 7
    · iapply (trip2 c XB arg0 harg0 arg1 harg1 arg2 harg2 arg3 harg3 arg6 harg6 Zd Za Zb Zp G v23 k h _); iexact H
    · iapply (trip2_last c XB arg0 harg0 arg1 harg1 arg2 harg2 arg3 harg3 arg6 harg6 Zd Za Zb Zp G v23 k (last2 k h) _); iexact H

end Trip2

end Cert.KernelIdeal.Hand

end
-- ==== Proof.Ideal.T3.lean ====
/-
  The third loop: each trip stores 512 rows of the two second-hop products, the lower Laplacian's rows held by the
  kernel and the upper one's fetched, each times the rounded intermediate.
-/
module

public import proofs.«01_k».proof.Proof.Ideal.Later

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Trip3

variable (c : Dev nD) (XB : Buf (Elt F) (mLub.view.loc (c : Thread nD τ)))
  (arg0 : Memref sig .tc .vmem S4096x16 .f32) (harg0 : arg0.IsWhole)
  (arg1 : Memref sig .tc .vmem S5x16x16 .f32) (harg1 : arg1.IsWhole)
  (arg2 : Memref sig .tc .vmem S5x16x16 .f32) (harg2 : arg2.IsWhole)
  (arg3 : Memref sig .tc .vmem S1x16 .f32) (harg3 : arg3.IsWhole)
  (arg6 : Memref sig .tc .vmem S4096x16 .f32) (harg6 : arg6.IsWhole)
  (Zd : Buf (Elt F) (mLdb.view.loc (c : Thread nD τ))) (Zx : Buf (Elt F) (mXdb.view.loc (c : Thread nD τ)))
  (v67 c59 : BitVec 32)

abbrev body3 (k : Fin k0_t3_loop.trips) (a : BitVec 32 × BitVec 32 × BitVec 32) : Prog (TpuEff nD τ sig (Elt F) Λ₀ .tc) (BitVec 32 × BitVec 32 × BitVec 32) :=
  k0_t3_body (F := F) arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v67 c59 k a

/-- What trip `b` stores into the two arrays: the lower and the upper Laplacian's rows times the intermediate. -/
def pay3D (b : Fin 8) : S512x16.Idx → Elt F .f32 := k0_pay8 (rdB Zd b) (rd16 c mXdb Zx)
def pay3U (b : Fin 8) : S512x16.Idx → Elt F .f32 := k0_pay9 (inB XB b) (rd16 c mXdb Zx)

/-- The same two stores as a trip spells them. -/
theorem store3D (k : Fin k0_t3_loop.trips) (fd : Buf (Elt F) (mHd.view.loc (c : Thread nD τ))) (h47 h46) :
    mHd.view.writes (Elt F) fd [⟨rB' (Ring.bk 8 k.val), pay3D c Zd Zx (Ring.bk 8 k.val)⟩]
      = mHd.view.writes (Elt F) fd [⟨Rect.unit (s := S4096x16) (k0_off47 (wd (k.val % 8))) S512x16.size h47,
          k0_pay8 (View.readAt (Elt F) mLdb.view (Rect.unit (s := S4096x4096) (k0_off46 (wd (k.val % 8))) S512x4096.size h46).toLoadRect Zd) (rd16 c mXdb Zx)⟩] := by
  rw [readAt_rows c Zd (o46 k), writes_rows c mHd fd (o47 k)]; rfl
theorem store3U (k : Fin k0_t3_loop.trips) (fu : Buf (Elt F) (mHu.view.loc (c : Thread nD τ))) (h47 h48) :
    mHu.view.writes (Elt F) fu [⟨rB' (Ring.bk 8 k.val), pay3U c XB Zx (Ring.bk 8 k.val)⟩]
      = mHu.view.writes (Elt F) fu [⟨Rect.unit (s := S4096x16) (k0_off47 (wd (k.val % 8))) S512x16.size h47,
          k0_pay9 (View.readAt (Elt F) mS2.view (Rect.unit (s := S2x512x4096) (k0_off48 (wd k.val)) S1x512x4096.size h48).toLoadRect
            (landed c XB mS2 (Ring.sl 2 k.val) (Ring.bk 8 k.val) (slotB mS2 (Ring.sl 2 k.val)).view.junk)) (rd16 c mXdb Zx)⟩] := by
  rw [landed, readAt_slot c XB mS2 _ _ _ (o48 k), writes_rows c mHu fu (o47 k)]; rfl

/-- What the loop holds before trip `k`. -/
def res3 (k : ℕ) (fd : Buf (Elt F) (mHd.view.loc (c : Thread nD τ))) (fu : Buf (Elt F) (mHu.view.loc (c : Thread nD τ))) : sProp 𝕄 :=
  iprop(pt c mLdb Zd ∗ pt c mXdb Zx ∗ pt c mHd fd ∗ pt c mHu fu ∗ ringAt c XB mS2 cc0_scoped9 k)

abbrev wp3 (k : Fin k0_t3_loop.trips) (fd : Buf (Elt F) (mHd.view.loc (c : Thread nD τ))) (fu : Buf (Elt F) (mHu.view.loc (c : Thread nD τ))) : sProp 𝕄 :=
  wp frame (wpE (defs₀ (F := F)) 𝒱₀ (c : Thread nD τ) none) Set.univ (body3 arg0 harg0 arg1 harg1 arg2 harg2 arg3 harg3 arg6 harg6 v67 c59 k (words k.val))
    (fun r => iprop(⌜r = words (k.val + 1)⌝ ∗ res3 c XB Zd Zx (k.val + 1)
      (mHd.view.writes (Elt F) fd [⟨rB' (Ring.bk 8 k.val), pay3D c Zd Zx (Ring.bk 8 k.val)⟩])
      (mHu.view.writes (Elt F) fu [⟨rB' (Ring.bk 8 k.val), pay3U c XB Zx (Ring.bk 8 k.val)⟩])))

set_option backward.proofsInPublic true in
/-- A trip before the last: block `k + 1` issued, block `k` awaited, rows `k` of both arrays stored. -/
theorem trip3 (k : Fin k0_t3_loop.trips) (h : k.val < 7)
    (fd : Buf (Elt F) (mHd.view.loc (c : Thread nD τ))) (fu : Buf (Elt F) (mHu.view.loc (c : Thread nD τ))) :
    res3 c XB Zd Zx k.val fd fu ⊢ wp3 c XB arg0 harg0 arg1 harg1 arg2 harg2 arg3 harg3 arg6 harg6 Zd Zx v67 c59 k fd fu := by
  have hk1 : k.val + 1 < 8 := by omega
  have hc9 := chk9 k
  have hc10 := chk10 k
  have hc16 := c16_lt k h
  have hc17 := c17_all k
  unfold wp3 res3 ringAt
  rw [store3D c Zd Zx k fd (k0_off47_inb k _ _ _ hc9) (k0_off46_inb k _ _ _ hc9), store3U c XB Zx k fu (k0_off47_inb k _ _ _ hc9) (k0_off48_inb _ hc10)]
  rw [homes_here c XB k.val hk1, homes_next c XB k.val hk1, slotNow_lt c XB mS2 cc0_scoped9 (show k.val < 8 by omega), slotNow_lt c XB mS2 cc0_scoped9 hk1, sl2_add2]
  iintro ⟨Ld, Xd, Hd, Hu, ⟨%W, HW⟩, ⟨Hg, Hrest⟩, ⟨%f', Hs⟩, Hc, ⟨%f, HF⟩⟩
  dsimp only [body3, words]
  sl_unfold [k0_t3_body]
  sl_exec
  sl_step
  isplitr
  · ipureintro
    sl_unfold_words
    clear * -
    revert k
    decide +kernel
  isplitl [Ld]; · iexact Ld
  isplitl [Xd]; · iexact Xd
  isplitl [Hd]; · iexact Hd
  isplitl [Hu]; · iexact Hu
  isplitl [HW]; · iexists _; iexact HW
  isplitl [HF_src Hrest]
  · isplitl [HF_src]; · iexact HF_src
    iexact Hrest
  isplitl [HF_dst]; · iexists _; iexact HF_dst
  isplitl [HF]; · iexact HF
  iexists _; iexact Hc

set_option backward.proofsInPublic true in
/-- The last trip: nothing left to issue. -/
theorem trip3_last (k : Fin k0_t3_loop.trips) (h : k.val = 7)
    (fd : Buf (Elt F) (mHd.view.loc (c : Thread nD τ))) (fu : Buf (Elt F) (mHu.view.loc (c : Thread nD τ))) :
    res3 c XB Zd Zx k.val fd fu ⊢ wp3 c XB arg0 harg0 arg1 harg1 arg2 harg2 arg3 harg3 arg6 harg6 Zd Zx v67 c59 k fd fu := by
  have hc9 := chk9 k
  have hc10 := chk10 k
  have hc16 := c16_last k h
  have hc17 := c17_all k
  have e8 := homes_tail (F := F) c XB k.val h
  have eN := slotNow_tail (F := F) c XB mS2 cc0_scoped9 k.val h
  unfold wp3 res3 ringAt
  rw [store3D c Zd Zx k fd (k0_off47_inb k _ _ _ hc9) (k0_off46_inb k _ _ _ hc9), store3U c XB Zx k fu (k0_off47_inb k _ _ _ hc9) (k0_off48_inb _ hc10)]
  rw [e8, eN, slotNow_lt c XB mS2 cc0_scoped9 (show k.val < 8 by omega), sl2_add2]
  iintro ⟨Ld, Xd, Hd, Hu, ⟨%W, HW⟩, Hrest, ⟨%f', Hs⟩, Hc, ⟨%f, HF⟩⟩
  dsimp only [body3, words]
  sl_unfold [k0_t3_body]
  sl_exec
  sl_step
  isplitr
  · ipureintro
    sl_unfold_words
    clear * -
    revert k
    decide +kernel
  isplitl [Ld]; · iexact Ld
  isplitl [Xd]; · iexact Xd
  isplitl [Hd]; · iexact Hd
  isplitl [Hu]; · iexact Hu
  isplitl [HW]; · iexists _; iexact HW
  isplitl [HF_src Hrest]
  · isplitl [HF_src]; · iexact HF_src
    iexact Hrest
  isplitl [HF_dst]; · iexists _; iexact HF_dst
  isplitl [HF]; · iexact HF
  isplitl [Hs]; · iexists _; iexact Hs
  iexact Hc

theorem last3 : ∀ k : Fin k0_t3_loop.trips, ¬ k.val < 7 → k.val = 7 := by decide

set_option warn.classDefReducibility false in
/-- The loop's invariant: before trip `k` the counters are `k`'s and `k` blocks of rows have been stored. -/
def loopInv3 (fd0 : Buf (Elt F) (mHd.view.loc (c : Thread nD τ))) (fu0 : Buf (Elt F) (mHu.view.loc (c : Thread nD τ))) (ini : BitVec 32 × BitVec 32 × BitVec 32) :
    LoopInvTy_k0_t3 (F := F) Unit ℕ UU ℕ 𝒱₀ c none Set.univ arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v67 c59 ini where
  inv k a := iprop(⌜a = words k⌝ ∗ res3 c XB Zd Zx k (accB c mHd fd0 (pay3D c Zd Zx) k) (accB c mHu fu0 (pay3U c XB Zx) k))
  step k a := by
    iintro ⟨%ha, H⟩
    subst ha
    by_cases h : k.val < 7
    · iapply (trip3 c XB arg0 harg0 arg1 harg1 arg2 harg2 arg3 harg3 arg6 harg6 Zd Zx v67 c59 k h _ _); iexact H
    · iapply (trip3_last c XB arg0 harg0 arg1 harg1 arg2 harg2 arg3 harg3 arg6 harg6 Zd Zx v67 c59 k (last3 k h) _ _); iexact H

end Trip3

end Cert.KernelIdeal.Hand

end
-- ==== Proof.Ideal.T4.lean ====
/-
  The fourth loop: each trip stores 512 rows of the result, the second layer's sum so far plus the two second-hop
  products through their weights.
-/
module

public import proofs.«01_k».proof.Proof.Ideal.Later

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Trip4

variable (c : Dev nD) (XB : Buf (Elt F) (mLub.view.loc (c : Thread nD τ)))
  (arg0 : Memref sig .tc .vmem S4096x16 .f32) (harg0 : arg0.IsWhole)
  (arg1 : Memref sig .tc .vmem S5x16x16 .f32) (harg1 : arg1.IsWhole)
  (arg2 : Memref sig .tc .vmem S5x16x16 .f32) (harg2 : arg2.IsWhole)
  (arg3 : Memref sig .tc .vmem S1x16 .f32) (harg3 : arg3.IsWhole)
  (arg6 : Memref sig .tc .vmem S4096x16 .f32) (harg6 : arg6.IsWhole)
  (Zd : Buf (Elt F) (mLdb.view.loc (c : Thread nD τ))) (Za : Buf (Elt F) (mXdb.view.loc (c : Thread nD τ))) (Zb : Buf (Elt F) (mXub.view.loc (c : Thread nD τ))) (Zp : Buf (Elt F) (mP.view.loc (c : Thread nD τ)))
  (G : Buf (Elt F) (arg2.view.loc (c : Thread nD τ)))
  (c69 : BitVec 32)

abbrev body4 (k : Fin k0_t4_loop.trips) (a : BitVec 32 × BitVec 32 × BitVec 32) : Prog (TpuEff nD τ sig (Elt F) Λ₀ .tc) (BitVec 32 × BitVec 32 × BitVec 32) :=
  k0_t4_body (F := F) arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 c69 k a

/-- What trip `b` stores: rows of the partial sum plus both second-hop products through weights 2 and 4. -/
def pay4 (b : Fin 8) : S512x16.Idx → Elt F .f32 :=
  k0_pay10 (rdB Zd b) (rd16 c mXub Zb) (inB XB b) (rd16 c mXdb Za) (rdB' Zp b)
    (View.readAt (Elt F) arg2.view (Rect.unit (s := S5x16x16) ![2, 0, 0] S1x16x16.size inb_S5x16x16_S1x16x16_2_0_0).toLoadRect G)
    (View.readAt (Elt F) arg2.view (Rect.unit (s := S5x16x16) ![4, 0, 0] S1x16x16.size inb_S5x16x16_S1x16x16_4_0_0).toLoadRect G)
/-- The same store as a trip spells it. -/
theorem store4 (k : Fin k0_t4_loop.trips) (fo : Buf (Elt F) (arg6.view.loc (c : Thread nD τ))) (h1 h2 h3 h4) :
    arg6.view.writes (Elt F) fo [⟨rB' (Ring.bk 8 k.val), pay4 c XB arg2 Zd Za Zb Zp G (Ring.bk 8 k.val)⟩]
      = arg6.view.writes (Elt F) fo [⟨Rect.unit (s := S4096x16) (k0_off57 (wd (k.val % 8))) S512x16.size h1,
          k0_pay10 (View.readAt (Elt F) mLdb.view (Rect.unit (s := S4096x4096) (k0_off55 (wd (k.val % 8))) S512x4096.size h2).toLoadRect Zd)
            (rd16 c mXub Zb)
            (View.readAt (Elt F) mS3.view (Rect.unit (s := S2x512x4096) (k0_off56 (wd k.val)) S1x512x4096.size h3).toLoadRect
              (landed c XB mS3 (Ring.sl 2 k.val) (Ring.bk 8 k.val) (slotB mS3 (Ring.sl 2 k.val)).view.junk))
            (rd16 c mXdb Za)
            (View.readAt (Elt F) mP.view (Rect.unit (s := S4096x16) (k0_off57 (wd (k.val % 8))) S512x16.size h4).toLoadRect Zp)
            (View.readAt (Elt F) arg2.view (Rect.unit (s := S5x16x16) ![2, 0, 0] S1x16x16.size inb_S5x16x16_S1x16x16_2_0_0).toLoadRect G)
            (View.readAt (Elt F) arg2.view (Rect.unit (s := S5x16x16) ![4, 0, 0] S1x16x16.size inb_S5x16x16_S1x16x16_4_0_0).toLoadRect G)⟩] := by
  rw [readAt_rows c Zd (o55 k), landed, readAt_slot c XB mS3 _ _ _ (o56 k), readAt_rows' c Zp (o57 k), writes_rows c arg6 fo (o57 k)]; rfl

/-- What the loop holds before trip `k`. -/
def res4 (k : ℕ) (fo : Buf (Elt F) (arg6.view.loc (c : Thread nD τ))) : sProp 𝕄 :=
  iprop(pt c mLdb Zd ∗ pt c mXdb Za
    ∗ pt c mXub Zb ∗ pt c mP Zp
    ∗ pt c arg2 G ∗ pt c arg6 fo ∗ ringAt c XB mS3 cc0_scoped11 k)

abbrev wp4 (k : Fin k0_t4_loop.trips) (fo : Buf (Elt F) (arg6.view.loc (c : Thread nD τ))) : sProp 𝕄 :=
  wp frame (wpE (defs₀ (F := F)) 𝒱₀ (c : Thread nD τ) none) Set.univ (body4 arg0 harg0 arg1 harg1 arg2 harg2 arg3 harg3 arg6 harg6 c69 k (words k.val))
    (fun r => iprop(⌜r = words (k.val + 1)⌝ ∗ res4 c XB arg2 arg6 Zd Za Zb Zp G (k.val + 1)
      (arg6.view.writes (Elt F) fo [⟨rB' (Ring.bk 8 k.val), pay4 c XB arg2 Zd Za Zb Zp G (Ring.bk 8 k.val)⟩])))

set_option backward.proofsInPublic true in
/-- A trip before the last: block `k + 1` issued, block `k` awaited, rows `k` stored. -/
theorem trip4 (k : Fin k0_t4_loop.trips) (h : k.val < 7) (fo : Buf (Elt F) (arg6.view.loc (c : Thread nD τ))) :
    res4 c XB arg2 arg6 Zd Za Zb Zp G k.val fo ⊢ wp4 c XB arg0 harg0 arg1 harg1 arg2 harg2 arg3 harg3 arg6 harg6 Zd Za Zb Zp G c69 k fo := by
  have hk1 : k.val + 1 < 8 := by omega
  have hcA := chk11 k
  have hcB := chk12 k
  have hc1 := c20_lt k h
  have hc2 := c21_all k
  unfold wp4 res4 ringAt
  rw [store4 c XB arg2 arg6 Zd Za Zb Zp G k fo (k0_off57_inb k _ _ _ hcA) (k0_off55_inb k _ _ _ hcA) (k0_off56_inb _ hcB) (k0_off57_inb k _ _ _ hcA)]
  rw [homes_here c XB k.val hk1, homes_next c XB k.val hk1, slotNow_lt c XB mS3 cc0_scoped11 (show k.val < 8 by omega), slotNow_lt c XB mS3 cc0_scoped11 hk1, sl2_add2]
  iintro ⟨Ld, Xa, Xb, Pp, Gw, Ho, ⟨%W, HW⟩, ⟨Hg, Hrest⟩, ⟨%f', Hs⟩, Hc, ⟨%f, HF⟩⟩
  dsimp only [body4, words]
  sl_unfold [k0_t4_body]
  sl_exec
  sl_step
  isplitr
  · ipureintro
    sl_unfold_words
    clear * -
    revert k
    decide +kernel
  isplitl [Ld]; · iexact Ld
  isplitl [Xa]; · iexact Xa
  isplitl [Xb]; · iexact Xb
  isplitl [Pp]; · iexact Pp
  isplitl [Gw]; · iexact Gw
  isplitl [Ho]; · iexact Ho
  isplitl [HW]; · iexists _; iexact HW
  isplitl [HF_src Hrest]
  · isplitl [HF_src]; · iexact HF_src
    iexact Hrest
  isplitl [HF_dst]; · iexists _; iexact HF_dst
  isplitl [HF]; · iexact HF
  iexists _; iexact Hc

set_option backward.proofsInPublic true in
/-- The last trip: nothing left to issue. -/
theorem trip4_last (k : Fin k0_t4_loop.trips) (h : k.val = 7) (fo : Buf (Elt F) (arg6.view.loc (c : Thread nD τ))) :
    res4 c XB arg2 arg6 Zd Za Zb Zp G k.val fo ⊢ wp4 c XB arg0 harg0 arg1 harg1 arg2 harg2 arg3 harg3 arg6 harg6 Zd Za Zb Zp G c69 k fo := by
  have hcA := chk11 k
  have hcB := chk12 k
  have hc1 := c20_last k h
  have hc2 := c21_all k
  have e8 := homes_tail (F := F) c XB k.val h
  have eN := slotNow_tail (F := F) c XB mS3 cc0_scoped11 k.val h
  unfold wp4 res4 ringAt
  rw [store4 c XB arg2 arg6 Zd Za Zb Zp G k fo (k0_off57_inb k _ _ _ hcA) (k0_off55_inb k _ _ _ hcA) (k0_off56_inb _ hcB) (k0_off57_inb k _ _ _ hcA)]
  rw [e8, eN, slotNow_lt c XB mS3 cc0_scoped11 (show k.val < 8 by omega), sl2_add2]
  iintro ⟨Ld, Xa, Xb, Pp, Gw, Ho, ⟨%W, HW⟩, Hrest, ⟨%f', Hs⟩, Hc, ⟨%f, HF⟩⟩
  dsimp only [body4, words]
  sl_unfold [k0_t4_body]
  sl_exec
  sl_step
  isplitr
  · ipureintro
    sl_unfold_words
    clear * -
    revert k
    decide +kernel
  isplitl [Ld]; · iexact Ld
  isplitl [Xa]; · iexact Xa
  isplitl [Xb]; · iexact Xb
  isplitl [Pp]; · iexact Pp
  isplitl [Gw]; · iexact Gw
  isplitl [Ho]; · iexact Ho
  isplitl [HW]; · iexists _; iexact HW
  isplitl [HF_src Hrest]
  · isplitl [HF_src]; · iexact HF_src
    iexact Hrest
  isplitl [HF_dst]; · iexists _; iexact HF_dst
  isplitl [HF]; · iexact HF
  isplitl [Hs]; · iexists _; iexact Hs
  iexact Hc

theorem last4 : ∀ k : Fin k0_t4_loop.trips, ¬ k.val < 7 → k.val = 7 := by decide

set_option warn.classDefReducibility false in
/-- The loop's invariant: before trip `k` the counters are `k`'s and `k` blocks of rows have been stored. -/
def loopInv4 (fo0 : Buf (Elt F) (arg6.view.loc (c : Thread nD τ))) (ini : BitVec 32 × BitVec 32 × BitVec 32) :
    LoopInvTy_k0_t4 (F := F) Unit ℕ UU ℕ 𝒱₀ c none Set.univ arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 c69 ini where
  inv k a := iprop(⌜a = words k⌝ ∗ res4 c XB arg2 arg6 Zd Za Zb Zp G k (accB c arg6 fo0 (pay4 c XB arg2 Zd Za Zb Zp G) k))
  step k a := by
    iintro ⟨%ha, H⟩
    subst ha
    by_cases h : k.val < 7
    · iapply (trip4 c XB arg0 harg0 arg1 harg1 arg2 harg2 arg3 harg3 arg6 harg6 Zd Za Zb Zp G c69 k h _); iexact H
    · iapply (trip4_last c XB arg0 harg0 arg1 harg1 arg2 harg2 arg3 harg3 arg6 harg6 Zd Za Zb Zp G c69 k (last4 k h) _); iexact H

end Trip4

end Cert.KernelIdeal.Hand

end
-- ==== Proof.Ideal.Glue.lean ====
/-
  Between the loops. A square array is held whole or row block by row block; a two-slot buffer whole or slot by slot; a
  pipeline starts from every block home and both slots idle, and ends there. And what an array holds once every row
  block has been stored into it: one function, glued from the blocks.
-/
module

public import proofs.«01_k».proof.Proof.Ideal.T1
public import proofs.«01_k».proof.Proof.Ideal.T2
public import proofs.«01_k».proof.Proof.Ideal.T3
public import proofs.«01_k».proof.Proof.Ideal.T4
public import Idealize.ShloMosaic.Lib.Pointwise.Index

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Row blocks and slots: disjoint, and covering -/

abbrev blkASet (b : Fin 32) : Finset (Shape.Idx S4096x4096) := (Rect.unit (s := S4096x4096) (rowOffA b) S128x4096.size (rowOffA_inb b)).set
theorem blkADisj (b b' : Fin 32) (h : b ≠ b') : Disjoint (blkASet b) (blkASet b') :=
  Ring.lead_disjoint (s := S4096x4096) (0 : Fin 2) 128 rowOffA S128x4096.size rowOffA_inb (fun b => by simp) rfl b b' h
theorem blkACover : Finset.univ.biUnion blkASet = Finset.univ :=
  Ring.lead_cover (s := S4096x4096) (0 : Fin 2) 128 rowOffA S128x4096.size rowOffA_inb (fun b => by simp)
    (fun b a ha => by fin_cases a <;> first | exact absurd rfl ha | rfl) rfl (fun a ha => by fin_cases a <;> first | exact absurd rfl ha | rfl) rfl

abbrev blkBSet (b : Fin 8) : Finset (Shape.Idx S4096x4096) := (Rect.unit (s := S4096x4096) (rowOffB b) S512x4096.size (rowOffB_inb b)).set
theorem blkBDisj (b b' : Fin 8) (h : b ≠ b') : Disjoint (blkBSet b) (blkBSet b') :=
  Ring.lead_disjoint (s := S4096x4096) (0 : Fin 2) 512 rowOffB S512x4096.size rowOffB_inb (fun b => by simp) rfl b b' h
theorem blkBCover : Finset.univ.biUnion blkBSet = Finset.univ :=
  Ring.lead_cover (s := S4096x4096) (0 : Fin 2) 512 rowOffB S512x4096.size rowOffB_inb (fun b => by simp)
    (fun b a ha => by fin_cases a <;> first | exact absurd rfl ha | rfl) rfl (fun a ha => by fin_cases a <;> first | exact absurd rfl ha | rfl) rfl

abbrev slotASet (b : Fin 2) : Finset (Shape.Idx S2x128x4096) := (Rect.unit (s := S2x128x4096) (slotOff b) S1x128x4096.size (slotOff_inbA b)).set
theorem slotADisj (b b' : Fin 2) (h : b ≠ b') : Disjoint (slotASet b) (slotASet b') :=
  Ring.lead_disjoint (s := S2x128x4096) (0 : Fin 3) 1 slotOff S1x128x4096.size slotOff_inbA (fun b => by simp) rfl b b' h
theorem slotACover : Finset.univ.biUnion slotASet = Finset.univ :=
  Ring.lead_cover (s := S2x128x4096) (0 : Fin 3) 1 slotOff S1x128x4096.size slotOff_inbA (fun b => by simp)
    (fun b a ha => by fin_cases a <;> first | exact absurd rfl ha | rfl) rfl (fun a ha => by fin_cases a <;> first | exact absurd rfl ha | rfl) rfl

abbrev slotBSet (b : Fin 2) : Finset (Shape.Idx S2x512x4096) := (Rect.unit (s := S2x512x4096) (slotOff b) S1x512x4096.size (slotOff_inbB b)).set
theorem slotBDisj (b b' : Fin 2) (h : b ≠ b') : Disjoint (slotBSet b) (slotBSet b') :=
  Ring.lead_disjoint (s := S2x512x4096) (0 : Fin 3) 1 slotOff S1x512x4096.size slotOff_inbB (fun b => by simp) rfl b b' h
theorem slotBCover : Finset.univ.biUnion slotBSet = Finset.univ :=
  Ring.lead_cover (s := S2x512x4096) (0 : Fin 3) 1 slotOff S1x512x4096.size slotOff_inbB (fun b => by simp)
    (fun b a ha => by fin_cases a <;> first | exact absurd rfl ha | rfl) rfl (fun a ha => by fin_cases a <;> first | exact absurd rfl ha | rfl) rfl

/-! ## Their element sets in a buffer -/

section Sets
variable (c : Dev nD)

theorem slotA_set {e : EltTy} (M : Memref sig .tc .vmem S2x128x4096 e) (s : Fin 2) : (slotA M s).view.set = (slotASet s).map M.view.emb := by
  simp only [slotA, Memref.view_squeeze, View.set_reshape]; exact View.set_slice _ _
theorem slotB_set (M : Memref sig .tc .vmem S2x512x4096 .bf16) (s : Fin 2) : (slotB M s).view.set = (slotBSet s).map M.view.emb := by
  simp only [slotB, Memref.view_squeeze, View.set_reshape]; exact View.set_slice _ _
theorem blkA_set {e : EltTy} (M : Memref sig .tc .hbm S4096x4096 e) (b : Fin 32) : (blkA M b).view.set = (blkASet b).map M.view.emb := View.set_slice _ _
theorem blkB_set (b : Fin 8) : (blkB b).view.set = (blkBSet b).map mLub.view.emb := View.set_slice _ _

theorem slotA_disj {e : EltTy} (M : Memref sig .tc .vmem S2x128x4096 e) (b b' : Fin 2) (h : b ≠ b') : Disjoint (slotA M b).view.set (slotA M b').view.set := by
  rw [slotA_set, slotA_set]; exact (Finset.disjoint_map _).mpr (slotADisj b b' h)
theorem slotA_cover {e : EltTy} (M : Memref sig .tc .vmem S2x128x4096 e) : Finset.univ.biUnion (fun b => (slotA M b).view.set) = M.view.set := by
  have h : ∀ b, (slotA M b).view.set = (slotASet b).map M.view.emb := fun b => slotA_set M b
  simp only [h]
  show _ = Finset.univ.map M.view.emb
  rw [← slotACover]; ext i; simp only [Finset.mem_biUnion, Finset.mem_map, Finset.mem_univ, true_and]
  exact ⟨fun ⟨b, x, hx, e⟩ => ⟨x, ⟨b, hx⟩, e⟩, fun ⟨x, ⟨b, hx⟩, e⟩ => ⟨b, x, hx, e⟩⟩

theorem slotB_disj (M : Memref sig .tc .vmem S2x512x4096 .bf16) (b b' : Fin 2) (h : b ≠ b') : Disjoint (slotB M b).view.set (slotB M b').view.set := by
  rw [slotB_set, slotB_set]; exact (Finset.disjoint_map _).mpr (slotBDisj b b' h)
theorem slotB_cover (M : Memref sig .tc .vmem S2x512x4096 .bf16) : Finset.univ.biUnion (fun b => (slotB M b).view.set) = M.view.set := by
  have h : ∀ b, (slotB M b).view.set = (slotBSet b).map M.view.emb := fun b => slotB_set M b
  simp only [h]
  show _ = Finset.univ.map M.view.emb
  rw [← slotBCover]; ext i; simp only [Finset.mem_biUnion, Finset.mem_map, Finset.mem_univ, true_and]
  exact ⟨fun ⟨b, x, hx, e⟩ => ⟨x, ⟨b, hx⟩, e⟩, fun ⟨x, ⟨b, hx⟩, e⟩ => ⟨b, x, hx, e⟩⟩

theorem blkA_disj {e : EltTy} (M : Memref sig .tc .hbm S4096x4096 e) (b b' : Fin 32) (h : b ≠ b') : Disjoint (blkA M b).view.set (blkA M b').view.set := by
  rw [blkA_set, blkA_set]; exact (Finset.disjoint_map _).mpr (blkADisj b b' h)
theorem blkA_cover {e : EltTy} (M : Memref sig .tc .hbm S4096x4096 e) : Finset.univ.biUnion (fun b => (blkA M b).view.set) = M.view.set := by
  have h : ∀ b, (blkA M b).view.set = (blkASet b).map M.view.emb := fun b => blkA_set M b
  simp only [h]
  show _ = Finset.univ.map M.view.emb
  rw [← blkACover]; ext i; simp only [Finset.mem_biUnion, Finset.mem_map, Finset.mem_univ, true_and]
  exact ⟨fun ⟨b, x, hx, e⟩ => ⟨x, ⟨b, hx⟩, e⟩, fun ⟨x, ⟨b, hx⟩, e⟩ => ⟨b, x, hx, e⟩⟩

theorem blkB_disj  (b b' : Fin 8) (h : b ≠ b') : Disjoint (blkB b).view.set (blkB b').view.set := by
  rw [blkB_set, blkB_set]; exact (Finset.disjoint_map _).mpr (blkBDisj b b' h)
theorem blkB_cover  : Finset.univ.biUnion (fun b => (blkB b).view.set) = mLub.view.set := by
  have h : ∀ b, (blkB b).view.set = (blkBSet b).map mLub.view.emb := fun b => blkB_set b
  simp only [h]
  show _ = Finset.univ.map mLub.view.emb
  rw [← blkBCover]; ext i; simp only [Finset.mem_biUnion, Finset.mem_map, Finset.mem_univ, true_and]
  exact ⟨fun ⟨b, x, hx, e⟩ => ⟨x, ⟨b, hx⟩, e⟩, fun ⟨x, ⟨b, hx⟩, e⟩ => ⟨b, x, hx, e⟩⟩

end Sets

section Whole
variable (c : Dev nD)

/-! ## Arrays whole and in pieces -/

theorem entails_of_eq {P Q : sProp 𝕄} (e : P = Q) : P ⊢ Q := e ▸ .rfl

/-- Both slots of a later pipeline idle. -/
def idleB (M : Memref sig .tc .vmem S2x512x4096 .bf16) (A : DmaSems sig S2) : sProp 𝕄 :=
  iprop((∃ f, slotP c M (Ring.sl 2 0) f) ∗ cellP c A (Ring.sl 2 0) ∗ (∃ f, slotP c M (Ring.sl 2 (0 + 1)) f) ∗ cellP c A (Ring.sl 2 (0 + 1)))
/-- Both slots of one of the first loop's pipelines idle. -/
def idleA {e : EltTy} (M : Memref sig .tc .vmem S2x128x4096 e) (A : DmaSems sig S2) : sProp 𝕄 :=
  iprop((∃ f, slotPA c M (Ring.sl 2 0) f) ∗ cellP c A (Ring.sl 2 0) ∗ (∃ f, slotPA c M (Ring.sl 2 (0 + 1)) f) ∗ cellP c A (Ring.sl 2 (0 + 1)))
/-- A square array, block by block; the copied one by the blocks of the later loops. -/
def homesA {e : EltTy} (S : Memref sig .tc .hbm S4096x4096 e) (Z : Buf (Elt F) (S.view.loc (c : Thread nD τ))) : sProp 𝕄 :=
  bigSep Finset.univ (fun b => blkPA c S b (homeC c S Z b))
def homesB (XB : Buf (Elt F) (mLub.view.loc (c : Thread nD τ))) : sProp 𝕄 := bigSep Finset.univ (homeP c XB)

theorem homesA_eq {e : EltTy} (S : Memref sig .tc .hbm S4096x4096 e) (Z : Buf (Elt F) (S.view.loc (c : Thread nD τ))) : pt c S Z = homesA c S Z := by
  have h := Ring.pointsTo_sub_blocks (Ix := Unit) (Val := Elt F) (Name := ℕ) (U := UU) (Lvl := ℕ) (ℓ := S.view.loc (c : Thread nD τ)) (fun b => (blkA S b).view.set) (blkA_disj S) S.view.set (blkA_cover S) (q := fullShare) Z
  exact h
theorem homesB_eq (XB : Buf (Elt F) (mLub.view.loc (c : Thread nD τ))) : pt c mLub XB = homesB c XB := by
  have h := Ring.pointsTo_sub_blocks (Ix := Unit) (Val := Elt F) (Name := ℕ) (U := UU) (Lvl := ℕ) (ℓ := mLub.view.loc (c : Thread nD τ)) (fun b => (blkB b).view.set) blkB_disj mLub.view.set blkB_cover (q := fullShare) XB
  exact h
/-- The copied array's blocks as the first loop writes them are its blocks as the later loops read them. -/
theorem homesAB (XB : Buf (Elt F) (mLub.view.loc (c : Thread nD τ))) : homesA c mLub XB = homesB c XB := (homesA_eq c mLub XB).symm.trans (homesB_eq c XB)
/-- Before the first loop its blocks hold anything. -/
theorem pend_start : iprop(∃ f, pt (F := F) c mLub f) ⊢ bigSep (Ring.rangeSet 32 0 32) (fun b => iprop(∃ f, blkPA (F := F) c mLub b f)) := by
  iintro ⟨%f, H⟩
  have e : homesA c mLub f ⊢ bigSep (Ring.rangeSet 32 0 32) (fun b => iprop(∃ f, blkPA (F := F) c mLub b f)) := by
    rw [Ring.rangeSet_univ]
    exact bigSep_mono fun b _ => exists_intro (Φ := fun f => blkPA (F := F) c mLub b f) (homeC c mLub f b)
  iapply e
  iapply (entails_of_eq (homesA_eq c mLub f)); iexact H

/-- A slot's contents, read off the whole buffer's. -/
def slotCA {e : EltTy} (M : Memref sig .tc .vmem S2x128x4096 e) (s : Fin 2) (f : Buf (Elt F) (M.view.loc (c : Thread nD τ))) : Buf (Elt F) ((slotA M s).view.loc (c : Thread nD τ)) := f
theorem slotsA_eq {e : EltTy} (M : Memref sig .tc .vmem S2x128x4096 e) (f : Buf (Elt F) (M.view.loc (c : Thread nD τ))) : pt c M f = bigSep Finset.univ (fun s => slotPA c M s (slotCA c M s f)) := by
  have h := Ring.pointsTo_sub_blocks (Ix := Unit) (Val := Elt F) (Name := ℕ) (U := UU) (Lvl := ℕ) (ℓ := M.view.loc (c : Thread nD τ)) (fun s => (slotA M s).view.set) (slotA_disj M) M.view.set (slotA_cover M) (q := fullShare) f
  exact h
theorem slotsA_join {e : EltTy} (M : Memref sig .tc .vmem S2x128x4096 e) (f : Buf (Elt F) (M.view.loc (c : Thread nD τ))) : bigSep Finset.univ (fun s => iprop(∃ f, slotPA (F := F) c M s f)) ⊢ iprop(∃ f, pt c M f) := by
  have h := Ring.pointsTo_sub_blocks_join_exists (Ix := Unit) (Val := Elt F) (Name := ℕ) (U := UU) (Lvl := ℕ) (ℓ := M.view.loc (c : Thread nD τ)) (fun s => (slotA M s).view.set) (slotA_disj M) M.view.set (slotA_cover M) (q := fullShare) f
  exact h
theorem idleA_split {e : EltTy} (M : Memref sig .tc .vmem S2x128x4096 e) (A : DmaSems sig S2) :
    iprop((∃ f, pt (F := F) c M f) ∗ cellP c A 0 ∗ cellP c A 1) ⊢ idleA c M A := by
  iintro ⟨⟨%f, H⟩, H0, H1⟩
  ihave H2 := (entails_of_eq ((slotsA_eq c M f).trans (Ring.bigSep_fin2 _))) $$ H
  icases H2 with ⟨Ha, Hb⟩
  unfold idleA
  isplitl [Ha]; · iexists _; iexact Ha
  isplitl [H0]; · iexact H0
  isplitl [Hb]; · iexists _; iexact Hb
  iexact H1
theorem idleA_join {e : EltTy} (M : Memref sig .tc .vmem S2x128x4096 e) (A : DmaSems sig S2) :
    idleA c M A ⊢ iprop((∃ f, pt (F := F) c M f) ∗ cellP c A 0 ∗ cellP c A 1) := by
  unfold idleA
  iintro ⟨⟨%fa, Ha⟩, H0, ⟨%fb, Hb⟩, H1⟩
  isplitr [H0 H1]
  · iapply (slotsA_join c M fa)
    iapply (entails_of_eq (Ring.bigSep_fin2 (fun s => iprop(∃ f, slotPA (F := F) c M s f))).symm)
    isplitl [Ha]; · iexists fa; iexact Ha
    iexists fb; iexact Hb
  isplitl [H0]; · iexact H0
  iexact H1
/-- A slot's contents, read off the whole buffer's. -/
def slotCB (M : Memref sig .tc .vmem S2x512x4096 .bf16) (s : Fin 2) (f : Buf (Elt F) (M.view.loc (c : Thread nD τ))) : Buf (Elt F) ((slotB M s).view.loc (c : Thread nD τ)) := f
theorem slotsB_eq (M : Memref sig .tc .vmem S2x512x4096 .bf16) (f : Buf (Elt F) (M.view.loc (c : Thread nD τ))) : pt c M f = bigSep Finset.univ (fun s => slotP c M s (slotCB c M s f)) := by
  have h := Ring.pointsTo_sub_blocks (Ix := Unit) (Val := Elt F) (Name := ℕ) (U := UU) (Lvl := ℕ) (ℓ := M.view.loc (c : Thread nD τ)) (fun s => (slotB M s).view.set) (slotB_disj M) M.view.set (slotB_cover M) (q := fullShare) f
  exact h
theorem slotsB_join (M : Memref sig .tc .vmem S2x512x4096 .bf16) (f : Buf (Elt F) (M.view.loc (c : Thread nD τ))) : bigSep Finset.univ (fun s => iprop(∃ f, slotP (F := F) c M s f)) ⊢ iprop(∃ f, pt c M f) := by
  have h := Ring.pointsTo_sub_blocks_join_exists (Ix := Unit) (Val := Elt F) (Name := ℕ) (U := UU) (Lvl := ℕ) (ℓ := M.view.loc (c : Thread nD τ)) (fun s => (slotB M s).view.set) (slotB_disj M) M.view.set (slotB_cover M) (q := fullShare) f
  exact h
theorem idleB_split (M : Memref sig .tc .vmem S2x512x4096 .bf16) (A : DmaSems sig S2) :
    iprop((∃ f, pt (F := F) c M f) ∗ cellP c A 0 ∗ cellP c A 1) ⊢ idleB c M A := by
  iintro ⟨⟨%f, H⟩, H0, H1⟩
  ihave H2 := (entails_of_eq ((slotsB_eq c M f).trans (Ring.bigSep_fin2 _))) $$ H
  icases H2 with ⟨Ha, Hb⟩
  unfold idleB
  isplitl [Ha]; · iexists _; iexact Ha
  isplitl [H0]; · iexact H0
  isplitl [Hb]; · iexists _; iexact Hb
  iexact H1
theorem idleB_join (M : Memref sig .tc .vmem S2x512x4096 .bf16) (A : DmaSems sig S2) :
    idleB c M A ⊢ iprop((∃ f, pt (F := F) c M f) ∗ cellP c A 0 ∗ cellP c A 1) := by
  unfold idleB
  iintro ⟨⟨%fa, Ha⟩, H0, ⟨%fb, Hb⟩, H1⟩
  isplitr [H0 H1]
  · iapply (slotsB_join c M fa)
    iapply (entails_of_eq (Ring.bigSep_fin2 (fun s => iprop(∃ f, slotP (F := F) c M s f))).symm)
    isplitl [Ha]; · iexists fa; iexact Ha
    iexists fb; iexact Hb
  isplitl [H0]; · iexact H0
  iexact H1

/-! ## Where a pipeline starts and ends -/

theorem homesB_start (XB : Buf (Elt F) (mLub.view.loc (c : Thread nD τ))) : homesB c XB = iprop(homeP c XB (Ring.bk 8 0) ∗ bigSep (Ring.homeSet 1 0) (homeP c XB)) := by
  have e : (Finset.univ : Finset (Fin 8)) = insert (Ring.bk 8 0) (Ring.homeSet 1 0) := by decide
  unfold homesB
  rw [e, bigSep_insert (by decide)]; rfl
theorem homesA_start {e : EltTy} (S : Memref sig .tc .hbm S4096x4096 e) (Z : Buf (Elt F) (S.view.loc (c : Thread nD τ))) :
    homesA c S Z = iprop(blkPA c S (Ring.bk 32 0) (homeC c S Z (Ring.bk 32 0)) ∗ bigSep (Ring.homeSet 1 0) (fun b => blkPA c S b (homeC c S Z b))) := by
  have e : (Finset.univ : Finset (Fin 32)) = insert (Ring.bk 32 0) (Ring.homeSet 1 0) := by decide
  unfold homesA
  rw [e, bigSep_insert (by decide)]; rfl
theorem ring_end (XB : Buf (Elt F) (mLub.view.loc (c : Thread nD τ))) (M : Memref sig .tc .vmem S2x512x4096 .bf16) (A : DmaSems sig S2) :
    ringAt c XB M A 8 ⊢ iprop((∃ W, owes (c : Thread nD τ) 0 W) ∗ homesB c XB ∗ idleB c M A) := by
  unfold ringAt idleB homesB
  rw [slotNow_end, Ring.homeSet_last 1 8 (by decide)]
  iintro ⟨HW, Hh, Hs1, Hc1, Hs0, Hc0⟩
  isplitl [HW]; · iexact HW
  isplitl [Hh]; · iexact Hh
  isplitl [Hs0]; · iexact Hs0
  isplitl [Hc0]; · iexact Hc0
  isplitl [Hs1]; · iexact Hs1
  iexact Hc1
theorem in_end (S : Memref sig .tc .hbm S4096x4096 .f32) (Z : Buf (Elt F) (S.view.loc (c : Thread nD τ))) (M : Memref sig .tc .vmem S2x128x4096 .f32) (A : DmaSems sig S2) :
    inAt c S Z M A 32 ⊢ iprop(homesA c S Z ∗ idleA c M A) := by
  unfold inAt idleA homesA
  rw [inNow_end, Ring.homeSet_last 1 32 (by decide)]
  iintro ⟨Hh, Hs1, Hc1, Hs0, Hc0⟩
  isplitl [Hh]; · iexact Hh
  isplitl [Hs0]; · iexact Hs0
  isplitl [Hc0]; · iexact Hc0
  isplitl [Hs1]; · iexact Hs1
  iexact Hc1
end Whole

/-! ## What an array holds once every row block is stored -/

section Glue
variable (c : Dev nD)

/-- Stores of consecutive row blocks, each the rows of `G`, leave `G` on the rows stored. -/
theorem read_acc {S : Shape} {sp : Space} {e : EltTy} (v : View sig .tc sp S e) (a : Fin S.rank) (R n : ℕ) [NeZero n] (r : Fin n → Rect S)
    (hr : ∀ b i, i ∈ (r b).set ↔ R * b.val ≤ (i a).val ∧ (i a).val < R * b.val + R) (pay : ∀ b, (r b).shape.Idx → Elt F e) (G : S.Idx → Elt F e)
    (hG : ∀ b x, pay b x = G ((r b).emb x)) (acc : ℕ → v.ty.Contents (Elt F))
    (hacc : ∀ k, acc (k + 1) = v.writes (Elt F) (acc k) [⟨r (Ring.bk n k), pay (Ring.bk n k)⟩]) :
    ∀ k ≤ n, ∀ i, (i a).val < R * k → v.read (Elt F) (acc k) i = G i
  | 0, _, i, h => by omega
  | k + 1, hk, i, h => by
    have hb : (Ring.bk n k).val = k := Ring.bk_val (by omega)
    rw [hacc]
    by_cases hi : i ∈ (r (Ring.bk n k)).set
    · rw [← Rect.map_emb_univ] at hi
      obtain ⟨x, -, rfl⟩ := Finset.mem_map.mp hi
      rw [View.read_writes_cons_emb, hG]
    · rw [View.read_writes_cons_miss v _ _ _ _ hi, View.writes_nil]
      refine read_acc v a R n r hr pay G hG acc hacc k (by omega) i ?_
      rw [hr, hb] at hi
      rw [Nat.mul_succ] at h
      omega

/-- One function from its row blocks: of 512 rows and 128, narrow and wide. -/
def glueB {e : EltTy} (pay : Fin 8 → S512x16.Idx → Elt F e) : S4096x16.Idx → Elt F e := fun i =>
  pay ⟨(i 0).val / 512, by have := (i 0).isLt; change _ < 4096 at this; omega⟩ (ix2 ⟨(i 0).val % 512, Nat.mod_lt _ (by decide)⟩ (i 1))
def glueA {e : EltTy} (pay : Fin 32 → S128x16.Idx → Elt F e) : S4096x16.Idx → Elt F e := fun i =>
  pay ⟨(i 0).val / 128, by have := (i 0).isLt; change _ < 4096 at this; omega⟩ (ix2 ⟨(i 0).val % 128, Nat.mod_lt _ (by decide)⟩ (i 1))
def glueW {e : EltTy} (pay : Fin 32 → S128x4096.Idx → Elt F e) : S4096x4096.Idx → Elt F e := fun i =>
  pay ⟨(i 0).val / 128, by have := (i 0).isLt; change _ < 4096 at this; omega⟩ (ix2 ⟨(i 0).val % 128, Nat.mod_lt _ (by decide)⟩ (i 1))

theorem glueB_emb {e : EltTy} (pay : Fin 8 → S512x16.Idx → Elt F e) (b : Fin 8) (x : S512x16.Idx) : pay b x = glueB pay ((rB' b).emb x) := by
  have h0 : ((rB' b).emb x 0).val = 512 * b.val + 1 * (x 0).val := rfl
  have h1 : ((rB' b).emb x 1).val = 0 + 1 * (x 1).val := rfl
  have hx : (x 0).val < 512 := (x 0).isLt
  unfold glueB
  refine congr (congrArg pay (Fin.ext (by show b.val = ((rB' b).emb x 0).val / 512; rw [h0]; omega))) ?_
  · funext a; fin_cases a
    · exact Fin.ext (by show (x 0).val = ((rB' b).emb x 0).val % 512; rw [h0]; omega)
    · exact Fin.ext (by show (x 1).val = ((rB' b).emb x 1).val; rw [h1]; omega)
theorem glueA_emb {e : EltTy} (pay : Fin 32 → S128x16.Idx → Elt F e) (b : Fin 32) (x : S128x16.Idx) : pay b x = glueA pay ((rA' b).emb x) := by
  have h0 : ((rA' b).emb x 0).val = 128 * b.val + 1 * (x 0).val := rfl
  have h1 : ((rA' b).emb x 1).val = 0 + 1 * (x 1).val := rfl
  have hx : (x 0).val < 128 := (x 0).isLt
  unfold glueA
  refine congr (congrArg pay (Fin.ext (by show b.val = ((rA' b).emb x 0).val / 128; rw [h0]; omega))) ?_
  · funext a; fin_cases a
    · exact Fin.ext (by show (x 0).val = ((rA' b).emb x 0).val % 128; rw [h0]; omega)
    · exact Fin.ext (by show (x 1).val = ((rA' b).emb x 1).val; rw [h1]; omega)
theorem glueW_emb {e : EltTy} (pay : Fin 32 → S128x4096.Idx → Elt F e) (b : Fin 32) (x : S128x4096.Idx) : pay b x = glueW pay ((rA b).emb x) := by
  have h0 : ((rA b).emb x 0).val = 128 * b.val + 1 * (x 0).val := rfl
  have h1 : ((rA b).emb x 1).val = 0 + 1 * (x 1).val := rfl
  have hx : (x 0).val < 128 := (x 0).isLt
  unfold glueW
  refine congr (congrArg pay (Fin.ext (by show b.val = ((rA b).emb x 0).val / 128; rw [h0]; omega))) ?_
  · funext a; fin_cases a
    · exact Fin.ext (by show (x 0).val = ((rA b).emb x 0).val % 128; rw [h0]; omega)
    · exact Fin.ext (by show (x 1).val = ((rA b).emb x 1).val; rw [h1]; omega)

theorem accB_read (m : Memref sig .tc .vmem S4096x16 .f32) (f0 : Buf (Elt F) (m.view.loc (c : Thread nD τ))) (pay : Fin 8 → S512x16.Idx → Elt F .f32) :
    m.view.read (Elt F) (accB c m f0 pay 8) = glueB pay := by
  funext i
  refine read_acc m.view (0 : Fin 2) 512 8 rB' (fun b i => ?_) pay (glueB pay) (glueB_emb pay) (accB c m f0 pay) (fun _ => rfl) 8 le_rfl i (by have := (i 0).isLt; exact this)
  rw [Rect.mem_set_unit, Fin.forall_fin_two]
  exact and_iff_left ⟨Nat.zero_le _, (i 1).isLt⟩
theorem accA_read (m : Memref sig .tc .vmem S4096x16 .f32) (f0 : Buf (Elt F) (m.view.loc (c : Thread nD τ))) (pay : Fin 32 → S128x16.Idx → Elt F .f32) :
    m.view.read (Elt F) (accA c m f0 pay 32) = glueA pay := by
  funext i
  refine read_acc m.view (0 : Fin 2) 128 32 rA' (fun b i => ?_) pay (glueA pay) (glueA_emb pay) (accA c m f0 pay) (fun _ => rfl) 32 le_rfl i (by have := (i 0).isLt; exact this)
  rw [Rect.mem_set_unit, Fin.forall_fin_two]
  exact and_iff_left ⟨Nat.zero_le _, (i 1).isLt⟩
theorem accW_read (m : Memref sig .tc .vmem S4096x4096 .bf16) (f0 : Buf (Elt F) (m.view.loc (c : Thread nD τ))) (pay : Fin 32 → S128x4096.Idx → Elt F .bf16) :
    m.view.read (Elt F) (accW c m f0 pay 32) = glueW pay := by
  funext i
  refine read_acc m.view (0 : Fin 2) 128 32 rA (fun b i => ?_) pay (glueW pay) (glueW_emb pay) (accW c m f0 pay) (fun _ => rfl) 32 le_rfl i (by have := (i 0).isLt; exact this)
  rw [Rect.mem_set_unit, Fin.forall_fin_two]
  exact and_iff_left ⟨Nat.zero_le _, (i 1).isLt⟩

/-- A buffer at contents that read `X` is at any other such. -/
theorem pt_read {sp : Space} {s : Shape} {e : EltTy} (m : Memref sig .tc sp s e) (f g : Buf (Elt F) (m.view.loc (c : Thread nD τ)))
    (h : m.view.read (Elt F) f = m.view.read (Elt F) g) : pt c m f = pt c m g := by
  refine pointsTo_congr fun i hi => ?_
  obtain ⟨y, -, rfl⟩ := Finset.mem_map.mp hi
  exact View.eq_of_read_eq (congrFun h y)
theorem pt_to {sp : Space} {s : Shape} {e : EltTy} (m : Memref sig .tc sp s e) (f g : Buf (Elt F) (m.view.loc (c : Thread nD τ))) (X : s.Idx → Elt F e)
    (hf : m.view.read (Elt F) f = X) (hg : m.view.read (Elt F) g = X) : pt c m f = pt c m g := pt_read c m f g (hf.trans hg.symm)
/-- A narrow buffer stored whole. -/
theorem pt_put {e : EltTy} (m : Memref sig .tc .vmem S4096x16 e) (f g : Buf (Elt F) (m.view.loc (c : Thread nD τ))) (p : S4096x16.Idx → Elt F e) (h : m.view.read (Elt F) g = p) :
    pt c m (m.view.writes (Elt F) f [⟨Rect.unit (s := S4096x16) ![0, 0] S4096x16.size inb_S4096x16_S4096x16_0_0, p⟩]) = pt c m g :=
  pt_read c m _ _ ((View.read_writes_full m.view f inb_S4096x16_S4096x16_0_0 p []).trans h.symm)
theorem rd16_eq {e : EltTy} (m : Memref sig .tc .vmem S4096x16 e) (f : Buf (Elt F) (m.view.loc (c : Thread nD τ))) : rd16 c m f = m.view.read (Elt F) f :=
  View.readAt_full m.view f _

/-- The rounded upper Laplacian the first loop sends out. -/
def xB (Zu : S4096x4096.Idx → Elt F .f32) : S4096x4096.Idx → Elt F .bf16 := glueW (outRows Zu)
theorem xB_rows (Zu : S4096x4096.Idx → Elt F .f32) (b : Fin 32) : rdA (xB Zu) b = outRows Zu b := funext fun x => (glueW_emb (outRows Zu) b x).symm
end Glue

end Cert.KernelIdeal.Hand

end
-- ==== Proof.Ideal.Body.lean ====
/-
  The body, stage by stage: each of its parts with a loop runs from every block home and both slots idle to the same,
  its arrays at the blocks stored; then the whole body, its output a function of what it reads.
-/
module

public import proofs.«01_k».proof.Proof.Ideal.Glue

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Stages
variable (c : Dev nD)
  (arg0 : Memref sig .tc .vmem S4096x16 .f32) (harg0 : arg0.IsWhole)
  (arg1 : Memref sig .tc .vmem S5x16x16 .f32) (harg1 : arg1.IsWhole)
  (arg2 : Memref sig .tc .vmem S5x16x16 .f32) (harg2 : arg2.IsWhole)
  (arg3 : Memref sig .tc .vmem S1x16 .f32) (harg3 : arg3.IsWhole)
  (arg6 : Memref sig .tc .vmem S4096x16 .f32) (harg6 : arg6.IsWhole)
  (XB : Buf (Elt F) (mLub.view.loc (c : Thread nD τ)))

/-- The weakest precondition of a program of the core's. -/
abbrev wpS {α : Type} (p : Prog (TpuEff nD τ sig (Elt F) Λ₀ .tc) α) (Q : α → sProp 𝕄) : sProp 𝕄 :=
  wp frame (wpE (defs₀ (F := F)) 𝒱₀ (c : Thread nD τ) none) Set.univ p Q

/-- One of a filter bank's five matrices, as the body loads it. -/
abbrev bank (M : Memref sig .tc .vmem S5x16x16 .f32) (G : Buf (Elt F) (M.view.loc (c : Thread nD τ))) (j : Fin 3 → Nat) (h : ∀ a, j a + S1x16x16.size a ≤ S5x16x16.size a) : S1x16x16.Idx → Elt F .f32 :=
  View.readAt (Elt F) M.view (Rect.unit (s := S5x16x16) j S1x16x16.size h).toLoadRect G

/-- The loop from its invariant at trip 0: the continuation starts from the blocks stored. -/
theorem loop2_run (v23 : Vec F S4096x16 .f32) (Zd : Buf (Elt F) (mLdb.view.loc (c : Thread nD τ))) (Za : Buf (Elt F) (mXdb.view.loc (c : Thread nD τ)))
    (Zb : Buf (Elt F) (mXub.view.loc (c : Thread nD τ))) (Zp : Buf (Elt F) (mP.view.loc (c : Thread nD τ))) (G : Buf (Elt F) (arg1.view.loc (c : Thread nD τ)))
    (f : Buf (Elt F) (mH.view.loc (c : Thread nD τ))) (ini) (hini : ini = words 0) {α : Type} (kk : _ → Prog (TpuEff nD τ sig (Elt F) Λ₀ .tc) α) (Q : α → sProp 𝕄) :
    iprop(res2 c XB arg1 Zd Za Zb Zp G 0 f ∗ (∀ acc, res2 c XB arg1 Zd Za Zb Zp G 8 (accB c mH f (pay2 c XB arg1 Zd Za Zb Zp G) 8) -∗ wpS c (kk acc) Q))
      ⊢ wpS c (k0_t2_loop.for k0_t2_ok ini (k0_t2_body (F := F) arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v23) >>= kk) Q := by
  iintro ⟨HR, HK⟩
  have e0 : res2 c XB arg1 Zd Za Zb Zp G 0 f ⊢ (loopInv2 c XB arg0 harg0 arg1 harg1 arg2 harg2 arg3 harg3 arg6 harg6 Zd Za Zb Zp G v23 f ini).inv 0 ini := by
    show _ ⊢ iprop(⌜ini = words 0⌝ ∗ res2 c XB arg1 Zd Za Zb Zp G 0 f)
    iintro HR
    isplitr
    · ipureintro; exact hini
    iexact HR
  ihave HL := (e0.trans (exec_loop _ _ _ _ _ _ _ _ _ (loopInv2 c XB arg0 harg0 arg1 harg1 arg2 harg2 arg3 harg3 arg6 harg6 Zd Za Zb Zp G v23 f ini))) $$ HR
  iapply HL
  iintro %acc HI
  have e : (loopInv2 c XB arg0 harg0 arg1 harg1 arg2 harg2 arg3 harg3 arg6 harg6 Zd Za Zb Zp G v23 f ini).inv 8 acc ⊢ res2 c XB arg1 Zd Za Zb Zp G 8 (accB c mH f (pay2 c XB arg1 Zd Za Zb Zp G) 8) := by
    show iprop(⌜acc = words 8⌝ ∗ _) ⊢ _
    iintro ⟨_, H⟩; iexact H
  iapply HK
  iapply e; iexact HI

set_option backward.proofsInPublic true in
/-- The second loop and the store before it. -/
theorem part13_run (v23 : Vec F S4096x16 .f32) (Zd : Buf (Elt F) (mLdb.view.loc (c : Thread nD τ))) (Za : Buf (Elt F) (mXdb.view.loc (c : Thread nD τ)))
    (Zp : Buf (Elt F) (mP.view.loc (c : Thread nD τ))) (G : Buf (Elt F) (arg1.view.loc (c : Thread nD τ))) :
    iprop(pt c mLdb Zd ∗ pt c mXdb Za ∗ (∃ f, pt c mXub f) ∗ pt c mP Zp ∗ pt c arg1 G ∗ (∃ f, pt c mH f) ∗ (∃ W, owes (c : Thread nD τ) 0 W) ∗ homesB c XB ∗ idleB c mS1 cc0_scoped7)
      ⊢ wpS c (k0_part13 arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v23)
        (fun _ => iprop(pt c mLdb Zd ∗ pt c mXdb Za ∗ pt c mXub (k0_pay14 v23) ∗ pt c mP Zp ∗ pt c arg1 G
          ∗ pt c mH (glueB (pay2 c XB arg1 Zd Za (k0_pay14 v23) Zp G)) ∗ (∃ W, owes (c : Thread nD τ) 0 W) ∗ homesB c XB ∗ idleB c mS1 cc0_scoped7)) := by

  iintro ⟨HLdb, HXdb, ⟨%f0, HXub⟩, HP, HG, ⟨%f1, HH⟩, ⟨%W, HW⟩, Hhomes, Hidle⟩
  unfold idleB
  icases Hidle with ⟨⟨%g0, Hs0⟩, Hc0, ⟨%g1, Hs1⟩, Hc1⟩
  ihave Hh2 := (entails_of_eq (homesB_start c XB)) $$ Hhomes
  icases Hh2 with ⟨Hb0, Hhomes⟩
  unfold wpS
  sl_unfold [k0_part13]
  sl_exec
  iapply (loop2_run c arg0 harg0 arg1 harg1 arg2 harg2 arg3 harg3 arg6 harg6 XB v23 Zd Za (k0_pay14 v23) Zp G f1 _ (by decide))
  isplitl [HLdb HXdb HXub HP HG HH HW Hs1 Hc1 Hhomes Hc0]
  · unfold res2 ringAt
    rw [slotNow_lt c XB mS1 cc0_scoped7 (show 0 < 8 by decide)]
    isplitl [HLdb]; · iexact HLdb
    isplitl [HXdb]; · iexact HXdb
    isplitl [HXub]; · iapply (entails_of_eq (pt_put c mXub _ (k0_pay14 v23) (k0_pay14 v23) rfl)); iexact HXub
    isplitl [HP]; · iexact HP
    isplitl [HG]; · iexact HG
    isplitl [HH]; · iexact HH
    isplitl [HW]; · iexists _; iexact HW
    isplitl [Hhomes]; · iexact Hhomes
    isplitl [Hs1]; · iexists _; iexact Hs1
    isplitl [Hc1]; · iexact Hc1
    iexists _; iexact Hc0
  iintro %acc HI
  obtain ⟨_, _, _⟩ := acc
  dsimp only
  unfold res2
  icases HI with ⟨HLdb, HXdb, HXub, HP, HG, HH, HR⟩
  ihave HE := (ring_end c XB mS1 cc0_scoped7) $$ HR
  unfold idleB
  icases HE with ⟨HW, Hhomes, Hidle⟩
  unfold wpS
  sl_step
  isplitl [HLdb]; · iexact HLdb
  isplitl [HXdb]; · iexact HXdb
  isplitl [HXub]; · iexact HXub
  isplitl [HP]; · iexact HP
  isplitl [HG]; · iexact HG
  isplitl [HH]; · iapply (entails_of_eq (pt_to c mH (accB c mH f1 (pay2 c XB arg1 Zd Za (k0_pay14 v23) Zp G) 8) (glueB (pay2 c XB arg1 Zd Za (k0_pay14 v23) Zp G)) _ (accB_read c mH _ _) rfl)); iexact HH
  isplitl [HW]; · iexact HW
  isplitl [Hhomes]; · iexact Hhomes
  iexact Hidle

set_option backward.proofsInPublic true in
/-- The rounded first hop, stored for the third loop. -/
theorem part14_run (v86 : BitVec 32) (H : Buf (Elt F) (mH.view.loc (c : Thread nD τ))) :
    iprop(pt c mH H ∗ (∃ f, pt c mXdb f) ∗ (∃ W, owes (c : Thread nD τ) 0 W))
      ⊢ wpS c (k0_part14 arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v86) (fun _ => iprop(pt c mH H ∗ pt c mXdb (k0_pay15 H) ∗ (∃ W, owes (c : Thread nD τ) 0 W))) := by
  iintro ⟨HH, ⟨%f, HX⟩, ⟨%W, HW⟩⟩
  unfold wpS
  sl_unfold [k0_part14]
  sl_exec
  sl_step
  isplitl [HH]; · iexact HH
  isplitl [HX]; · iapply (entails_of_eq (pt_put c mXdb _ (k0_pay15 H) (k0_pay15 (rd16 c mH H)) (congrArg k0_pay15 (rd16_eq c mH H).symm))); iexact HX
  iexists _; iexact HW

/-- The loop from its invariant at trip 0. -/
theorem loop3_run (v67 c59 : BitVec 32) (Zd : Buf (Elt F) (mLdb.view.loc (c : Thread nD τ))) (Zx : Buf (Elt F) (mXdb.view.loc (c : Thread nD τ)))
    (fd : Buf (Elt F) (mHd.view.loc (c : Thread nD τ))) (fu : Buf (Elt F) (mHu.view.loc (c : Thread nD τ))) (ini) (hini : ini = words 0) {α : Type} (kk : _ → Prog (TpuEff nD τ sig (Elt F) Λ₀ .tc) α) (Q : α → sProp 𝕄) :
    iprop(res3 c XB Zd Zx 0 fd fu ∗ (∀ acc, res3 c XB Zd Zx 8 (accB c mHd fd (pay3D c Zd Zx) 8) (accB c mHu fu (pay3U c XB Zx) 8) -∗ wpS c (kk acc) Q))
      ⊢ wpS c (k0_t3_loop.for k0_t3_ok ini (k0_t3_body (F := F) arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v67 c59) >>= kk) Q := by
  iintro ⟨HR, HK⟩
  have e0 : res3 c XB Zd Zx 0 fd fu ⊢ (loopInv3 c XB arg0 harg0 arg1 harg1 arg2 harg2 arg3 harg3 arg6 harg6 Zd Zx v67 c59 fd fu ini).inv 0 ini := by
    show _ ⊢ iprop(⌜ini = words 0⌝ ∗ res3 c XB Zd Zx 0 fd fu)
    iintro HR
    isplitr
    · ipureintro; exact hini
    iexact HR
  ihave HL := (e0.trans (exec_loop _ _ _ _ _ _ _ _ _ (loopInv3 c XB arg0 harg0 arg1 harg1 arg2 harg2 arg3 harg3 arg6 harg6 Zd Zx v67 c59 fd fu ini))) $$ HR
  iapply HL
  iintro %acc HI
  have e : (loopInv3 c XB arg0 harg0 arg1 harg1 arg2 harg2 arg3 harg3 arg6 harg6 Zd Zx v67 c59 fd fu ini).inv 8 acc ⊢ res3 c XB Zd Zx 8 (accB c mHd fd (pay3D c Zd Zx) 8) (accB c mHu fu (pay3U c XB Zx) 8) := by
    show iprop(⌜acc = words 8⌝ ∗ _) ⊢ _
    iintro ⟨_, H⟩; iexact H
  iapply HK
  iapply e; iexact HI

set_option backward.proofsInPublic true in
/-- The third loop. -/
theorem part15_run (v67 c59 : BitVec 32) (Zd : Buf (Elt F) (mLdb.view.loc (c : Thread nD τ))) (Zx : Buf (Elt F) (mXdb.view.loc (c : Thread nD τ))) :
    iprop(pt c mLdb Zd ∗ pt c mXdb Zx ∗ (∃ f, pt c mHd f) ∗ (∃ f, pt c mHu f) ∗ (∃ W, owes (c : Thread nD τ) 0 W) ∗ homesB c XB ∗ idleB c mS2 cc0_scoped9)
      ⊢ wpS c (k0_part15 arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v67 c59)
        (fun _ => iprop(pt c mLdb Zd ∗ pt c mXdb Zx ∗ pt c mHd (glueB (pay3D c Zd Zx)) ∗ pt c mHu (glueB (pay3U c XB Zx)) ∗ (∃ W, owes (c : Thread nD τ) 0 W) ∗ homesB c XB ∗ idleB c mS2 cc0_scoped9)) := by
  iintro ⟨HLdb, HXdb, ⟨%fd, HHd⟩, ⟨%fu, HHu⟩, ⟨%W, HW⟩, Hhomes, Hidle⟩
  unfold idleB
  icases Hidle with ⟨⟨%g0, Hs0⟩, Hc0, ⟨%g1, Hs1⟩, Hc1⟩
  ihave Hh2 := (entails_of_eq (homesB_start c XB)) $$ Hhomes
  icases Hh2 with ⟨Hb0, Hhomes⟩
  unfold wpS
  sl_unfold [k0_part15]
  sl_exec
  iapply (loop3_run c arg0 harg0 arg1 harg1 arg2 harg2 arg3 harg3 arg6 harg6 XB v67 c59 Zd Zx fd fu _ (by decide))
  isplitl [HLdb HXdb HHd HHu HW Hs1 Hc1 Hhomes Hc0]
  · unfold res3 ringAt
    rw [slotNow_lt c XB mS2 cc0_scoped9 (show 0 < 8 by decide)]
    isplitl [HLdb]; · iexact HLdb
    isplitl [HXdb]; · iexact HXdb
    isplitl [HHd]; · iexact HHd
    isplitl [HHu]; · iexact HHu
    isplitl [HW]; · iexists _; iexact HW
    isplitl [Hhomes]; · iexact Hhomes
    isplitl [Hs1]; · iexists _; iexact Hs1
    isplitl [Hc1]; · iexact Hc1
    iexists _; iexact Hc0
  iintro %acc HI
  obtain ⟨_, _, _⟩ := acc
  dsimp only
  unfold res3
  icases HI with ⟨HLdb, HXdb, HHd, HHu, HR⟩
  ihave HE := (ring_end c XB mS2 cc0_scoped9) $$ HR
  unfold idleB
  icases HE with ⟨HW, Hhomes, Hidle⟩
  unfold wpS
  sl_exec
  sl_step
  isplitl [HLdb]; · iexact HLdb
  isplitl [HXdb]; · iexact HXdb
  isplitl [HHd]; · iapply (entails_of_eq (pt_to c mHd (accB c mHd fd (pay3D c Zd Zx) 8) (glueB (pay3D c Zd Zx)) _ (accB_read c mHd _ _) rfl)); iexact HHd
  isplitl [HHu]; · iapply (entails_of_eq (pt_to c mHu (accB c mHu fu (pay3U c XB Zx) 8) (glueB (pay3U c XB Zx)) _ (accB_read c mHu _ _) rfl)); iexact HHu
  isplitl [HW]; · iexact HW
  isplitl [Hhomes]; · iexact Hhomes
  iexact Hidle

set_option backward.proofsInPublic true in
/-- The reads of the second filter's first three products and of the bias. -/
theorem part16_run (v90 v93 cm1 : BitVec 32) (H : Buf (Elt F) (mH.view.loc (c : Thread nD τ))) (Hd : Buf (Elt F) (mHd.view.loc (c : Thread nD τ)))
    (Hu : Buf (Elt F) (mHu.view.loc (c : Thread nD τ))) (G : Buf (Elt F) (arg2.view.loc (c : Thread nD τ))) (B : Buf (Elt F) (arg3.view.loc (c : Thread nD τ))) :
    iprop(pt c mH H ∗ pt c mHd Hd ∗ pt c mHu Hu ∗ pt c arg2 G ∗ pt c arg3 B ∗ (∃ W, owes (c : Thread nD τ) 0 W))
      ⊢ wpS c (k0_part16 arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v90 v93 cm1)
        (fun r => iprop(⌜r.1 = k0_pay16 H (bank c arg2 G ![0, 0, 0] inb_S5x16x16_S1x16x16_0_0_0) Hd (bank c arg2 G ![1, 0, 0] inb_S5x16x16_S1x16x16_1_0_0) Hu (bank c arg2 G ![3, 0, 0] inb_S5x16x16_S1x16x16_3_0_0)
            ∧ r.2 = View.readAt (Elt F) arg3.view (Rect.unit (s := S1x16) ![0, 0] S1x16.size inb_S1x16_S1x16_0_0).toLoadRect B⌝
          ∗ pt c mH H ∗ pt c mHd Hd ∗ pt c mHu Hu ∗ pt c arg2 G ∗ pt c arg3 B ∗ (∃ W, owes (c : Thread nD τ) 0 W))) := by
  iintro ⟨HH, HHd, HHu, HG, HB, ⟨%W, HW⟩⟩
  unfold wpS
  sl_unfold [k0_part16]
  sl_exec
  sl_step
  isplitr
  · ipureintro
    refine ⟨?_, rfl⟩
    show k0_pay16 (rd16 c mH H) _ (rd16 c mHd Hd) _ (rd16 c mHu Hu) _ = _
    rw [show rd16 c mH H = H from rd16_eq c mH H, show rd16 c mHd Hd = Hd from rd16_eq c mHd Hd, show rd16 c mHu Hu = Hu from rd16_eq c mHu Hu]
  isplitl [HH]; · iexact HH
  isplitl [HHd]; · iexact HHd
  isplitl [HHu]; · iexact HHu
  isplitl [HG]; · iexact HG
  isplitl [HB]; · iexact HB
  iexists _; iexact HW

set_option backward.proofsInPublic true in
/-- The second filter's partial sum and the rounded hops, stored for the last loop. -/
theorem part17_run (v46 : FVec F S4096x16 .f32) (v47 : Vec F S1x16 .f32) (Hd : Buf (Elt F) (mHd.view.loc (c : Thread nD τ))) (Hu : Buf (Elt F) (mHu.view.loc (c : Thread nD τ))) :
    iprop((∃ f, pt c mP f) ∗ pt c mHd Hd ∗ (∃ f, pt c mXub f) ∗ pt c mHu Hu ∗ (∃ f, pt c mXdb f) ∗ (∃ W, owes (c : Thread nD τ) 0 W))
      ⊢ wpS c (k0_part17 arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v46 v47)
        (fun _ => iprop(pt c mP (k0_pay17 v46 v47) ∗ pt c mHd Hd ∗ pt c mXub (k0_pay18 Hd) ∗ pt c mHu Hu ∗ pt c mXdb (k0_pay19 Hu) ∗ (∃ W, owes (c : Thread nD τ) 0 W))) := by
  iintro ⟨⟨%f0, HP⟩, HHd, ⟨%f1, HXub⟩, HHu, ⟨%f2, HXdb⟩, ⟨%W, HW⟩⟩
  unfold wpS
  sl_unfold [k0_part17]
  sl_exec
  sl_step
  isplitl [HP]; · iapply (entails_of_eq (pt_put c mP _ (k0_pay17 v46 v47) (k0_pay17 v46 v47) rfl)); iexact HP
  isplitl [HHd]; · iexact HHd
  isplitl [HXub]; · iapply (entails_of_eq (pt_put c mXub _ (k0_pay18 Hd) (k0_pay18 (rd16 c mHd Hd)) (congrArg k0_pay18 (rd16_eq c mHd Hd).symm))); iexact HXub
  isplitl [HHu]; · iexact HHu
  isplitl [HXdb]; · iapply (entails_of_eq (pt_put c mXdb _ (k0_pay19 Hu) (k0_pay19 (rd16 c mHu Hu)) (congrArg k0_pay19 (rd16_eq c mHu Hu).symm))); iexact HXdb
  iexists _; iexact HW
/-- The loop from its invariant at trip 0: the continuation starts from the blocks stored. -/
theorem loop4_run (c69 : BitVec 32) (Zd : Buf (Elt F) (mLdb.view.loc (c : Thread nD τ))) (Za : Buf (Elt F) (mXdb.view.loc (c : Thread nD τ)))
    (Zb : Buf (Elt F) (mXub.view.loc (c : Thread nD τ))) (Zp : Buf (Elt F) (mP.view.loc (c : Thread nD τ))) (G : Buf (Elt F) (arg2.view.loc (c : Thread nD τ)))
    (f : Buf (Elt F) (arg6.view.loc (c : Thread nD τ))) (ini) (hini : ini = words 0) {α : Type} (kk : _ → Prog (TpuEff nD τ sig (Elt F) Λ₀ .tc) α) (Q : α → sProp 𝕄) :
    iprop(res4 c XB arg2 arg6 Zd Za Zb Zp G 0 f ∗ (∀ acc, res4 c XB arg2 arg6 Zd Za Zb Zp G 8 (accB c arg6 f (pay4 c XB arg2 Zd Za Zb Zp G) 8) -∗ wpS c (kk acc) Q))
      ⊢ wpS c (k0_t4_loop.for k0_t4_ok ini (k0_t4_body (F := F) arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 c69) >>= kk) Q := by
  iintro ⟨HR, HK⟩
  have e0 : res4 c XB arg2 arg6 Zd Za Zb Zp G 0 f ⊢ (loopInv4 c XB arg0 harg0 arg1 harg1 arg2 harg2 arg3 harg3 arg6 harg6 Zd Za Zb Zp G c69 f ini).inv 0 ini := by
    show _ ⊢ iprop(⌜ini = words 0⌝ ∗ res4 c XB arg2 arg6 Zd Za Zb Zp G 0 f)
    iintro HR
    isplitr
    · ipureintro; exact hini
    iexact HR
  ihave HL := (e0.trans (exec_loop _ _ _ _ _ _ _ _ _ (loopInv4 c XB arg0 harg0 arg1 harg1 arg2 harg2 arg3 harg3 arg6 harg6 Zd Za Zb Zp G c69 f ini))) $$ HR
  iapply HL
  iintro %acc HI
  have e : (loopInv4 c XB arg0 harg0 arg1 harg1 arg2 harg2 arg3 harg3 arg6 harg6 Zd Za Zb Zp G c69 f ini).inv 8 acc ⊢ res4 c XB arg2 arg6 Zd Za Zb Zp G 8 (accB c arg6 f (pay4 c XB arg2 Zd Za Zb Zp G) 8) := by
    show iprop(⌜acc = words 8⌝ ∗ _) ⊢ _
    iintro ⟨_, H⟩; iexact H
  iapply HK
  iapply e; iexact HI

set_option backward.proofsInPublic true in
/-- The fourth loop: the output's rows. -/
theorem part18_run (c69 : BitVec 32) (Zd : Buf (Elt F) (mLdb.view.loc (c : Thread nD τ))) (Za : Buf (Elt F) (mXdb.view.loc (c : Thread nD τ)))
    (Zb : Buf (Elt F) (mXub.view.loc (c : Thread nD τ))) (Zp : Buf (Elt F) (mP.view.loc (c : Thread nD τ))) (G : Buf (Elt F) (arg2.view.loc (c : Thread nD τ))) :
    iprop(pt c mLdb Zd ∗ pt c mXdb Za ∗ pt c mXub Zb ∗ pt c mP Zp ∗ pt c arg2 G ∗ (∃ f, pt c arg6 f) ∗ (∃ W, owes (c : Thread nD τ) 0 W) ∗ homesB c XB ∗ idleB c mS3 cc0_scoped11)
      ⊢ wpS c (k0_part18 arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 c69)
        (fun _ => iprop(pt c mLdb Zd ∗ pt c mXdb Za ∗ pt c mXub Zb ∗ pt c mP Zp ∗ pt c arg2 G
          ∗ (∃ f, pt c arg6 f ∗ ⌜arg6.view.read (Elt F) f = glueB (pay4 c XB arg2 Zd Za Zb Zp G)⌝) ∗ (∃ W, owes (c : Thread nD τ) 0 W) ∗ homesB c XB ∗ idleB c mS3 cc0_scoped11)) := by
  iintro ⟨HLdb, HXdb, HXub, HP, HG, ⟨%f1, HH⟩, ⟨%W, HW⟩, Hhomes, Hidle⟩
  unfold idleB
  icases Hidle with ⟨⟨%g0, Hs0⟩, Hc0, ⟨%g1, Hs1⟩, Hc1⟩
  ihave Hh2 := (entails_of_eq (homesB_start c XB)) $$ Hhomes
  icases Hh2 with ⟨Hb0, Hhomes⟩
  unfold wpS
  sl_unfold [k0_part18]
  sl_exec
  iapply (loop4_run c arg0 harg0 arg1 harg1 arg2 harg2 arg3 harg3 arg6 harg6 XB c69 Zd Za Zb Zp G f1 _ (by decide))
  isplitl [HLdb HXdb HXub HP HG HH HW Hs1 Hc1 Hhomes Hc0]
  · unfold res4 ringAt
    rw [slotNow_lt c XB mS3 cc0_scoped11 (show 0 < 8 by decide)]
    isplitl [HLdb]; · iexact HLdb
    isplitl [HXdb]; · iexact HXdb
    isplitl [HXub]; · iexact HXub
    isplitl [HP]; · iexact HP
    isplitl [HG]; · iexact HG
    isplitl [HH]; · iexact HH
    isplitl [HW]; · iexists _; iexact HW
    isplitl [Hhomes]; · iexact Hhomes
    isplitl [Hs1]; · iexists _; iexact Hs1
    isplitl [Hc1]; · iexact Hc1
    iexists _; iexact Hc0
  iintro %acc HI
  obtain ⟨_, _, _⟩ := acc
  dsimp only
  unfold res4
  icases HI with ⟨HLdb, HXdb, HXub, HP, HG, HH, HR⟩
  ihave HE := (ring_end c XB mS3 cc0_scoped11) $$ HR
  unfold idleB
  icases HE with ⟨HW, Hhomes, Hidle⟩
  unfold wpS
  sl_exec
  sl_step
  isplitl [HLdb]; · iexact HLdb
  isplitl [HXdb]; · iexact HXdb
  isplitl [HXub]; · iexact HXub
  isplitl [HP]; · iexact HP
  isplitl [HG]; · iexact HG
  isplitl [HH]
  · iexists (accB c arg6 f1 (pay4 c XB arg2 Zd Za Zb Zp G) 8)
    isplitl [HH]; · iexact HH
    ipureintro; exact accB_read c arg6 f1 (pay4 c XB arg2 Zd Za Zb Zp G)
  isplitl [HW]; · iexact HW
  isplitl [Hhomes]; · iexact Hhomes
  iexact Hidle

section First
variable (Zl Zu : S4096x4096.Idx → Elt F .f32) (hXB : ∀ b, rdA (e := .bf16) XB b = outRows Zu b)

set_option backward.proofsInPublic true in
/-- The features loaded, and the lower Laplacian's first block on its way. -/
theorem part10_run (X : Buf (Elt F) (arg0.view.loc (c : Thread nD τ))) :
    iprop(pt c arg0 X ∗ (∃ W, owes (c : Thread nD τ) 0 W) ∗ homesA c mLd Zl ∗ idleA c mSd cc0_scoped1)
      ⊢ wpS c (k0_part10 arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11)
        (fun r => iprop(⌜r.1 = rd16 c arg0 X ∧ r.2.1 = k0_pay11 (rd16 c arg0 X) ∧ r.2.2 = 1#32⌝ ∗ pt c arg0 X ∗ (∃ W, owes (c : Thread nD τ) 0 W) ∗ inAt c mLd Zl mSd cc0_scoped1 0)) := by
  iintro ⟨HX, ⟨%W, HW⟩, Hhomes, Hidle⟩
  unfold idleA
  icases Hidle with ⟨⟨%g0, Hs0⟩, Hc0, ⟨%g1, Hs1⟩, Hc1⟩
  ihave Hh2 := (entails_of_eq (homesA_start c mLd Zl)) $$ Hhomes
  icases Hh2 with ⟨Hb0, Hhomes⟩
  unfold wpS
  sl_unfold [k0_part10]
  sl_exec
  sl_step
  isplitr
  · ipureintro; exact ⟨rfl, rfl, rfl⟩
  isplitl [HX]; · iexact HX
  isplitl [HW]; · iexists _; iexact HW
  unfold inAt
  rw [inNow_lt c mLd Zl mSd cc0_scoped1 (show 0 < 32 by decide)]
  isplitl [Hhomes]; · iexact Hhomes
  isplitl [Hs1]; · iexists _; iexact Hs1
  isplitl [Hc1]; · iexact Hc1
  iexists _; iexact Hc0

include hXB in
/-- The loop from its invariant at trip 0. -/
theorem loop1_run (v1 : FVec F S4096x16 .bf16) (v86 : BitVec 32) (fl : Buf (Elt F) (mLdb.view.loc (c : Thread nD τ))) (fd : Buf (Elt F) (mXd.view.loc (c : Thread nD τ)))
    (fu : Buf (Elt F) (mXu.view.loc (c : Thread nD τ))) (ini) (hini : ini = words1 0) {α : Type} (kk : _ → Prog (TpuEff nD τ sig (Elt F) Λ₀ .tc) α) (Q : α → sProp 𝕄) :
    iprop(res1 c Zl Zu XB 0 fl fd fu ∗ (∀ acc, ⌜acc = words1 32⌝ ∗ res1 c Zl Zu XB 32 (accW c mLdb fl (pay1L c Zl) 32) (accA c mXd fd (pay1D c Zl v1) 32) (accA c mXu fu (pay1U c Zu v1) 32) -∗ wpS c (kk acc) Q))
      ⊢ wpS c (k0_t1_loop.for k0_t1_ok ini (k0_t1_body (F := F) arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v1 v86) >>= kk) Q := by
  iintro ⟨HR, HK⟩
  have e0 : res1 c Zl Zu XB 0 fl fd fu ⊢ (loopInv1 c Zl Zu XB hXB arg0 harg0 arg1 harg1 arg2 harg2 arg3 harg3 arg6 harg6 v1 v86 fl fd fu ini).inv 0 ini := by
    show _ ⊢ iprop(⌜ini = words1 0⌝ ∗ res1 c Zl Zu XB 0 fl fd fu)
    iintro HR
    isplitr
    · ipureintro; exact hini
    iexact HR
  ihave HL := (e0.trans (exec_loop _ _ _ _ _ _ _ _ _ (loopInv1 c Zl Zu XB hXB arg0 harg0 arg1 harg1 arg2 harg2 arg3 harg3 arg6 harg6 v1 v86 fl fd fu ini))) $$ HR
  iapply HL
  iintro %acc HI
  have e : (loopInv1 c Zl Zu XB hXB arg0 harg0 arg1 harg1 arg2 harg2 arg3 harg3 arg6 harg6 v1 v86 fl fd fu ini).inv 32 acc ⊢ iprop(⌜acc = words1 32⌝ ∗ res1 c Zl Zu XB 32 (accW c mLdb fl (pay1L c Zl) 32) (accA c mXd fd (pay1D c Zl v1) 32) (accA c mXu fu (pay1U c Zu v1) 32)) := by
    show iprop(⌜acc = words1 32⌝ ∗ _) ⊢ _
    iintro H; iexact H
  iapply HK
  iapply e; iexact HI

set_option backward.proofsInPublic true in
include hXB in
/-- The first loop, the upper Laplacian's first block on its way before it. -/
theorem part11_run (v1 : FVec F S4096x16 .bf16) :
    iprop((∃ f, pt c mLdb f) ∗ (∃ f, pt c mXd f) ∗ (∃ f, pt c mXu f) ∗ (∃ W, owes (c : Thread nD τ) 0 W) ∗ inAt c mLd Zl mSd cc0_scoped1 0
        ∗ homesA c mLu Zu ∗ idleA c mSu cc0_scoped3 ∗ (∃ f, pt c mLub f) ∗ idleA c mSo cc0_scoped5)
      ⊢ wpS c (k0_part11 arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v1 1#32)
        (fun r => iprop(⌜r.1 = wd (32 - 1) ∧ r.2.1 = wd (32 % 32)⌝ ∗ pt c mLdb (glueW (pay1L c Zl)) ∗ pt c mXd (glueA (pay1D c Zl v1)) ∗ pt c mXu (glueA (pay1U c Zu v1))
          ∗ (∃ W, owes (c : Thread nD τ) 0 W) ∗ (homesA c mLd Zl ∗ idleA c mSd cc0_scoped1) ∗ (homesA c mLu Zu ∗ idleA c mSu cc0_scoped3) ∗ outAt c Zu XB 32)) := by
  iintro ⟨⟨%fl, HLdb⟩, ⟨%fd, HXd⟩, ⟨%fu, HXu⟩, ⟨%W, HW⟩, HIn, Hhomes, Hidle, HLub, Hout⟩
  ihave Hpend := (pend_start c) $$ HLub
  unfold idleA
  icases Hidle with ⟨⟨%g0, Hs0⟩, Hc0, ⟨%g1, Hs1⟩, Hc1⟩
  icases Hout with ⟨Ho0, Hd0, Ho1, Hd1⟩
  ihave Hh2 := (entails_of_eq (homesA_start c mLu Zu)) $$ Hhomes
  icases Hh2 with ⟨Hb0, Hhomes⟩
  unfold wpS
  sl_unfold [k0_part11]
  sl_exec
  iapply (loop1_run c arg0 harg0 arg1 harg1 arg2 harg2 arg3 harg3 arg6 harg6 XB Zl Zu hXB v1 1#32 fl fd fu _ (by decide))
  isplitl [HLdb HXd HXu HW HIn Hs1 Hc1 Hhomes Hc0 Hpend Ho0 Hd0 Ho1 Hd1]
  · unfold res1
    isplitl [HLdb]; · iexact HLdb
    isplitl [HXd]; · iexact HXd
    isplitl [HXu]; · iexact HXu
    isplitl [HW]; · iexists _; iexact HW
    isplitl [HIn]; · iexact HIn
    isplitl [Hhomes Hs1 Hc1 Hc0]
    · unfold inAt
      rw [inNow_lt c mLu Zu mSu cc0_scoped3 (show 0 < 32 by decide)]
      isplitl [Hhomes]; · iexact Hhomes
      isplitl [Hs1]; · iexists _; iexact Hs1
      isplitl [Hc1]; · iexact Hc1
      iexists _; iexact Hc0
    unfold outAt
    rw [outNow_zero c Zu rfl, show Ring.rangeSet 32 0 (0 - 1) = (∅ : Finset (Fin 32)) by decide, bigSep_empty]
    isplitr; · iempintro
    isplitl [Hpend]; · iexact Hpend
    isplitl [Ho0]; · iexact Ho0
    isplitl [Hd0]; · iexact Hd0
    isplitl [Ho1]; · iexact Ho1
    iexact Hd1
  iintro %acc ⟨%hacc, HI⟩
  obtain ⟨a0, a1, a2, a3, a4, a5, a6⟩ := acc
  have e5 : a5 = wd (32 - 1) := congrArg (fun a => a.2.2.2.2.2.1) hacc
  have e6 : a6 = wd (32 % 32) := congrArg (fun a => a.2.2.2.2.2.2) hacc
  clear hacc
  dsimp only
  unfold res1
  icases HI with ⟨HLdb, HXd, HXu, ⟨%W', HW⟩, HD, HU, HO⟩
  ihave HD2 := (in_end c mLd Zl mSd cc0_scoped1) $$ HD
  ihave HU2 := (in_end c mLu Zu mSu cc0_scoped3) $$ HU
  unfold idleA
  have hc5 : k0_chk5 a5 := e5 ▸ chk5_end
  have hc6 : k0_chk6 a6 := e6 ▸ chk6_end
  unfold wpS
  sl_exec
  sl_step
  isplitr; · ipureintro; exact ⟨e5, e6⟩
  isplitl [HLdb]; · iapply (entails_of_eq (pt_to c mLdb (accW c mLdb fl (pay1L c Zl) 32) (glueW (pay1L c Zl)) _ (accW_read c mLdb _ _) rfl)); iexact HLdb
  isplitl [HXd]; · iapply (entails_of_eq (pt_to c mXd (accA c mXd fd (pay1D c Zl v1) 32) (glueA (pay1D c Zl v1)) _ (accA_read c mXd _ _) rfl)); iexact HXd
  isplitl [HXu]; · iapply (entails_of_eq (pt_to c mXu (accA c mXu fu (pay1U c Zu v1) 32) (glueA (pay1U c Zu v1)) _ (accA_read c mXu _ _) rfl)); iexact HXu
  isplitl [HW]; · iexists _; iexact HW
  isplitl [HD2]; · iexact HD2
  isplitl [HU2]; · iexact HU2
  iexact HO

set_option backward.proofsInPublic true in
include hXB in
/-- The last block out, the first filter's partial sum and the first hop rounded. -/
theorem part12_run (v0 : Vec F S4096x16 .f32) (w5 w6 : BitVec 32) (h6 h5) (v100 c2 : BitVec 32) (hw5 : w5 = wd (32 - 1)) (hw6 : w6 = wd (32 % 32))
    (G : Buf (Elt F) (arg1.view.loc (c : Thread nD τ))) (Xd : Buf (Elt F) (mXd.view.loc (c : Thread nD τ))) (Xu : Buf (Elt F) (mXu.view.loc (c : Thread nD τ))) :
    iprop(pt c arg1 G ∗ pt c mXd Xd ∗ pt c mXu Xu ∗ (∃ f, pt c mP f) ∗ (∃ f, pt c mXdb f) ∗ (∃ W, owes (c : Thread nD τ) 0 W) ∗ outAt c Zu XB 32)
      ⊢ wpS c (k0_part12 arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11 v0 w5 w6 h6 h5 v100 c2)
        (fun r => iprop(⌜r = Xu⌝ ∗ pt c arg1 G ∗ pt c mXd Xd ∗ pt c mXu Xu
          ∗ pt c mP (k0_pay12 v0 (bank c arg1 G ![0, 0, 0] inb_S5x16x16_S1x16x16_0_0_0) Xd (bank c arg1 G ![1, 0, 0] inb_S5x16x16_S1x16x16_1_0_0) Xu (bank c arg1 G ![3, 0, 0] inb_S5x16x16_S1x16x16_3_0_0))
          ∗ pt c mXdb (k0_pay13 Xd) ∗ (∃ W, owes (c : Thread nD τ) 0 W) ∗ homesB c XB ∗ idleA c mSo cc0_scoped5)) := by
  subst hw5 hw6
  iintro ⟨HG, HXd, HXu, ⟨%f0, HP⟩, ⟨%f1, HXdb⟩, ⟨%W, HW⟩, HO⟩
  unfold outAt
  rw [outNow_pos c Zu (show 0 < 32 by decide)]
  icases HO with ⟨Hdone, Hpend, Hs0, Hc0, ⟨%fo, %go, %hgo, Hfl⟩⟩
  unfold wpS
  sl_unfold [k0_part12]
  sl_exec
  sl_step
  isplitr; · ipureintro; exact rd16_eq c mXu Xu
  isplitl [HG]; · iexact HG
  isplitl [HXd]; · iexact HXd
  isplitl [HXu]; · iexact HXu
  isplitl [HP]
  · iapply (entails_of_eq (pt_put c mP _ (k0_pay12 v0 (bank c arg1 G ![0, 0, 0] inb_S5x16x16_S1x16x16_0_0_0) Xd (bank c arg1 G ![1, 0, 0] inb_S5x16x16_S1x16x16_1_0_0) Xu (bank c arg1 G ![3, 0, 0] inb_S5x16x16_S1x16x16_3_0_0))
      (k0_pay12 v0 (bank c arg1 G ![0, 0, 0] inb_S5x16x16_S1x16x16_0_0_0) (rd16 c mXd Xd) (bank c arg1 G ![1, 0, 0] inb_S5x16x16_S1x16x16_1_0_0) (rd16 c mXu Xu) (bank c arg1 G ![3, 0, 0] inb_S5x16x16_S1x16x16_3_0_0))
      (by rw [show rd16 c mXd Xd = Xd from rd16_eq c mXd Xd, show rd16 c mXu Xu = Xu from rd16_eq c mXu Xu]; rfl)))
    iexact HP
  isplitl [HXdb]; · iapply (entails_of_eq (pt_put c mXdb _ (k0_pay13 Xd) (k0_pay13 (rd16 c mXd Xd)) (congrArg k0_pay13 (rd16_eq c mXd Xd).symm))); iexact HXdb
  isplitl [HW]; · iexists _; iexact HW
  ihave Hb := (landed_out c Zu XB hXB (Ring.bk 32 (32 - 1)) _ hgo fo) $$ Hfl_dst
  isplitl [Hdone Hb]
  · iapply (entails_of_eq (homesAB c XB))
    unfold homesA
    rw [← show Ring.rangeSet 32 0 (32 + 1 - 1) = (Finset.univ : Finset (Fin 32)) by decide, done_next c XB 32 (by decide) (by decide)]
    isplitl [Hb]; · iexact Hb
    iexact Hdone
  unfold idleA
  isplitl [Hs0]; · iexact Hs0
  isplitl [Hc0]; · iexact Hc0
  isplitl [Hfl_src]; · iexists _; iexact Hfl_src
  iexact Hfl
end First

section Whole
variable (Zl Zu : S4096x4096.Idx → Elt F .f32) (X : Buf (Elt F) (arg0.view.loc (c : Thread nD τ))) (G : Buf (Elt F) (arg1.view.loc (c : Thread nD τ)))
  (V : Buf (Elt F) (arg2.view.loc (c : Thread nD τ))) (Bv : Buf (Elt F) (arg3.view.loc (c : Thread nD τ)))

/-! ## The arrays the body leaves, in the order it fills them -/

/-- The features as loaded. -/
def vX : S4096x16.Idx → Elt F .f32 := rd16 c arg0 X
/-- The lower Laplacian, rounded. -/
def vLdb : S4096x4096.Idx → Elt F .bf16 := glueW (pay1L c Zl)
/-- The first filter's first hops. -/
def vXd : S4096x16.Idx → Elt F .f32 := glueA (pay1D c Zl (k0_pay11 (vX c arg0 X)))
def vXu : S4096x16.Idx → Elt F .f32 := glueA (pay1U c Zu (k0_pay11 (vX c arg0 X)))
/-- The first filter's partial sum. -/
def vP1 : S4096x16.Idx → Elt F .f32 :=
  k0_pay12 (vX c arg0 X) (bank c arg1 G ![0, 0, 0] inb_S5x16x16_S1x16x16_0_0_0) (vXd c arg0 Zl X) (bank c arg1 G ![1, 0, 0] inb_S5x16x16_S1x16x16_1_0_0) (vXu c arg0 Zu X) (bank c arg1 G ![3, 0, 0] inb_S5x16x16_S1x16x16_3_0_0)
/-- The first filter. -/
def vH : S4096x16.Idx → Elt F .f32 := glueB (pay2 c (xB Zu) arg1 (vLdb c Zl) (k0_pay13 (vXd c arg0 Zl X)) (k0_pay14 (vXu c arg0 Zu X)) (vP1 c arg0 arg1 Zl Zu X G) G)
/-- The second filter's first hops. -/
def vHd : S4096x16.Idx → Elt F .f32 := glueB (pay3D c (vLdb c Zl) (k0_pay15 (vH c arg0 arg1 Zl Zu X G)))
def vHu : S4096x16.Idx → Elt F .f32 := glueB (pay3U c (xB Zu) (k0_pay15 (vH c arg0 arg1 Zl Zu X G)))
/-- The bias row as loaded. -/
def vB : S1x16.Idx → Elt F .f32 := View.readAt (Elt F) arg3.view (Rect.unit (s := S1x16) ![0, 0] S1x16.size inb_S1x16_S1x16_0_0).toLoadRect Bv
/-- The second filter's partial sum. -/
def vP2 : S4096x16.Idx → Elt F .f32 :=
  k0_pay17 (k0_pay16 (vH c arg0 arg1 Zl Zu X G) (bank c arg2 V ![0, 0, 0] inb_S5x16x16_S1x16x16_0_0_0) (vHd c arg0 arg1 Zl Zu X G) (bank c arg2 V ![1, 0, 0] inb_S5x16x16_S1x16x16_1_0_0)
    (vHu c arg0 arg1 Zl Zu X G) (bank c arg2 V ![3, 0, 0] inb_S5x16x16_S1x16x16_3_0_0)) (vB c arg3 Bv)
/-- The output. -/
def vOut : S4096x16.Idx → Elt F .f32 :=
  glueB (pay4 c (xB Zu) arg2 (vLdb c Zl) (k0_pay19 (vHu c arg0 arg1 Zl Zu X G)) (k0_pay18 (vHd c arg0 arg1 Zl Zu X G)) (vP2 c arg0 arg1 arg2 arg3 Zl Zu X G V Bv) V)

/-- What the body holds besides its windows, the same before and after. -/
def rest : sProp 𝕄 :=
  iprop(homesA c mLd Zl ∗ homesA c mLu Zu ∗ (∃ f, pt (F := F) c mLub f) ∗ (∃ f, pt (F := F) c mLdb f) ∗ (∃ f, pt (F := F) c mXd f) ∗ (∃ f, pt (F := F) c mXu f)
    ∗ (∃ f, pt (F := F) c mH f) ∗ (∃ f, pt (F := F) c mHd f) ∗ (∃ f, pt (F := F) c mHu f) ∗ (∃ f, pt (F := F) c mP f) ∗ (∃ f, pt (F := F) c mXdb f) ∗ (∃ f, pt (F := F) c mXub f)
    ∗ idleA c mSd cc0_scoped1 ∗ idleA c mSu cc0_scoped3 ∗ idleA c mSo cc0_scoped5 ∗ idleB c mS1 cc0_scoped7 ∗ idleB c mS2 cc0_scoped9 ∗ idleB c mS3 cc0_scoped11)

/-- A part run, then the rest from what it leaves. -/
theorem step_run {α β : Type} {p : Prog (TpuEff nD τ sig (Elt F) Λ₀ .tc) α} {kk : α → Prog (TpuEff nD τ sig (Elt F) Λ₀ .tc) β} {P : sProp 𝕄} {Φ : α → sProp 𝕄} {Q : β → sProp 𝕄}
    (h : P ⊢ wpS c p Φ) : iprop(P ∗ (∀ r, Φ r -∗ wpS c (kk r) Q)) ⊢ wpS c (p >>= kk) Q := by
  unfold wpS at *
  rw [wp_bind]
  exact (BI.sep_mono_l h).trans (wp_wand_r _ _ _)

set_option backward.proofsInPublic true in
set_option maxHeartbeats 2000000 in
/-- The whole body. -/
theorem body_run (Q : PUnit → sProp 𝕄) :
    iprop((pt c arg0 X ∗ pt c arg1 G ∗ pt c arg2 V ∗ pt c arg3 Bv ∗ (∃ f, pt c arg6 f) ∗ (∃ W, owes (c : Thread nD τ) 0 W) ∗ rest c Zl Zu)
      ∗ ((pt c arg0 X ∗ pt c arg1 G ∗ pt c arg2 V ∗ pt c arg3 Bv ∗ (∃ f, pt c arg6 f ∗ ⌜arg6.view.read (Elt F) f = vOut c arg0 arg1 arg2 arg3 Zl Zu X G V Bv⌝)
          ∗ (∃ W, owes (c : Thread nD τ) 0 W) ∗ rest c Zl Zu) -∗ Q ⟨⟩))
      ⊢ wpS c (cc0__mega_body (F := F) arg0 harg0 arg1 harg1 arg2 harg2 arg3 harg3 mLd (Memref.isWhole_whole _) mLu (Memref.isWhole_whole _) arg6 harg6 mLub (Memref.isWhole_whole _) mLdb (Memref.isWhole_whole _) mXd (Memref.isWhole_whole _) mXu (Memref.isWhole_whole _) mH (Memref.isWhole_whole _) mHd (Memref.isWhole_whole _) mHu (Memref.isWhole_whole _) mP (Memref.isWhole_whole _) mXdb (Memref.isWhole_whole _) mXub (Memref.isWhole_whole _) mSd (Memref.isWhole_whole _) cc0_scoped1 mSu (Memref.isWhole_whole _) cc0_scoped3 mSo (Memref.isWhole_whole _) cc0_scoped5 mS1 (Memref.isWhole_whole _) cc0_scoped7 mS2 (Memref.isWhole_whole _) cc0_scoped9 mS3 (Memref.isWhole_whole _) cc0_scoped11) Q := by
  rw [cc0__mega_body_eq_skeleton]
  unfold cc0__mega_body_skel rest
  iintro ⟨⟨HX, HG, HV, HB, HO, HW, HLd, HLu, HLub, HLdb, HXd, HXu, HH, HHd, HHu, HP, HXdb, HXub, HId, HIu, HIo, HI1, HI2, HI3⟩, HK⟩
  iapply (step_run c (part10_run c arg0 harg0 arg1 harg1 arg2 harg2 arg3 harg3 arg6 harg6 Zl X))
  isplitl [HX HW HLd HId]
  · isplitl [HX]; · iexact HX
    isplitl [HW]; · iexact HW
    isplitl [HLd]; · iexact HLd
    iexact HId
  iintro %r ⟨%hr, HX, HW, HInd⟩
  obtain ⟨v0, v1, v86⟩ := r
  obtain ⟨e1, e2, e3⟩ := hr
  dsimp only at e1 e2 e3 ⊢
  subst e1 e2 e3
  iapply (step_run c (part11_run c arg0 harg0 arg1 harg1 arg2 harg2 arg3 harg3 arg6 harg6 (xB Zu) Zl Zu (xB_rows Zu) (k0_pay11 (vX c arg0 X))))
  isplitl [HLdb HXd HXu HW HInd HLu HIu HLub HIo]
  · isplitl [HLdb]; · iexact HLdb
    isplitl [HXd]; · iexact HXd
    isplitl [HXu]; · iexact HXu
    isplitl [HW]; · iexact HW
    isplitl [HInd]; · iexact HInd
    isplitl [HLu]; · iexact HLu
    isplitl [HIu]; · iexact HIu
    isplitl [HLub]; · iexact HLub
    iexact HIo
  iintro %r ⟨%hr, HLdb, HXd, HXu, HW, ⟨HLd, HId⟩, ⟨HLu, HIu⟩, HOut⟩
  obtain ⟨w5, w6, h6, h5, v100, c2⟩ := r
  obtain ⟨e5, e6⟩ := hr
  dsimp only at e5 e6 ⊢
  iapply (step_run c (part12_run c arg0 harg0 arg1 harg1 arg2 harg2 arg3 harg3 arg6 harg6 (xB Zu) Zu (xB_rows Zu) (vX c arg0 X) w5 w6 h6 h5 v100 c2 e5 e6 G (vXd c arg0 Zl X) (vXu c arg0 Zu X)))
  isplitl [HG HXd HXu HP HXdb HW HOut]
  · isplitl [HG]; · iexact HG
    isplitl [HXd]; · iexact HXd
    isplitl [HXu]; · iexact HXu
    isplitl [HP]; · iexact HP
    isplitl [HXdb]; · iexact HXdb
    isplitl [HW]; · iexact HW
    iexact HOut
  iintro %r ⟨%hr, HG, HXd, HXu, HP, HXdb, HW, HLub, HIo⟩
  subst hr
  iapply (step_run c (part13_run c arg0 harg0 arg1 harg1 arg2 harg2 arg3 harg3 arg6 harg6 (xB Zu) (vXu c arg0 Zu X) (vLdb c Zl) (k0_pay13 (vXd c arg0 Zl X)) (vP1 c arg0 arg1 Zl Zu X G) G))
  isplitl [HLdb HXdb HXub HP HG HH HW HLub HI1]
  · isplitl [HLdb]; · iexact HLdb
    isplitl [HXdb]; · iexact HXdb
    isplitl [HXub]; · iexact HXub
    isplitl [HP]; · iexact HP
    isplitl [HG]; · iexact HG
    isplitl [HH]; · iexact HH
    isplitl [HW]; · iexact HW
    isplitl [HLub]; · iexact HLub
    iexact HI1
  iintro %r2 ⟨HLdb, HXdb, HXub, HP, HG, HH, HW, HLub, HI1⟩
  iapply (step_run c (part14_run c arg0 harg0 arg1 harg1 arg2 harg2 arg3 harg3 arg6 harg6 r2 (vH c arg0 arg1 Zl Zu X G)))
  isplitl [HH HXdb HW]
  · isplitl [HH]; · iexact HH
    isplitl [HXdb]; · iexists _; iexact HXdb
    iexact HW
  iintro %r3 ⟨HH, HXdb, HW⟩
  obtain ⟨v67, c59⟩ := r3
  dsimp only
  iapply (step_run c (part15_run c arg0 harg0 arg1 harg1 arg2 harg2 arg3 harg3 arg6 harg6 (xB Zu) v67 c59 (vLdb c Zl) (k0_pay15 (vH c arg0 arg1 Zl Zu X G))))
  isplitl [HLdb HXdb HHd HHu HW HLub HI2]
  · isplitl [HLdb]; · iexact HLdb
    isplitl [HXdb]; · iexact HXdb
    isplitl [HHd]; · iexact HHd
    isplitl [HHu]; · iexact HHu
    isplitl [HW]; · iexact HW
    isplitl [HLub]; · iexact HLub
    iexact HI2
  iintro %r4 ⟨HLdb, HXdb, HHd, HHu, HW, HLub, HI2⟩
  obtain ⟨v90, v93, cm1⟩ := r4
  dsimp only
  iapply (step_run c (part16_run c arg0 harg0 arg1 harg1 arg2 harg2 arg3 harg3 arg6 harg6 v90 v93 cm1 (vH c arg0 arg1 Zl Zu X G) (vHd c arg0 arg1 Zl Zu X G) (vHu c arg0 arg1 Zl Zu X G) V Bv))
  isplitl [HH HHd HHu HV HB HW]
  · isplitl [HH]; · iexact HH
    isplitl [HHd]; · iexact HHd
    isplitl [HHu]; · iexact HHu
    isplitl [HV]; · iexact HV
    isplitl [HB]; · iexact HB
    iexact HW
  iintro %r5 ⟨%hr, HH, HHd, HHu, HV, HB, HW⟩
  obtain ⟨v46, v47⟩ := r5
  obtain ⟨e1, e2⟩ := hr
  dsimp only at e1 e2 ⊢
  subst e1 e2
  iapply (step_run c (part17_run c arg0 harg0 arg1 harg1 arg2 harg2 arg3 harg3 arg6 harg6 (k0_pay16 (vH c arg0 arg1 Zl Zu X G) (bank c arg2 V ![0, 0, 0] inb_S5x16x16_S1x16x16_0_0_0) (vHd c arg0 arg1 Zl Zu X G) (bank c arg2 V ![1, 0, 0] inb_S5x16x16_S1x16x16_1_0_0)
    (vHu c arg0 arg1 Zl Zu X G) (bank c arg2 V ![3, 0, 0] inb_S5x16x16_S1x16x16_3_0_0)) (vB c arg3 Bv) (vHd c arg0 arg1 Zl Zu X G) (vHu c arg0 arg1 Zl Zu X G)))
  isplitl [HP HHd HXub HHu HXdb HW]
  · isplitl [HP]; · iexists _; iexact HP
    isplitl [HHd]; · iexact HHd
    isplitl [HXub]; · iexists _; iexact HXub
    isplitl [HHu]; · iexact HHu
    isplitl [HXdb]; · iexists _; iexact HXdb
    iexact HW
  iintro %r6 ⟨HP, HHd, HXub, HHu, HXdb, HW⟩
  iapply (step_run c (part18_run c arg0 harg0 arg1 harg1 arg2 harg2 arg3 harg3 arg6 harg6 (xB Zu) r6 (vLdb c Zl) (k0_pay19 (vHu c arg0 arg1 Zl Zu X G)) (k0_pay18 (vHd c arg0 arg1 Zl Zu X G)) (vP2 c arg0 arg1 arg2 arg3 Zl Zu X G V Bv) V))
  isplitl [HLdb HXdb HXub HP HV HO HW HLub HI3]
  · isplitl [HLdb]; · iexact HLdb
    isplitl [HXdb]; · iexact HXdb
    isplitl [HXub]; · iexact HXub
    isplitl [HP]; · iexact HP
    isplitl [HV]; · iexact HV
    isplitl [HO]; · iexact HO
    isplitl [HW]; · iexact HW
    isplitl [HLub]; · iexact HLub
    iexact HI3
  iintro %r7 ⟨HLdb, HXdb, HXub, HP, HV, HO, HW, HLub, HI3⟩
  obtain ⟨a1, a2, a3⟩ := r7
  unfold wpS
  sl_step
  iapply HK
  isplitl [HX]; · iexact HX
  isplitl [HG]; · iexact HG
  isplitl [HV]; · iexact HV
  isplitl [HB]; · iexact HB
  isplitl [HO]; · iexact HO
  isplitl [HW]; · iexact HW
  isplitl [HLd]; · iexact HLd
  isplitl [HLu]; · iexact HLu
  isplitl [HLub]; · iexists (xB Zu); iapply (entails_of_eq (homesB_eq c (xB Zu)).symm); iexact HLub
  isplitl [HLdb]; · iexists _; iexact HLdb
  isplitl [HXd]; · iexists _; iexact HXd
  isplitl [HXu]; · iexists _; iexact HXu
  isplitl [HH]; · iexists _; iexact HH
  isplitl [HHd]; · iexists _; iexact HHd
  isplitl [HHu]; · iexists _; iexact HHu
  isplitl [HP]; · iexists _; iexact HP
  isplitl [HXdb]; · iexists _; iexact HXdb
  isplitl [HXub]; · iexists _; iexact HXub
  isplitl [HId]; · iexact HId
  isplitl [HIu]; · iexact HIu
  isplitl [HIo]; · iexact HIo
  isplitl [HI1]; · iexact HI1
  isplitl [HI2]; · iexact HI2
  iexact HI3
end Whole

end Stages

end Cert.KernelIdeal.Hand

end
-- ==== Proof.Ideal.Run.lean ====
/-
  The launch: what the pipeline holds beside its windows is what the body holds besides them, so the body's run is the
  pipeline's obligation; then the whole program's run, its output array what the body leaves in the output's buffer,
  every argument as launched.
-/
module

public import proofs.«01_k».proof.Proof.Ideal.Body
public import Idealize.ShloMosaic.Lib.Pipeline.TableIdle

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline holds beside its windows -/

/-- The operands in HBM the body reads itself: the two Laplacians. -/
def H0 : Finset (Ref sig .tc) := {main_arg1, main_arg2}
/-- The result in HBM the body writes itself: the upper Laplacian's rounded copy. -/
def R0 : Finset (Ref sig .tc) := {main_v4_1}
theorem H0_sub : H0 ⊆ Pipeline.restRefs sig spec0 := by decide
theorem R0_sub : R0 ⊆ Pipeline.restRefs sig spec0 \ H0 := by decide

/-- The body's own semaphore cells: two to each ring. -/
abbrev osem0 : Fin 12 → SemLoc sig := fun j => (![SemLoc.dma (cell cc0_scoped1 0).sem, SemLoc.dma (cell cc0_scoped1 1).sem, SemLoc.dma (cell cc0_scoped3 0).sem, SemLoc.dma (cell cc0_scoped3 1).sem, SemLoc.dma (cell cc0_scoped5 0).sem, SemLoc.dma (cell cc0_scoped5 1).sem, SemLoc.dma (cell cc0_scoped7 0).sem, SemLoc.dma (cell cc0_scoped7 1).sem, SemLoc.dma (cell cc0_scoped9 0).sem, SemLoc.dma (cell cc0_scoped9 1).sem, SemLoc.dma (cell cc0_scoped11 0).sem, SemLoc.dma (cell cc0_scoped11 1).sem] : Fin 12 → SemLoc sig) j
theorem ownSemFacts0 : Pipeline.OwnSemFacts spec0 osem0 := by decide

theorem own_eq (c : Dev nD) :
    (Pipeline.ownSems0 (Ix := Unit) (Name := ℕ) (U := UU) (Lvl := ℕ) (Val := Elt F) (τ := τ) osem0 c : sProp 𝕄)
      = iprop(cellP c cc0_scoped1 0 ∗ cellP c cc0_scoped1 1 ∗ cellP c cc0_scoped3 0 ∗ cellP c cc0_scoped3 1 ∗ cellP c cc0_scoped5 0 ∗ cellP c cc0_scoped5 1 ∗ cellP c cc0_scoped7 0 ∗ cellP c cc0_scoped7 1 ∗ cellP c cc0_scoped9 0 ∗ cellP c cc0_scoped9 1 ∗ cellP c cc0_scoped11 0 ∗ cellP c cc0_scoped11 1) := by
  rw [Pipeline.ownSems0_eq_of_list c osem0 [0, 1, 2, 3, 4, 5, 6, 7, 8, 9, 10, 11] (by decide) (by decide)]; rfl

/-- A whole buffer held, however it is spelt. -/
theorem pt_whole (c : Dev nD) (b : Ref sig .tc) (f : Buf (Elt F) ((c : Thread nD τ).loc b)) :
    (((c : Thread nD τ).loc b) ↦{fullShare} f : sProp 𝕄) = pt c (Memref.whole b) f := by
  unfold pt
  rw [show (Memref.whole b).view.set = Finset.univ from View.set_whole b]

theorem ex_whole (c : Dev nD) (b : Ref sig .tc) :
    (iprop(∃ f : Buf (Elt F) ((c : Thread nD τ).loc b), ((c : Thread nD τ).loc b) ↦{fullShare} f) : sProp 𝕄) = iprop(∃ f, pt (F := F) c (Memref.whole b) f) :=
  congrArg _ (funext fun f => pt_whole c b f)

theorem hbm_eq (c : Dev nD) :
    (bigSep H0 (fun b => ((c : Thread nD τ).loc b) ↦{fullShare} V m c b) : sProp 𝕄)
      = iprop(pt c mLd (V m c main_arg1) ∗ pt c mLu (V m c main_arg2)) := by
  rw [BI.bigSep_eq_bigSepL_of_eq [main_arg1, main_arg2] (by decide) (by decide)]
  exact congrArg₂ _ (pt_whole c main_arg1 _) (pt_whole c main_arg2 _)

theorem owned_eq (c : Dev nD) : (Pipeline.owned R0 c : sProp 𝕄) = iprop(∃ f, pt (F := F) c mLub f) := by
  unfold Pipeline.owned
  rw [BI.bigSep_eq_bigSepL_of_eq [main_v4_1] (by decide) (by decide)]
  exact ex_whole c main_v4_1

theorem scoped_eq (c : Dev nD) :
    (Pipeline.scopedRest (Ix := Unit) (Name := ℕ) (U := UU) (Lvl := ℕ) (Val := Elt F) spec0 c : sProp 𝕄)
      = iprop((∃ f, pt (F := F) c mLdb f) ∗ (∃ f, pt (F := F) c mXd f) ∗ (∃ f, pt (F := F) c mXu f) ∗ (∃ f, pt (F := F) c mH f) ∗ (∃ f, pt (F := F) c mHd f) ∗ (∃ f, pt (F := F) c mHu f) ∗ (∃ f, pt (F := F) c mP f) ∗ (∃ f, pt (F := F) c mXdb f) ∗ (∃ f, pt (F := F) c mXub f) ∗ (∃ f, pt (F := F) c mSd f) ∗ (∃ f, pt (F := F) c mSu f) ∗ (∃ f, pt (F := F) c mSo f) ∗ (∃ f, pt (F := F) c mS1 f) ∗ (∃ f, pt (F := F) c mS2 f) ∗ (∃ f, pt (F := F) c mS3 f)) := by
  rw [scopedRest0_eq]
  exact congrArg₂ _ (ex_whole c cc0_scratch0) (congrArg₂ _ (ex_whole c cc0_scratch1) (congrArg₂ _ (ex_whole c cc0_scratch2) (congrArg₂ _ (ex_whole c cc0_scratch3) (congrArg₂ _ (ex_whole c cc0_scratch4) (congrArg₂ _ (ex_whole c cc0_scratch5) (congrArg₂ _ (ex_whole c cc0_scratch6) (congrArg₂ _ (ex_whole c cc0_scratch7) (congrArg₂ _ (ex_whole c cc0_scratch8) (congrArg₂ _ (ex_whole c cc0_scoped0) (congrArg₂ _ (ex_whole c cc0_scoped2) (congrArg₂ _ (ex_whole c cc0_scoped4) (congrArg₂ _ (ex_whole c cc0_scoped6) (congrArg₂ _ (ex_whole c cc0_scoped8) (ex_whole c cc0_scoped10))))))))))))))

/-- The body's holdings from the pipeline's. -/
theorem rest_of (c : Dev nD) :
    (Pipeline.ΦDR osem0 spec0 H0 R0 (V m) c : sProp 𝕄) ⊢ iprop((∃ r, prngReg c r) ∗ rest c (V m c main_arg1) (V m c main_arg2)) := by
  rw [Pipeline.ΦDR_eq, scoped_eq, own_eq, hbm_eq, owned_eq, homesA_eq, homesA_eq]
  unfold rest
  iintro ⟨⟨HS0, HS1, HS2, HS3, HS4, HS5, HS6, HS7, HS8, HS9, HS10, HS11, HS12, HS13, HS14⟩, Hg, ⟨HC0, HC1, HC2, HC3, HC4, HC5, HC6, HC7, HC8, HC9, HC10, HC11⟩, ⟨HLd, HLu⟩, HLub⟩
  isplitl [Hg]; · iexact Hg
  isplitl [HLd]; · iexact HLd
  isplitl [HLu]; · iexact HLu
  isplitl [HLub]; · iexact HLub
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9 HC0 HC1]
  · iapply (idleA_split c mSd cc0_scoped1)
    isplitl [HS9]; · iexact HS9
    isplitl [HC0]; · iexact HC0
    iexact HC1
  isplitl [HS10 HC2 HC3]
  · iapply (idleA_split c mSu cc0_scoped3)
    isplitl [HS10]; · iexact HS10
    isplitl [HC2]; · iexact HC2
    iexact HC3
  isplitl [HS11 HC4 HC5]
  · iapply (idleA_split c mSo cc0_scoped5)
    isplitl [HS11]; · iexact HS11
    isplitl [HC4]; · iexact HC4
    iexact HC5
  isplitl [HS12 HC6 HC7]
  · iapply (idleB_split c mS1 cc0_scoped7)
    isplitl [HS12]; · iexact HS12
    isplitl [HC6]; · iexact HC6
    iexact HC7
  isplitl [HS13 HC8 HC9]
  · iapply (idleB_split c mS2 cc0_scoped9)
    isplitl [HS13]; · iexact HS13
    isplitl [HC8]; · iexact HC8
    iexact HC9
  iapply (idleB_split c mS3 cc0_scoped11)
  isplitl [HS14]; · iexact HS14
  isplitl [HC10]; · iexact HC10
  iexact HC11

/-- And back. -/
theorem of_rest (c : Dev nD) :
    iprop((∃ r, prngReg c r) ∗ rest c (V m c main_arg1) (V m c main_arg2)) ⊢ (Pipeline.ΦDR osem0 spec0 H0 R0 (V m) c : sProp 𝕄) := by
  rw [Pipeline.ΦDR_eq, scoped_eq, own_eq, hbm_eq, owned_eq, homesA_eq, homesA_eq]
  unfold rest
  iintro ⟨Hg, HLd, HLu, HLub, HS0, HS1, HS2, HS3, HS4, HS5, HS6, HS7, HS8, HI0, HI1, HI2, HI3, HI4, HI5⟩
  ihave HJ0 := (idleA_join c mSd cc0_scoped1) $$ HI0
  icases HJ0 with ⟨HS9, HC0, HC1⟩
  ihave HJ1 := (idleA_join c mSu cc0_scoped3) $$ HI1
  icases HJ1 with ⟨HS10, HC2, HC3⟩
  ihave HJ2 := (idleA_join c mSo cc0_scoped5) $$ HI2
  icases HJ2 with ⟨HS11, HC4, HC5⟩
  ihave HJ3 := (idleB_join c mS1 cc0_scoped7) $$ HI3
  icases HJ3 with ⟨HS12, HC6, HC7⟩
  ihave HJ4 := (idleB_join c mS2 cc0_scoped9) $$ HI4
  icases HJ4 with ⟨HS13, HC8, HC9⟩
  ihave HJ5 := (idleB_join c mS3 cc0_scoped11) $$ HI5
  icases HJ5 with ⟨HS14, HC10, HC11⟩
  isplitl [HS0 HS1 HS2 HS3 HS4 HS5 HS6 HS7 HS8 HS9 HS10 HS11 HS12 HS13 HS14]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    iexact HS14
  isplitl [Hg]; · iexact Hg
  isplitl [HC0 HC1 HC2 HC3 HC4 HC5 HC6 HC7 HC8 HC9 HC10 HC11]
  · isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    isplitl [HC7]; · iexact HC7
    isplitl [HC8]; · iexact HC8
    isplitl [HC9]; · iexact HC9
    isplitl [HC10]; · iexact HC10
    iexact HC11
  isplitl [HLd HLu]
  · isplitl [HLd]; · iexact HLd
    iexact HLu
  iexact HLub

/-! ## The proof data and the body's obligation -/

/-- What the body leaves in the output's buffer: the body's function of what the region finds. -/
def outBlk (c : Dev nD) (t : Fin cfg0.N) : S4096x16.Idx → Elt F .f32 :=
  vOut c (st0_0 t) (st0_1 t) (st0_2 t) (st0_3 t) (V m c main_arg1) (V m c main_arg2) ((st0_0 t).view.rep (iblk m c 0 t)) ((st0_1 t).view.rep (iblk m c 1 t))
    ((st0_2 t).view.rep (iblk m c 2 t)) ((st0_3 t).view.rep (iblk m c 3 t))

/-- The pipeline's proof data on core `c`: inputs left in place, the output at `outBlk`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := by
  unfold Dat.before
  rw [if_pos (fetch0_0 t)]
  unfold Dat.fetched Dat.blockOf iblk
  dsimp only [dats]; rfl
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := by
  unfold Dat.before
  rw [if_pos (fetch0_1 t)]
  unfold Dat.fetched Dat.blockOf iblk
  dsimp only [dats]; rfl
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := by
  unfold Dat.before
  rw [if_pos (fetch0_2 t)]
  unfold Dat.fetched Dat.blockOf iblk
  dsimp only [dats]; rfl
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := by
  unfold Dat.before
  rw [if_pos (fetch0_3 t)]
  unfold Dat.fetched Dat.blockOf iblk
  dsimp only [dats]; rfl
theorem after_4 (c : Dev nD) (t : Fin cfg0.N) : (dats m 0 c).after 4 t = outBlk m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- An input's buffer as the body's run holds it. -/
theorem owns_pt (c : Dev nD) {s : Shape} {e : EltTy} (M : Memref sig .tc .vmem s e) (X : s.Idx → Elt F e) :
    (owns (c : Thread nD τ) M fullShare X : sProp 𝕄) = pt c M (M.view.rep X) := owns_eq_rep (c : Thread nD τ) M fullShare X

/-- The body at any point, from the windows' blocks to the output's. -/
theorem sound_body (c : Dev nD) (t : Fin cfg0.N) : bodyPre m c t ⊢ wpS c (bodyAt0 t) (fun _ => bodyPost m c t) := by
  unfold bodyPre bodyPost bodyAt0
  rw [show (dats m 0 c).Φ t.succ = (dats m 0 c).Φ t.castSucc from rfl, after_0, after_1, after_2, after_3, after_4]
  rw [show (dats m 0 c).Φ t.castSucc = Pipeline.ΦDR osem0 spec0 H0 R0 (V m) c from rfl]
  unfold Dat.owesAt Pipeline.owesWithin
  rw [show (dats m 0 c).owed t.castSucc = 0 from rfl, show (dats m 0 c).owed t.succ = 0 from rfl]
  simp only [before_0, before_1, before_2, before_3, owns_pt]
  iintro ⟨HΦ, ⟨%W, -, HW⟩, ⟨%d0, H0⟩, ⟨%d1, H1⟩, ⟨%d2, H2⟩, ⟨%d3, H3⟩, ⟨%d4, H4⟩⟩
  ihave HR := (rest_of m c) $$ HΦ
  icases HR with ⟨Hg, HR⟩
  iapply (body_run c (st0_0 t) (hstage0_0 0) (st0_1 t) (hstage0_1 0) (st0_2 t) (hstage0_2 0) (st0_3 t) (hstage0_3 0) (st0_4 t) (hstage0_4 0) (V m c main_arg1) (V m c main_arg2)
    ((st0_0 t).view.rep (iblk m c 0 t)) ((st0_1 t).view.rep (iblk m c 1 t)) ((st0_2 t).view.rep (iblk m c 2 t)) ((st0_3 t).view.rep (iblk m c 3 t)))
  isplitl [H0 H1 H2 H3 H4 HW HR]
  · isplitl [H0]; · iexact H0
    isplitl [H1]; · iexact H1
    isplitl [H2]; · iexact H2
    isplitl [H3]; · iexact H3
    isplitl [H4]; · iexists _; iexact H4
    isplitl [HW]; · iexists W; iexact HW
    iexact HR
  iintro ⟨H0, H1, H2, H3, ⟨%f, H4, %hf⟩, ⟨%W', HW'⟩, HR⟩
  isplitl [Hg HR]
  · iapply (of_rest m c)
    isplitl [Hg]; · iexact Hg
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iapply (pointsTo_rep_of_read (c : Thread nD τ) (st0_4 t) f fullShare (outBlk m c t) hf)
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option maxHeartbeats 800000 in
/-- The program up to the region. -/
theorem main_region : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V := V m) (hmain := main_region m) (hA := A_eq m) (hin := fun _ => .rfl) (hout := fun _ => .rfl)

/-- Every weakening of the run: the output array as left by its one block, the arguments as launched. -/
theorem run_out : θ_run defs (onTc (τ := τ) (main (F := F))) ⟨m, fun _ => 0, ρ⟩ (fun r => (∀ c : Dev nD,
      r.2.mem ((c.tc : Thread nD τ).loc main_v4_0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1 c).1 4,
      ((h.1 c).1 0).trans (((dats m 0 c).arrAt_in 0 rfl _).trans ((A_eq m c 0).trans (V_main_arg0 m c))),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c)⟩, h.2⟩) (run_main m ρ)

/-- The frame, every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => (h.1 c).2, h.2⟩) (run_out m ρ)

end Cert.KernelIdeal.Hand

end
-- ==== Proof.Ideal.Filter.lean ====
/-
  The mathematics of the two filters, apart from any program: hops along a Laplacian, channel mixing, a filter of five
  terms; and the one fact the kernel's second filter rests on, that mixing a filter's output by a matrix is the filter
  whose own matrices are multiplied by it. Over the reals that is distributivity; over the extended reals it needs every
  entry finite, which is the claim's precondition.
-/
module

public import Idealize.ShloMosaic.PureOps.Ideal.Laws

@[expose] public section

noncomputable section

namespace Cert.Filter

/-- One hop: a Laplacian applied to the features. -/
def hop {R : Type} [AddCommMonoid R] [Mul R] (L : Fin 4096 → Fin 4096 → R) (y : Fin 4096 → Fin 16 → R) : Fin 4096 → Fin 16 → R :=
  fun n o => ∑ k, L n k * y k o

/-- Channel mixing: the features times a matrix. -/
def mix {R : Type} [AddCommMonoid R] [Mul R] (y : Fin 4096 → Fin 16 → R) (M : Fin 16 → Fin 16 → R) : Fin 4096 → Fin 16 → R :=
  fun n o => ∑ i, y n i * M i o

/-- A filter: the features, one and two hops down, one and two hops up, each mixed by its own matrix. -/
def filter {R : Type} [AddCommMonoid R] [Mul R] (Ld Lu : Fin 4096 → Fin 4096 → R) (y : Fin 4096 → Fin 16 → R) (W : Fin 5 → Fin 16 → Fin 16 → R) :
    Fin 4096 → Fin 16 → R :=
  fun n o => mix y (W 0) n o + mix (hop Ld y) (W 1) n o + mix (hop Ld (hop Ld y)) (W 2) n o + mix (hop Lu y) (W 3) n o + mix (hop Lu (hop Lu y)) (W 4) n o

/-- A filter's matrices times one more matrix. -/
def fold {R : Type} [AddCommMonoid R] [Mul R] (W : Fin 5 → Fin 16 → Fin 16 → R) (M : Fin 16 → Fin 16 → R) : Fin 5 → Fin 16 → Fin 16 → R :=
  fun k i o => ∑ p, M p o * W k i p

/-! ## Over the reals -/

theorem mix_mix (y : Fin 4096 → Fin 16 → ℝ) (W : Fin 5 → Fin 16 → Fin 16 → ℝ) (M : Fin 16 → Fin 16 → ℝ) (k : Fin 5) (n : Fin 4096) (o : Fin 16) :
    ∑ p, mix y (W k) n p * M p o = mix y (fold W M k) n o := by
  simp only [mix, fold, Finset.sum_mul, Finset.mul_sum]
  rw [Finset.sum_comm]
  exact Finset.sum_congr rfl fun i _ => Finset.sum_congr rfl fun p _ => by ring

/-- Mixing a filter's output is filtering with the mixed matrices. -/
theorem mix_filter (Ld Lu : Fin 4096 → Fin 4096 → ℝ) (y : Fin 4096 → Fin 16 → ℝ) (W : Fin 5 → Fin 16 → Fin 16 → ℝ) (M : Fin 16 → Fin 16 → ℝ) :
    mix (filter Ld Lu y W) M = filter Ld Lu y (fold W M) := by
  funext n o
  simp only [filter, ← mix_mix]
  rw [mix]
  simp only [filter, add_mul, Finset.sum_add_distrib]

/-! ## Finite extended reals are reals -/

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array of reals, read in the extended reals. -/
abbrev up {ι κ : Type} (y : ι → κ → ℝ) : ι → κ → EReal := fun i j => (y i j : EReal)

theorem hop_up (L : Fin 4096 → Fin 4096 → ℝ) (y : Fin 4096 → Fin 16 → ℝ) : hop (up L) (up y) = up (hop L y) := by
  funext n o; simp only [hop, up, coe_sum, EReal.coe_mul]

theorem mix_up (y : Fin 4096 → Fin 16 → ℝ) (M : Fin 16 → Fin 16 → ℝ) : mix (up y) (up M) = up (mix y M) := by
  funext n o; simp only [mix, up, coe_sum, EReal.coe_mul]

theorem filter_up (Ld Lu : Fin 4096 → Fin 4096 → ℝ) (y : Fin 4096 → Fin 16 → ℝ) (W : Fin 5 → Fin 16 → Fin 16 → ℝ) :
    filter (up Ld) (up Lu) (up y) (fun k => up (W k)) = up (filter Ld Lu y W) := by
  funext n o
  simp only [filter, hop_up, mix_up, up, EReal.coe_add]

theorem fold_up (W : Fin 5 → Fin 16 → Fin 16 → ℝ) (M : Fin 16 → Fin 16 → ℝ) : fold (fun k => up (W k)) (up M) = fun k => up (fold W M k) := by
  funext k i o; simp only [fold, up, coe_sum, EReal.coe_mul]

/-- An array whose entries are all finite is an array of reals. -/
theorem exists_up {ι κ : Type} (y : ι → κ → EReal) (h : ∀ i j, y i j ≠ ⊤ ∧ y i j ≠ ⊥) : ∃ r : ι → κ → ℝ, y = up r :=
  ⟨fun i j => (y i j).toReal, funext fun i => funext fun j => (EReal.coe_toReal (h i j).1 (h i j).2).symm⟩

/-- Over the extended reals, entries finite: the second filter's output, mixed, is the filter with the mixed matrices. -/
theorem mix_filter_of_finite (Ld Lu : Fin 4096 → Fin 4096 → EReal) (x : Fin 4096 → Fin 16 → EReal) (W1 W2 : Fin 5 → Fin 16 → Fin 16 → EReal) (M : Fin 16 → Fin 16 → EReal)
    (hLd : ∀ i j, Ld i j ≠ ⊤ ∧ Ld i j ≠ ⊥) (hLu : ∀ i j, Lu i j ≠ ⊤ ∧ Lu i j ≠ ⊥) (hx : ∀ i j, x i j ≠ ⊤ ∧ x i j ≠ ⊥)
    (hW1 : ∀ k i j, W1 k i j ≠ ⊤ ∧ W1 k i j ≠ ⊥) (hW2 : ∀ k i j, W2 k i j ≠ ⊤ ∧ W2 k i j ≠ ⊥) (hM : ∀ i j, M i j ≠ ⊤ ∧ M i j ≠ ⊥) :
    mix (filter Ld Lu (filter Ld Lu x W1) W2) M = filter Ld Lu (filter Ld Lu x W1) (fold W2 M) := by
  obtain ⟨ld, rfl⟩ := exists_up Ld hLd
  obtain ⟨lu, rfl⟩ := exists_up Lu hLu
  obtain ⟨y, rfl⟩ := exists_up x hx
  obtain ⟨m, rfl⟩ := exists_up M hM
  choose w1 hw1 using fun k => exists_up (W1 k) (hW1 k)
  choose w2 hw2 using fun k => exists_up (W2 k) (hW2 k)
  obtain rfl : W1 = fun k => up (w1 k) := funext hw1
  obtain rfl : W2 = fun k => up (w2 k) := funext hw2
  rw [fold_up, filter_up, filter_up, filter_up, mix_up, mix_filter]

end Cert.Filter

end
-- ==== Proof.Ideal.Value.lean ====
/-
  What the kernel leaves in its output, over the extended reals: two filters, the second with the weights it is handed,
  and the bias. Every row block's matrix product is one element's sum, wherever the block lies.
-/
module

public import proofs.«01_k».proof.Proof.Ideal.Run
public import proofs.«01_k».proof.Proof.Ideal.Filter
public import Idealize.ShloMosaic.Lib.Pointwise

@[expose] public section

set_option maxRecDepth 16384

noncomputable section

namespace Cert.KernelIdeal.Hand

open Cert.KernelIdeal Cert.KernelIdeal.Gen Cert.Filter
open Idealize.ShloMosaic
open Idealize.ShloMosaic.TcCoe

/-! ## Arrays by rows and columns -/

/-- An array's entry by row and column. -/
abbrev m2 {a b : ℕ} (X : Shape.Idx (⟨2, ![a, b]⟩ : Shape) → EReal) : Fin a → Fin b → EReal := fun n o => X (ix2 n o)
/-- One matrix of a bank of five. -/
abbrev m3 (G : S5x16x16.Idx → EReal) : Fin 5 → Fin 16 → Fin 16 → EReal := fun k i o => G (ix3 k i o)

/-- Two arrays with the same entries are the same. -/
theorem m2_inj {a b : ℕ} {X Y : Shape.Idx (⟨2, ![a, b]⟩ : Shape) → EReal} (h : m2 X = m2 Y) : X = Y := by
  funext i
  rw [eq_ix2 i]
  exact congrFun (congrFun h (i 0)) (i 1)

/-! ## A row of an array is a row of one of its blocks -/

/-- An entry of an array glued from blocks of 512 rows. -/
theorem glueB_at {e : EltTy} (pay : Fin 8 → S512x16.Idx → Elt Ideal e) (f : Fin 4096 → Fin 16 → Elt Ideal e)
    (h : ∀ b r o, pay b (ix2 r o) = f ⟨512 * b.val + r.val, by omega⟩ o) (n : Fin 4096) (o : Fin 16) : glueB pay (ix2 n o) = f n o := by
  refine (h ⟨n.val / 512, by omega⟩ ⟨n.val % 512, by omega⟩ o).trans ?_
  congr 1
  exact Fin.ext (Nat.div_add_mod n.val 512)

theorem glueA_at {e : EltTy} (pay : Fin 32 → S128x16.Idx → Elt Ideal e) (f : Fin 4096 → Fin 16 → Elt Ideal e)
    (h : ∀ b r o, pay b (ix2 r o) = f ⟨128 * b.val + r.val, by omega⟩ o) (n : Fin 4096) (o : Fin 16) : glueA pay (ix2 n o) = f n o := by
  refine (h ⟨n.val / 128, by omega⟩ ⟨n.val % 128, by omega⟩ o).trans ?_
  congr 1
  exact Fin.ext (Nat.div_add_mod n.val 128)

theorem glueW_at {e : EltTy} (pay : Fin 32 → S128x4096.Idx → Elt Ideal e) (f : Fin 4096 → Fin 4096 → Elt Ideal e)
    (h : ∀ b r o, pay b (ix2 r o) = f ⟨128 * b.val + r.val, by omega⟩ o) (n : Fin 4096) (o : Fin 4096) : glueW pay (ix2 n o) = f n o := by
  refine (h ⟨n.val / 128, by omega⟩ ⟨n.val % 128, by omega⟩ o).trans ?_
  congr 1
  exact Fin.ext (Nat.div_add_mod n.val 128)

theorem rdA_at {e : EltTy} (Z : S4096x4096.Idx → Elt Ideal e) (b : Fin 32) (r : Fin 128) (k : Fin 4096) :
    rdA Z b (ix2 r k) = Z (ix2 ⟨128 * b.val + r.val, by omega⟩ k) :=
  congrArg Z (funext fun a => match a with
    | ⟨0, _⟩ => Fin.ext (show 128 * b.val + 1 * r.val = 128 * b.val + r.val by omega)
    | ⟨1, _⟩ => Fin.ext (show 0 + 1 * k.val = k.val by omega))

theorem rdB_at (Z : S4096x4096.Idx → Elt Ideal .bf16) (b : Fin 8) (r : Fin 512) (k : Fin 4096) :
    rdB Z b (ix2 r k) = Z (ix2 ⟨512 * b.val + r.val, by omega⟩ k) :=
  congrArg Z (funext fun a => match a with
    | ⟨0, _⟩ => Fin.ext (show 512 * b.val + 1 * r.val = 512 * b.val + r.val by omega)
    | ⟨1, _⟩ => Fin.ext (show 0 + 1 * k.val = k.val by omega))

theorem rdB'_at (Z : S4096x16.Idx → Elt Ideal .f32) (b : Fin 8) (r : Fin 512) (k : Fin 16) :
    rdB' Z b (ix2 r k) = Z (ix2 ⟨512 * b.val + r.val, by omega⟩ k) :=
  congrArg Z (funext fun a => match a with
    | ⟨0, _⟩ => Fin.ext (show 512 * b.val + 1 * r.val = 512 * b.val + r.val by omega)
    | ⟨1, _⟩ => Fin.ext (show 0 + 1 * k.val = k.val by omega))

/-! ## What each pass computes of a block, entry by entry -/

section Blocks
variable (c : Dev nD)

/-- The lower Laplacian's rounded copy is the Laplacian. -/
theorem ldb_at (Zl : S4096x4096.Idx → EReal) : m2 (vLdb (F := Ideal) c Zl) = m2 Zl := by
  funext n k
  refine glueW_at (e := .bf16) _ (m2 Zl) (fun b r k => ?_) n k
  unfold pay1L inA
  pointwise [k0_pay5, k0_pay1]
  exact rdA_at (e := .f32) Zl b r k

/-- And the upper's, which goes by way of the slots. -/
theorem lub_at (Zu : S4096x4096.Idx → EReal) : m2 (xB (F := Ideal) Zu) = m2 Zu := by
  funext n k
  refine glueW_at (e := .bf16) _ (m2 Zu) (fun b r k => ?_) n k
  unfold outRows inA
  pointwise [k0_pay6, k0_pay2]
  exact rdA_at (e := .f32) Zu b r k

/-- A scratch array loaded whole is the array. -/
theorem rd16_d (Z : S4096x16.Idx → EReal) : rd16 (F := Ideal) c mXdb Z = Z := rd16_eq (F := Ideal) c mXdb Z
theorem rd16_u (Z : S4096x16.Idx → EReal) : rd16 (F := Ideal) c mXub Z = Z := rd16_eq (F := Ideal) c mXub Z

/-- A first pass's hop. -/
theorem hop1D (Zl : S4096x4096.Idx → EReal) (y : S4096x16.Idx → EReal) : m2 (glueA (F := Ideal) (e := .f32) (pay1D c Zl y)) = hop (m2 Zl) (m2 y) := by
  funext n o
  refine glueA_at (e := .f32) _ (hop (m2 Zl) (m2 y)) (fun b r o => ?_) n o
  unfold pay1D inA
  pointwise [k0_pay3, k0_pay1]
  exact Finset.sum_congr rfl fun k _ => congrArg (· * y (ix2 k o)) (rdA_at (e := .f32) Zl b r k)
theorem hop1U (Zu : S4096x4096.Idx → EReal) (y : S4096x16.Idx → EReal) : m2 (glueA (F := Ideal) (e := .f32) (pay1U c Zu y)) = hop (m2 Zu) (m2 y) := by
  funext n o
  refine glueA_at (e := .f32) _ (hop (m2 Zu) (m2 y)) (fun b r o => ?_) n o
  unfold pay1U inA
  pointwise [k0_pay4, k0_pay2]
  exact Finset.sum_congr rfl fun k _ => congrArg (· * y (ix2 k o)) (rdA_at (e := .f32) Zu b r k)

/-- A later pass's hop. -/
theorem hop3D (Zd : S4096x4096.Idx → EReal) (y : S4096x16.Idx → EReal) : m2 (glueB (F := Ideal) (e := .f32) (pay3D c Zd y)) = hop (m2 Zd) (m2 y) := by
  funext n o
  refine glueB_at (e := .f32) _ (hop (m2 Zd) (m2 y)) (fun b r o => ?_) n o
  unfold pay3D
  rw [rd16_d]
  pointwise [k0_pay8]
  exact Finset.sum_congr rfl fun k _ => congrArg (· * y (ix2 k o)) (rdB_at Zd b r k)
theorem hop3U (Zu : S4096x4096.Idx → EReal) (y : S4096x16.Idx → EReal) : m2 (glueB (F := Ideal) (e := .f32) (pay3U c Zu y)) = hop (m2 Zu) (m2 y) := by
  funext n o
  refine glueB_at (e := .f32) _ (hop (m2 Zu) (m2 y)) (fun b r o => ?_) n o
  unfold pay3U inB
  rw [rd16_d]
  pointwise [k0_pay9]
  exact Finset.sum_congr rfl fun k _ => congrArg (· * y (ix2 k o)) (rdB_at Zu b r k)

/-- Rounding to the narrower format changes no extended real. -/
theorem round13 (y : FVec Ideal S4096x16 .f32) : k0_pay13 (F := Ideal) y = y := by
  funext i; idx_vars i; pointwise [k0_pay13]
theorem round14 (y : FVec Ideal S4096x16 .f32) : k0_pay14 (F := Ideal) y = y := by
  funext i; idx_vars i; pointwise [k0_pay14]
theorem round15 (y : FVec Ideal S4096x16 .f32) : k0_pay15 (F := Ideal) y = y := by
  funext i; idx_vars i; pointwise [k0_pay15]
theorem round18 (y : FVec Ideal S4096x16 .f32) : k0_pay18 (F := Ideal) y = y := by
  funext i; idx_vars i; pointwise [k0_pay18]
theorem round19 (y : FVec Ideal S4096x16 .f32) : k0_pay19 (F := Ideal) y = y := by
  funext i; idx_vars i; pointwise [k0_pay19]

variable (M : Memref sig .tc .vmem S5x16x16 .f32) (G : Buf (Elt Ideal) (M.view.loc (c : Thread nD τ)))

/-- A filter bank's matrices, as the buffer holds them. -/
abbrev mats : Fin 5 → Fin 16 → Fin 16 → EReal := m3 (M.view.read (Elt Ideal) G)

/-- One of them, as the body loads it. -/
theorem bank_at (k : Fin 5) (h) (i o : Fin 16) : bank (F := Ideal) c M G ![k.val, 0, 0] h (ix3 0 i o) = mats c M G k i o :=
  congrArg (M.view.read (Elt Ideal) G) (funext fun a => match a with
    | ⟨0, _⟩ => Fin.ext (show k.val + 1 * 0 = k.val by omega)
    | ⟨1, _⟩ => Fin.ext (show 0 + 1 * i.val = i.val by omega)
    | ⟨2, _⟩ => Fin.ext (show 0 + 1 * o.val = o.val by omega))

/-- A block's second hop, mixed by one of the bank's matrices. -/
theorem block_mix (Z : S4096x4096.Idx → EReal) (y : S4096x16.Idx → EReal) (k : Fin 5) (h) (b : Fin 8) (r : Fin 512) (o : Fin 16) :
    ∑ i, (∑ j, rdB (F := Ideal) Z b (ix2 r j) * y (ix2 j i)) * bank (F := Ideal) c M G ![k.val, 0, 0] h (ix3 0 i o)
      = mix (hop (m2 Z) (m2 y)) (mats c M G k) ⟨512 * b.val + r.val, by omega⟩ o :=
  Finset.sum_congr rfl fun i _ => congrArg₂ (fun p q : EReal => p * q)
    (Finset.sum_congr rfl fun j _ => congrArg (· * y (ix2 j i)) (rdB_at Z b r j)) (bank_at c M G k h i o)

/-- An array mixed by one of the bank's matrices. -/
theorem whole_mix (y : S4096x16.Idx → EReal) (k : Fin 5) (h) (n : Fin 4096) (o : Fin 16) :
    ∑ i, y (ix2 n i) * bank (F := Ideal) c M G ![k.val, 0, 0] h (ix3 0 i o) = mix (m2 y) (mats c M G k) n o :=
  Finset.sum_congr rfl fun i _ => congrArg (y (ix2 n i) * ·) (bank_at c M G k h i o)

/-- A second-hop pass: the partial sum's rows, and both second hops mixed. -/
theorem pass2 (XB Zd : S4096x4096.Idx → EReal) (Za Zb Zp : S4096x16.Idx → EReal) (n : Fin 4096) (o : Fin 16) :
    glueB (F := Ideal) (e := .f32) (pay2 c XB M Zd Za Zb Zp G) (ix2 n o)
      = Zp (ix2 n o) + mix (hop (m2 Zd) (m2 Za)) (mats c M G 2) n o + mix (hop (m2 XB) (m2 Zb)) (mats c M G 4) n o := by
  refine glueB_at (e := .f32) _ (fun n o => Zp (ix2 n o) + mix (hop (m2 Zd) (m2 Za)) (mats c M G 2) n o + mix (hop (m2 XB) (m2 Zb)) (mats c M G 4) n o) (fun b r o => ?_) n o
  unfold pay2 inB
  rw [rd16_d, rd16_u]
  pointwise [k0_pay7]
  exact congrArg₂ (fun p q : EReal => p + q) (congrArg₂ (fun p q : EReal => p + q) (rdB'_at Zp b r o) (block_mix c M G Zd Za 2 _ b r o)) (block_mix c M G XB Zb 4 _ b r o)

/-- The same with the two scratch arrays' parts exchanged. -/
theorem pass4 (XB Zd : S4096x4096.Idx → EReal) (Za Zb Zp : S4096x16.Idx → EReal) (n : Fin 4096) (o : Fin 16) :
    glueB (F := Ideal) (e := .f32) (pay4 c XB M Zd Za Zb Zp G) (ix2 n o)
      = Zp (ix2 n o) + mix (hop (m2 Zd) (m2 Zb)) (mats c M G 2) n o + mix (hop (m2 XB) (m2 Za)) (mats c M G 4) n o := by
  refine glueB_at (e := .f32) _ (fun n o => Zp (ix2 n o) + mix (hop (m2 Zd) (m2 Zb)) (mats c M G 2) n o + mix (hop (m2 XB) (m2 Za)) (mats c M G 4) n o) (fun b r o => ?_) n o
  unfold pay4 inB
  rw [rd16_d, rd16_u]
  pointwise [k0_pay10]
  exact congrArg₂ (fun p q : EReal => p + q) (congrArg₂ (fun p q : EReal => p + q) (rdB'_at Zp b r o) (block_mix c M G Zd Zb 2 _ b r o)) (block_mix c M G XB Za 4 _ b r o)

end Blocks

/-! ## The body's output -/

section Out
variable (c : Dev nD) (arg0 : Memref sig .tc .vmem S4096x16 .f32) (arg1 arg2 : Memref sig .tc .vmem S5x16x16 .f32) (arg3 : Memref sig .tc .vmem S1x16 .f32)
  (Zl Zu : S4096x4096.Idx → EReal) (X : Buf (Elt Ideal) (arg0.view.loc (c : Thread nD τ))) (G : Buf (Elt Ideal) (arg1.view.loc (c : Thread nD τ)))
  (V : Buf (Elt Ideal) (arg2.view.loc (c : Thread nD τ))) (Bv : Buf (Elt Ideal) (arg3.view.loc (c : Thread nD τ)))

/-- The features, as the buffer holds them. -/
abbrev feats : Fin 4096 → Fin 16 → EReal := m2 (arg0.view.read (Elt Ideal) X)

theorem x_at : m2 (vX (F := Ideal) c arg0 X) = feats c arg0 X := congrArg m2 (rd16_eq (F := Ideal) c arg0 X)

theorem xd_at : m2 (vXd (F := Ideal) c arg0 Zl X) = hop (m2 Zl) (feats c arg0 X) := by
  rw [← x_at]; exact hop1D c Zl (vX (F := Ideal) c arg0 X)
theorem xu_at : m2 (vXu (F := Ideal) c arg0 Zu X) = hop (m2 Zu) (feats c arg0 X) := by
  rw [← x_at]; exact hop1U c Zu (vX (F := Ideal) c arg0 X)

/-- The first filter's partial sum. -/
theorem p1_at (n : Fin 4096) (o : Fin 16) : vP1 (F := Ideal) c arg0 arg1 Zl Zu X G (ix2 n o)
    = mix (feats c arg0 X) (mats c arg1 G 0) n o + mix (hop (m2 Zl) (feats c arg0 X)) (mats c arg1 G 1) n o + mix (hop (m2 Zu) (feats c arg0 X)) (mats c arg1 G 3) n o := by
  rw [← xd_at, ← xu_at, ← x_at]
  unfold vP1
  generalize vX c arg0 X = y, vXd c arg0 Zl X = yd, vXu c arg0 Zu X = yu
  pointwise [k0_pay12]
  exact congrArg₂ (fun p q : EReal => p + q) (congrArg₂ (fun p q : EReal => p + q) (whole_mix c arg1 G y 0 _ n o) (whole_mix c arg1 G yd 1 _ n o)) (whole_mix c arg1 G yu 3 _ n o)

/-- The first filter. -/
theorem h_at : m2 (vH (F := Ideal) c arg0 arg1 Zl Zu X G) = filter (m2 Zl) (m2 Zu) (feats c arg0 X) (mats c arg1 G) := by
  funext n o
  unfold vH
  refine (pass2 c arg1 G _ _ _ _ _ n o).trans ?_
  rw [round13, round14, ldb_at, lub_at, p1_at, xd_at, xu_at]
  exact congrArg (· + _) (add_right_comm _ _ _)

theorem hd_at : m2 (vHd (F := Ideal) c arg0 arg1 Zl Zu X G) = hop (m2 Zl) (filter (m2 Zl) (m2 Zu) (feats c arg0 X) (mats c arg1 G)) := by
  rw [← h_at, vHd, hop3D, round15, ldb_at]
theorem hu_at : m2 (vHu (F := Ideal) c arg0 arg1 Zl Zu X G) = hop (m2 Zu) (filter (m2 Zl) (m2 Zu) (feats c arg0 X) (mats c arg1 G)) := by
  rw [← h_at, vHu, hop3U, round15, lub_at]

/-- The bias, as the buffer holds it. -/
abbrev bias : Fin 16 → EReal := fun o => arg3.view.read (Elt Ideal) Bv (ix2 0 o)

theorem b_at (o : Fin 16) : vB (F := Ideal) c arg3 Bv (ix2 0 o) = bias c arg3 Bv o :=
  congrFun (View.readAt_full arg3.view Bv inb_S1x16_S1x16_0_0) (ix2 0 o)

/-- The second filter's partial sum, the bias in it. -/
theorem p2_at (n : Fin 4096) (o : Fin 16) : vP2 (F := Ideal) c arg0 arg1 arg2 arg3 Zl Zu X G V Bv (ix2 n o)
    = mix (filter (m2 Zl) (m2 Zu) (feats c arg0 X) (mats c arg1 G)) (mats c arg2 V 0) n o
      + mix (hop (m2 Zl) (filter (m2 Zl) (m2 Zu) (feats c arg0 X) (mats c arg1 G))) (mats c arg2 V 1) n o
      + mix (hop (m2 Zu) (filter (m2 Zl) (m2 Zu) (feats c arg0 X) (mats c arg1 G))) (mats c arg2 V 3) n o + bias c arg3 Bv o := by
  rw [← hd_at, ← hu_at, ← h_at, ← b_at]
  unfold vP2
  generalize vH c arg0 arg1 Zl Zu X G = y, vHd c arg0 arg1 Zl Zu X G = yd, vHu c arg0 arg1 Zl Zu X G = yu, vB c arg3 Bv = yb
  pointwise [k0_pay17, k0_pay16]
  exact congrArg (fun p : EReal => p + yb (ix2 0 o)) (congrArg₂ (fun p q : EReal => p + q) (congrArg₂ (fun p q : EReal => p + q) (whole_mix c arg2 V y 0 _ n o) (whole_mix c arg2 V yd 1 _ n o)) (whole_mix c arg2 V yu 3 _ n o))

/-- The output: the second filter of the first, and the bias. -/
theorem out_at : m2 (vOut (F := Ideal) c arg0 arg1 arg2 arg3 Zl Zu X G V Bv)
    = fun n o => filter (m2 Zl) (m2 Zu) (filter (m2 Zl) (m2 Zu) (feats c arg0 X) (mats c arg1 G)) (mats c arg2 V) n o + bias c arg3 Bv o := by
  funext n o
  unfold vOut
  refine (pass4 c arg2 V _ _ _ _ _ n o).trans ?_
  rw [round18, round19, ldb_at, lub_at, p2_at, hd_at, hu_at]
  generalize filter (m2 Zl) (m2 Zu) (feats c arg0 X) (mats c arg1 G) = y
  simp only [filter]
  ac_rfl

end Out

end Cert.KernelIdeal.Hand

end
-- ==== Proof.Ideal.Result.lean ====
/-
  The kernel's result over the extended reals as a function of its arguments: what the region is handed by the host's
  own operations (the two weight arrays with their channels reordered, the second multiplied by the last layer's matrix,
  the bias as a row), and the result array, which the single grid point's block is the whole of.
-/
module

public import proofs.«01_k».proof.Proof.Ideal.Value
public import Idealize.ShloMosaic.Lib.Pipeline.ValueKit

@[expose] public section

set_option maxRecDepth 16384

noncomputable section

namespace Cert.KernelIdeal.Hand

open Cert.KernelIdeal Cert.KernelIdeal.Gen Cert.Filter
open Idealize.ShloMosaic
open Idealize.ShloMosaic.TcCoe

variable (m : (ℓ : Loc nD τ sig) → Buf (Elt Ideal) ℓ) (c : Dev nD)

/-! ## The arguments by their indices -/

abbrev argX : Fin 4096 → Fin 16 → EReal := fun n i => m ((c : Thread nD τ).loc main_arg0) (ix2 n i)
abbrev argLd : Fin 4096 → Fin 4096 → EReal := fun n k => m ((c : Thread nD τ).loc main_arg1) (ix2 n k)
abbrev argLu : Fin 4096 → Fin 4096 → EReal := fun n k => m ((c : Thread nD τ).loc main_arg2) (ix2 n k)
abbrev argW1 : Fin 5 → Fin 16 → Fin 16 → EReal := fun k i o => m ((c : Thread nD τ).loc main_arg3) (ix3 i o k)
abbrev argW2 : Fin 5 → Fin 16 → Fin 16 → EReal := fun k i o => m ((c : Thread nD τ).loc main_arg4) (ix3 i o k)
abbrev argM : Fin 16 → Fin 16 → EReal := fun p o => m ((c : Thread nD τ).loc main_arg5) (ix2 p o)
abbrev argB : Fin 16 → EReal := fun o => m ((c : Thread nD τ).loc main_arg6) (ix1 o)

/-! ## What the host's operations hand the region -/

theorem entry_v0 (k : Fin 5) (i o : Fin 16) : V m c main_v0 (ix3 k i o) = argW1 m c k i o := by
  entry_read
  pointwise

theorem entry_v2 (k : Fin 5) (i o : Fin 16) : V m c main_v2 (ix3 k i o) = fold (argW2 m c) (argM m c) k i o := by
  entry_read
  pointwise
  rfl

theorem entry_v3 (o : Fin 16) : V m c main_v3 (ix2 0 o) = argB m c o := by
  entry_read
  pointwise

/-! ## The windows' blocks are the arrays whole -/

/-- Every window's block index at the one point. -/
theorem idx : ∀ t : Fin cfg0.N, win0_0.index t = ![0, 0] ∧ win0_1.index t = ![0, 0, 0] ∧ win0_2.index t = ![0, 0, 0] ∧ win0_3.index t = ![0, 0] ∧ win0_4.index t = ![0, 0] :=
  (by decide +kernel : ∀ t : Fin grid0.N, _)

theorem iblk0 : iblk m c 0 t0_0 = m ((c : Thread nD τ).loc main_arg0) := by
  blk_ext! [iblk, V, idx t0_0]
theorem iblk1 : iblk m c 1 t0_0 = V m c main_v0 := by
  blk_ext! [iblk, idx t0_0]
theorem iblk2 : iblk m c 2 t0_0 = V m c main_v2 := by
  blk_ext! [iblk, idx t0_0]
theorem iblk3 : iblk m c 3 t0_0 = V m c main_v3 := by
  blk_ext! [iblk, idx t0_0]

/-- The result array is what the body leaves at the one point. -/
theorem arr4 : (dats m 0 c).arrAt 4 cfg0.N = outBlk m c t0_0 := by
  refine (dats m 0 c).arrAt_eq_of_after_last 4 t0_0 (by decide +kernel) _ fun j => ?_
  blk_simp
  exact congrFun (after_4 m c t0_0) j

/-- The result by its indices: two filters, the second's matrices multiplied by the last layer's, and the bias. -/
theorem result : m2 ((dats m 0 c).arrAt 4 cfg0.N)
    = fun n o => filter (argLd m c) (argLu m c) (filter (argLd m c) (argLu m c) (argX m c) (argW1 m c)) (fold (argW2 m c) (argM m c)) n o + argB m c o := by
  rw [arr4, outBlk, out_at]
  have hx : feats c (st0_0 t0_0) ((st0_0 t0_0).view.rep (iblk m c 0 t0_0)) = argX m c := by
    unfold feats; rw [View.read_rep, iblk0]
  have hw : mats c (st0_1 t0_0) ((st0_1 t0_0).view.rep (iblk m c 1 t0_0)) = argW1 m c := by
    unfold mats; rw [View.read_rep, iblk1]; funext k i o; exact entry_v0 m c k i o
  have hv : mats c (st0_2 t0_0) ((st0_2 t0_0).view.rep (iblk m c 2 t0_0)) = fold (argW2 m c) (argM m c) := by
    unfold mats; rw [View.read_rep, iblk2]; funext k i o; exact entry_v2 m c k i o
  have hb : bias c (st0_3 t0_0) ((st0_3 t0_0).view.rep (iblk m c 3 t0_0)) = argB m c := by
    unfold bias; rw [View.read_rep, iblk3]; funext o; exact entry_v3 m c o
  rw [hx, hw, hv, hb, V_main_arg1, V_main_arg2]

end Cert.KernelIdeal.Hand

end
-- ==== Proof.Ideal.Finite.lean ====
/-
  What the precondition says: each entry it names is below infinity in absolute value, so neither infinity.
-/
module

public import proofs.«01_k».proof.Pre_entries_finite
public import Idealize.ShloMosaic.Lib.Pointwise

@[expose] public section

noncomputable section

namespace Cert.Finite

open Idealize.ShloMosaic

/-- The predicate's side conditions. -/
theorem facts : Cert.Pre_entries_finite.Facts where
  bcast_S_S4096x16 := by decide
  bcast_S_S4096x4096 := by decide
  bcast_S_S16x16x5 := by decide
  bcast_S_S16x16 := by decide

/-- The word the predicate compares with is infinity. -/
theorem word_top : Ideal.ofBits .f32 0x7F800000#32 = ⊤ := by simp [Ideal.ofBits, Ideal.ieee]

/-- One array's test, passed at every index, makes each entry finite. -/
theorem of_test {s : Shape} (x : s.Idx → EReal) (y : s.Idx → EReal) (hy : ∀ i, y i = Ideal.ofBits .f32 0x7F800000#32)
    (e : cmpf (F := Ideal) (φ := .f32) .olt (Host.absf (F := Ideal) (φ := .f32) x) y = fun _ => 1#1) (i : s.Idx) : x i ≠ ⊤ ∧ x i ≠ ⊥ := by
  have h : Ideal.cmp .olt (max (x i) (-(x i))) (y i) = 1#1 := congrFun e i
  rw [hy, word_top] at h
  constructor
  · intro hx
    rw [hx] at h
    simp [Ideal.cmp] at h
  · intro hx
    rw [hx] at h
    simp [Ideal.cmp] at h

end Cert.Finite

end
-- ==== Proof.Reference.Value.lean ====
/-
  The reference's result over the extended reals as a function of its arguments: the filter of the filter, mixed by the
  last layer's matrix, and the bias.
-/
module

public import proofs.«01_k».proof.Proof.Gen.ReferenceIdeal.Read
public import proofs.«01_k».proof.Proof.Ideal.Filter
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Filter
open Idealize.ShloMosaic

/-- The filter: one contraction over channels and terms of the five terms stacked. -/
theorem filter_at (x : S4096x16.Idx → EReal) (ld lu : S4096x4096.Idx → EReal) (w : S16x16x5.Idx → EReal) (n : Fin 4096) (o : Fin 16) :
    val_main_v10 (F := Ideal) x ld lu w (ix2 n o)
      = filter (fun n k => ld (ix2 n k)) (fun n k => lu (ix2 n k)) (fun n i => x (ix2 n i)) (fun k i o => w (ix3 i o k)) n o := by
  pointwise [val_main_v10, val_main_v9, val_main_v8, val_main_v7, val_main_v6, val_main_v5, val_main_v4, val_main_v3, val_main_v2, val_main_v1, val_main_v0]
  simp only [filter, mix, hop, ← Finset.sum_add_distrib]
  refine Finset.sum_congr rfl fun i _ => ?_
  rw [Fin.sum_univ_five]
  rfl

/-- The second filter is the first's function of the first's output. -/
theorem second (x : S4096x16.Idx → EReal) (ld lu : S4096x4096.Idx → EReal) (w w' : S16x16x5.Idx → EReal) :
    val_main_v21 (F := Ideal) x ld lu w w' = val_main_v10 (F := Ideal) (val_main_v10 (F := Ideal) x ld lu w) ld lu w' := rfl

/-- The result: the filter of the filter, mixed, and the bias. -/
theorem result (x : S4096x16.Idx → EReal) (ld lu : S4096x4096.Idx → EReal) (w w' : S16x16x5.Idx → EReal) (M : S16x16.Idx → EReal) (b : S16.Idx → EReal)
    (n : Fin 4096) (o : Fin 16) :
    val_main_v25 (F := Ideal) x ld lu w w' M b (ix2 n o)
      = mix (filter (fun n k => ld (ix2 n k)) (fun n k => lu (ix2 n k))
          (filter (fun n k => ld (ix2 n k)) (fun n k => lu (ix2 n k)) (fun n i => x (ix2 n i)) (fun k i o => w (ix3 i o k))) (fun k i o => w' (ix3 i o k)))
          (fun p o => M (ix2 p o)) n o + b (ix1 o) := by
  have h : ∀ p, val_main_v21 (F := Ideal) x ld lu w w' (ix2 n p) = filter (fun n k => ld (ix2 n k)) (fun n k => lu (ix2 n k))
      (filter (fun n k => ld (ix2 n k)) (fun n k => lu (ix2 n k)) (fun n i => x (ix2 n i)) (fun k i o => w (ix3 i o k))) (fun k i o => w' (ix3 i o k)) n p := fun p => by
    rw [second, filter_at]
    congr 1
    exact funext fun n => funext fun i => filter_at x ld lu w n i
  pointwise [val_main_v25, val_main_v24, val_main_v23, val_main_v22]
  simp only [h]
  rfl

end Cert.ReferenceIdeal.Hand

end
-- ==== Proof.lean ====
/-
  The claims: the kernel's frame at both readings from its run, the reference's from its own, the idealization, which
  rewrote nothing, and the two results equal over the extended reals where the precondition holds.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Ideal.Run
public import proofs.«01_k».proof.Proof.Ideal.Result
public import proofs.«01_k».proof.Proof.Ideal.Finite
public import proofs.«01_k».proof.Proof.Reference.Value
public import proofs.«01_k».proof.Proof.Bits.Run

@[expose] public section

noncomputable section

namespace Cert.Proof

open Idealize.ShloMosaic Idealize.ShloMosaic.TcCoe Idealize.SL.Sem

/-- The reference's frame: its run, at its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Values
open Cert.KernelIdeal Cert.KernelIdeal.Gen Cert.KernelIdeal.Hand

variable (m : (ℓ : Loc nD τ sig) → Buf (Elt Ideal) ℓ)

/-- The kernel's result array is the reference's function of the same arguments, their entries finite. -/
theorem result_eq (h : @Cert.Pre_KernelIdeal_entries_finite Cert.Finite.facts m) (c : Dev nD) :
    (dats m 0 c).arrAt 4 cfg0.N
      = Cert.ReferenceIdeal.Read.val_main_v25 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  obtain ⟨h0, h1, h2, h3, h4, h5⟩ := h c
  refine m2_inj (a := 4096) (b := 16) ((result m c).trans ?_)
  funext n o
  refine Eq.trans ?_ (Cert.ReferenceIdeal.Hand.result _ _ _ _ _ _ _ n o).symm
  refine congrArg (· + argB m c o) (congrFun (congrFun (Cert.Filter.mix_filter_of_finite (argLd m c) (argLu m c) (argX m c) (argW1 m c) (argW2 m c) (argM m c) ?_ ?_ ?_ ?_ ?_ ?_) n) o).symm
  · exact fun i j => Cert.Finite.of_test _ _ (fun _ => rfl) h1 (ix2 i j)
  · exact fun i j => Cert.Finite.of_test _ _ (fun _ => rfl) h2 (ix2 i j)
  · exact fun i j => Cert.Finite.of_test _ _ (fun _ => rfl) h0 (ix2 i j)
  · exact fun k i j => Cert.Finite.of_test _ _ (fun _ => rfl) h3 (ix3 i j k)
  · exact fun k i j => Cert.Finite.of_test _ _ (fun _ => rfl) h4 (ix3 i j k)
  · exact fun i j => Cert.Finite.of_test _ _ (fun _ => rfl) h5 (ix2 i j)

end Values

/-- From memories agreeing on the arguments, finite as the precondition asks, both programs end with the same result. -/
theorem results_agree : @Cert.algebraic_KernelIdeal_ReferenceIdeal_pre_entries_finite Cert.KernelIdeal.Gen.facts Cert.ReferenceIdeal.Gen.facts Cert.Finite.facts := by
  intro m g m' g' hpre hagree
  refine ⟨fun c => (Cert.KernelIdeal.Hand.dats m 0 c).arrAt 4 Cert.KernelIdeal.cfg0.N, ?_, ?_⟩
  · exact (θ_run Cert.KernelIdeal.defs _ _).mono (fun r h c => h.1 c) (Cert.KernelIdeal.Hand.run_out m g)
  · refine (θ_run Cert.ReferenceIdeal.defs _ _).mono (fun r h c => ⟨?_, (h c).2⟩) (Cert.ReferenceIdeal.Value.run (F := Ideal) m' g')
    obtain ⟨e0, e1, e2, e3, e4, e5, e6⟩ := hagree c
    refine (h c).1.trans ((Cert.ReferenceIdeal.Read.val_main_v25_eq m' c).trans ?_)
    rw [e0, e1, e2, e3, e4, e5, e6]
    exact (result_eq m hpre c).symm

theorem claim : Cert.Claim := ⟨Cert.Kernel.Gen.facts, Cert.KernelIdeal.Gen.facts, Cert.ReferenceIdeal.Gen.facts, Cert.Finite.facts,
  fun m ρ _ => Cert.Kernel.Hand.frame m ρ,
  fun m ρ _ => Cert.KernelIdeal.Hand.frame m ρ,
  fun m ρ _ => Cert.KernelIdeal.Hand.frame m ρ,
  frame_reference,
  fun m ρ _ => frame_reference m ρ trivial,
  trivial,
  results_agree⟩

end Cert.Proof

end
